-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.bf16_pair.BufferStatement Cert.KernelIdeal.S1020x2x256 Cert.KernelIdeal.S1020x1x256
  ∧ IdealRules.bf16_pair.PackStatement Cert.KernelIdeal.S1020x256
  ∧ IdealRules.bf16_pair.Statement Cert.KernelIdeal.S1020x2x256 Cert.KernelIdeal.S1020x1x256
  ∧ IdealRules.bf16_pack.Statement Cert.KernelIdeal.S8x128
  ∧ IdealRules.bf16_pair.Statement Cert.KernelIdeal.S1x2x256 Cert.KernelIdeal.S1x1x256
  ∧ IdealRules.bf16_pair.Statement Cert.KernelIdeal.S32x256 Cert.KernelIdeal.S16x256
  ∧ IdealRules.bf16_pack.Statement Cert.KernelIdeal.S8x2176

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_v135) = v4 c
          ∧ r.2.mem ((c.tc : Thread Cert.ReferenceIdeal.nD Cert.ReferenceIdeal.τ).loc Cert.ReferenceIdeal.main_v136) = v5 c
          ∧ r.2.mem ((c.tc : Thread Cert.ReferenceIdeal.nD Cert.ReferenceIdeal.τ).loc Cert.ReferenceIdeal.main_v137) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x4096 : Shape := ⟨3, ![4, 1, 4096]⟩
abbrev S4x1x2x256 : Shape := ⟨4, ![4, 1, 2, 256]⟩
abbrev S4x2x32640x128 : Shape := ⟨4, ![4, 2, 32640, 128]⟩
abbrev S4x2x1020x256 : Shape := ⟨4, ![4, 2, 1020, 256]⟩
abbrev S4x2x32640x8 : Shape := ⟨4, ![4, 2, 32640, 8]⟩
abbrev S4x2x128x256 : Shape := ⟨4, ![4, 2, 128, 256]⟩
abbrev S256x256 : Shape := ⟨2, ![256, 256]⟩
abbrev S8x128 : Shape := ⟨2, ![8, 128]⟩
abbrev S256x128 : Shape := ⟨2, ![256, 128]⟩
abbrev S4x2x8x256 : Shape := ⟨4, ![4, 2, 8, 256]⟩
abbrev S4x2x1x256 : Shape := ⟨4, ![4, 2, 1, 256]⟩
abbrev S4x2x8x32 : Shape := ⟨4, ![4, 2, 8, 32]⟩
abbrev S4x2x1x128 : Shape := ⟨4, ![4, 2, 1, 128]⟩
abbrev S4x2x1x8 : Shape := ⟨4, ![4, 2, 1, 8]⟩
abbrev S1x1x8x256 : Shape := ⟨4, ![1, 1, 8, 256]⟩
abbrev S1x1x2176x128 : Shape := ⟨4, ![1, 1, 2176, 128]⟩
abbrev S1x1x1020x256 : Shape := ⟨4, ![1, 1, 1020, 256]⟩
abbrev S1x1x2176x8 : Shape := ⟨4, ![1, 1, 2176, 8]⟩
abbrev S1x1x128x256 : Shape := ⟨4, ![1, 1, 128, 256]⟩
abbrev S1x1x1x256 : Shape := ⟨4, ![1, 1, 1, 256]⟩
abbrev S1x1x8x32 : Shape := ⟨4, ![1, 1, 8, 32]⟩
abbrev S1x1x1x128 : Shape := ⟨4, ![1, 1, 1, 128]⟩
abbrev S1x1x1x8 : Shape := ⟨4, ![1, 1, 1, 8]⟩
abbrev S8x256 : Shape := ⟨2, ![8, 256]⟩
abbrev S1020x256 : Shape := ⟨2, ![1020, 256]⟩
abbrev S1x256 : Shape := ⟨2, ![1, 256]⟩
abbrev S1x1x32x256 : Shape := ⟨4, ![1, 1, 32, 256]⟩
abbrev S32x256 : Shape := ⟨2, ![32, 256]⟩
abbrev S256 : Shape := ⟨1, ![256]⟩
abbrev S1x128 : Shape := ⟨2, ![1, 128]⟩
abbrev S8x32 : Shape := ⟨2, ![8, 32]⟩
abbrev S8 : Shape := ⟨1, ![8]⟩
abbrev S8x1 : Shape := ⟨2, ![8, 1]⟩
abbrev S8x8 : Shape := ⟨2, ![8, 8]⟩
abbrev S1x8 : Shape := ⟨2, ![1, 8]⟩
abbrev S128x256 : Shape := ⟨2, ![128, 256]⟩
abbrev S32x128 : Shape := ⟨2, ![32, 128]⟩
abbrev S2176x128 : Shape := ⟨2, ![2176, 128]⟩
abbrev S544x128 : Shape := ⟨2, ![544, 128]⟩
abbrev S16x256 : Shape := ⟨2, ![16, 256]⟩
abbrev S2176x256 : Shape := ⟨2, ![2176, 256]⟩
abbrev S8x2176 : Shape := ⟨2, ![8, 2176]⟩
abbrev S2176x8 : Shape := ⟨2, ![2176, 8]⟩
abbrev S32x2176 : Shape := ⟨2, ![32, 2176]⟩

abbrev nBuf : Space → Nat
  | .hbm => 25
  | .vmem => 47
  | .smem => 0
  | _ => 0

abbrev bufTy : (tb : Table) → Fin (tcTables nBuf tb) → BufTy
  | .hbm, ⟨0, _⟩ => ⟨S4x1x4096, .bf16⟩
  | .hbm, ⟨1, _⟩ => ⟨S4x1x2x256, .bf16⟩
  | .hbm, ⟨2, _⟩ => ⟨S4x1x2x256, .bf16⟩
  | .hbm, ⟨3, _⟩ => ⟨S4x2x32640x128, .i8⟩
  | .hbm, ⟨4, _⟩ => ⟨S4x2x1020x256, .f32⟩
  | .hbm, ⟨5, _⟩ => ⟨S4x2x1020x256, .f32⟩
  | .hbm, ⟨6, _⟩ => ⟨S4x2x32640x128, .i8⟩
  | .hbm, ⟨7, _⟩ => ⟨S4x2x32640x8, .f32⟩
  | .hbm, ⟨8, _⟩ => ⟨S4x2x32640x8, .f32⟩
  | .hbm, ⟨9, _⟩ => ⟨S4x2x128x256, .bf16⟩
  | .hbm, ⟨10, _⟩ => ⟨S4x2x128x256, .bf16⟩
  | .hbm, ⟨11, _⟩ => ⟨S256x256, .bf16⟩
  | .hbm, ⟨12, _⟩ => ⟨S8x128, .bf16⟩
  | .hbm, ⟨13, _⟩ => ⟨S256x128, .bf16⟩
  | .hbm, ⟨14, _⟩ => ⟨S4x2x8x256, .bf16⟩
  | .hbm, ⟨15, _⟩ => ⟨S4x2x1x256, .bf16⟩
  | .hbm, ⟨16, _⟩ => ⟨S4x2x1x256, .bf16⟩
  | .hbm, ⟨17, _⟩ => ⟨S4x2x8x32, .bf16⟩
  | .hbm, ⟨18, _⟩ => ⟨S4x2x8x256, .bf16⟩
  | .hbm, ⟨19, _⟩ => ⟨S4x2x1x128, .i8⟩
  | .hbm, ⟨20, _⟩ => ⟨S4x2x1x256, .f32⟩
  | .hbm, ⟨21, _⟩ => ⟨S4x2x1x256, .f32⟩
  | .hbm, ⟨22, _⟩ => ⟨S4x2x1x128, .i8⟩
  | .hbm, ⟨23, _⟩ => ⟨S4x2x1x8, .f32⟩
  | .hbm, ⟨24, _⟩ => ⟨S4x2x1x8, .f32⟩
  | .local _ .vmem, ⟨0, _⟩ => ⟨S1x1x8x256, .bf16⟩
  | .local _ .vmem, ⟨1, _⟩ => ⟨S1x1x8x256, .bf16⟩
  | .local _ .vmem, ⟨2, _⟩ => ⟨S256x256, .bf16⟩
  | .local _ .vmem, ⟨3, _⟩ => ⟨S8x128, .bf16⟩
  | .local _ .vmem, ⟨4, _⟩ => ⟨S256x128, .bf16⟩
  | .local _ .vmem, ⟨5, _⟩ => ⟨S1x1x2176x128, .i8⟩
  | .local _ .vmem, ⟨6, _⟩ => ⟨S1x1x2176x128, .i8⟩
  | .local _ .vmem, ⟨7, _⟩ => ⟨S1x1x1020x256, .f32⟩
  | .local _ .vmem, ⟨8, _⟩ => ⟨S1x1x1020x256, .f32⟩
  | .local _ .vmem, ⟨9, _⟩ => ⟨S1x1x1020x256, .f32⟩
  | .local _ .vmem, ⟨10, _⟩ => ⟨S1x1x1020x256, .f32⟩
  | .local _ .vmem, ⟨11, _⟩ => ⟨S1x1x2176x128, .i8⟩
  | .local _ .vmem, ⟨12, _⟩ => ⟨S1x1x2176x128, .i8⟩
  | .local _ .vmem, ⟨13, _⟩ => ⟨S1x1x2176x8, .f32⟩
  | .local _ .vmem, ⟨14, _⟩ => ⟨S1x1x2176x8, .f32⟩
  | .local _ .vmem, ⟨15, _⟩ => ⟨S1x1x2176x8, .f32⟩
  | .local _ .vmem, ⟨16, _⟩ => ⟨S1x1x2176x8, .f32⟩
  | .local _ .vmem, ⟨17, _⟩ => ⟨S1x1x128x256, .bf16⟩
  | .local _ .vmem, ⟨18, _⟩ => ⟨S1x1x128x256, .bf16⟩
  | .local _ .vmem, ⟨19, _⟩ => ⟨S1x1x128x256, .bf16⟩
  | .local _ .vmem, ⟨20, _⟩ => ⟨S1x1x128x256, .bf16⟩
  | .local _ .vmem, ⟨21, _⟩ => ⟨S1x1x1x256, .bf16⟩
  | .local _ .vmem, ⟨22, _⟩ => ⟨S1x1x1x256, .bf16⟩
  | .local _ .vmem, ⟨23, _⟩ => ⟨S1x1x1x256, .bf16⟩
  | .local _ .vmem, ⟨24, _⟩ => ⟨S1x1x1x256, .bf16⟩
  | .local _ .vmem, ⟨25, _⟩ => ⟨S1x1x8x32, .bf16⟩
  | .local _ .vmem, ⟨26, _⟩ => ⟨S1x1x8x32, .bf16⟩
  | .local _ .vmem, ⟨27, _⟩ => ⟨S1x1x8x256, .bf16⟩
  | .local _ .vmem, ⟨28, _⟩ => ⟨S1x1x8x256, .bf16⟩
  | .local _ .vmem, ⟨29, _⟩ => ⟨S1x1x1x128, .i8⟩
  | .local _ .vmem, ⟨30, _⟩ => ⟨S1x1x1x128, .i8⟩
  | .local _ .vmem, ⟨31, _⟩ => ⟨S1x1x1x256, .f32⟩
  | .local _ .vmem, ⟨32, _⟩ => ⟨S1x1x1x256, .f32⟩
  | .local _ .vmem, ⟨33, _⟩ => ⟨S1x1x1x256, .f32⟩
  | .local _ .vmem, ⟨34, _⟩ => ⟨S1x1x1x256, .f32⟩
  | .local _ .vmem, ⟨35, _⟩ => ⟨S1x1x1x128, .i8⟩
  | .local _ .vmem, ⟨36, _⟩ => ⟨S1x1x1x128, .i8⟩
  | .local _ .vmem, ⟨37, _⟩ => ⟨S1x1x1x8, .f32⟩
  | .local _ .vmem, ⟨38, _⟩ => ⟨S1x1x1x8, .f32⟩
  | .local _ .vmem, ⟨39, _⟩ => ⟨S1x1x1x8, .f32⟩
  | .local _ .vmem, ⟨40, _⟩ => ⟨S1x1x1x8, .f32⟩
  | .local _ .vmem, ⟨41, _⟩ => ⟨S8x256, .bf16⟩
  | .local _ .vmem, ⟨42, _⟩ => ⟨S1020x256, .i32⟩
  | .local _ .vmem, ⟨43, _⟩ => ⟨S1020x256, .i32⟩
  | .local _ .vmem, ⟨44, _⟩ => ⟨S8x128, .f32⟩
  | .local _ .vmem, ⟨45, _⟩ => ⟨S8x128, .f32⟩
  | .local _ .vmem, ⟨46, _⟩ => ⟨S8x256, .f32⟩
  | _, _ => ⟨S4x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev main_v4_4 : Ref sig .tc := ⟨.hbm, 22, rfl⟩
abbrev main_v4_5 : Ref sig .tc := ⟨.hbm, 23, rfl⟩
abbrev main_v4_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_scratch0 : Ref sig .tc := ⟨.vmem, 41, rfl⟩
abbrev cc0_scratch1 : Ref sig .tc := ⟨.vmem, 42, rfl⟩
abbrev cc0_scratch2 : Ref sig .tc := ⟨.vmem, 43, rfl⟩
abbrev cc0_scratch3 : Ref sig .tc := ⟨.vmem, 44, rfl⟩
abbrev cc0_scratch4 : Ref sig .tc := ⟨.vmem, 45, rfl⟩
abbrev cc0_scratch5 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40

abbrev nD : Nat := 1
abbrev τ : Topo := Topo.v7x

variable {F : FTy → Type} [BitOps F]

abbrev grid0 : Pipeline.Grid := ⟨2, ![8, 15], ![false, false]⟩

def k0_off1 (i : grid0.Coords) (c0_i32_7 : BitVec 32) : Fin 2 → Nat :=
  let arg1 : BitVec 32 := BitVec.ofNat 32 (i 1).val
  let c68_i32 : BitVec 32 := 68#32
  let v17 : BitVec 32 := Scalar.muli arg1 c68_i32
  let v18 : BitVec 32 := Scalar.addi v17 c0_i32_7
  let v19 : Index := Scalar.indexCast v18
  let c0_8 : Index := 0#32
  ![v19.toNat, 0]
def k0_cond2 (i : grid0.Coords) : BitVec 1 :=
  let arg1 : BitVec 32 := BitVec.ofNat 32 (i 1).val
  let c14_i32_251 : BitVec 32 := 14#32
  let v1121 : BitVec 1 := Scalar.cmpi .eq arg1 c14_i32_251
  let v1122 : BitVec 32 := Scalar.extui v1121
  let c0_i32_252 : BitVec 32 := 0#32
  let v1123 : BitVec 1 := Scalar.cmpi .ne v1122 c0_i32_252
  v1123

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_1 : BitVec 32 := 0#32
  let v3 : BitVec 1 := Scalar.cmpi .ne v2 c0_i32_1
  v3

def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_8 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_9 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_10 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_11 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_12 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_13 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_14 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_15 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_16 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_17 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_18 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_19 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_20 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_21 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1x1x8x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2176x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1020x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1020x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2176x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2176x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2176x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x8x32 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x8x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1x128 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1x1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x1x1x128 .i8 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x1x1x8 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x1x1x8 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== KernelIdeal.lean ====
abbrev S4x1x4096 : Shape := ⟨3, ![4, 1, 4096]⟩
abbrev S4x1x2x256 : Shape := ⟨4, ![4, 1, 2, 256]⟩
abbrev S4x2x32640x128 : Shape := ⟨4, ![4, 2, 32640, 128]⟩
abbrev S4x2x1020x256 : Shape := ⟨4, ![4, 2, 1020, 256]⟩
abbrev S4x2x32640x8 : Shape := ⟨4, ![4, 2, 32640, 8]⟩
abbrev S4x2x128x256 : Shape := ⟨4, ![4, 2, 128, 256]⟩
abbrev S256x256 : Shape := ⟨2, ![256, 256]⟩
abbrev S8x128 : Shape := ⟨2, ![8, 128]⟩
abbrev S256x128 : Shape := ⟨2, ![256, 128]⟩
abbrev S4x2x8x256 : Shape := ⟨4, ![4, 2, 8, 256]⟩
abbrev S4x2x1x256 : Shape := ⟨4, ![4, 2, 1, 256]⟩
abbrev S4x2x8x32 : Shape := ⟨4, ![4, 2, 8, 32]⟩
abbrev S4x2x1x128 : Shape := ⟨4, ![4, 2, 1, 128]⟩
abbrev S4x2x1x8 : Shape := ⟨4, ![4, 2, 1, 8]⟩
abbrev S1x1x8x256 : Shape := ⟨4, ![1, 1, 8, 256]⟩
abbrev S1x1x2176x128 : Shape := ⟨4, ![1, 1, 2176, 128]⟩
abbrev S1x1x1020x256 : Shape := ⟨4, ![1, 1, 1020, 256]⟩
abbrev S1x1x2176x8 : Shape := ⟨4, ![1, 1, 2176, 8]⟩
abbrev S1x1x128x256 : Shape := ⟨4, ![1, 1, 128, 256]⟩
abbrev S1x1x1x256 : Shape := ⟨4, ![1, 1, 1, 256]⟩
abbrev S1x1x8x32 : Shape := ⟨4, ![1, 1, 8, 32]⟩
abbrev S1x1x1x128 : Shape := ⟨4, ![1, 1, 1, 128]⟩
abbrev S1x1x1x8 : Shape := ⟨4, ![1, 1, 1, 8]⟩
abbrev S8x256 : Shape := ⟨2, ![8, 256]⟩
abbrev S1020x256 : Shape := ⟨2, ![1020, 256]⟩
abbrev S1020x2x256 : Shape := ⟨3, ![1020, 2, 256]⟩
abbrev S1020x1x256 : Shape := ⟨3, ![1020, 1, 256]⟩
abbrev S1x256 : Shape := ⟨2, ![1, 256]⟩
abbrev S1x1x32x256 : Shape := ⟨4, ![1, 1, 32, 256]⟩
abbrev S32x256 : Shape := ⟨2, ![32, 256]⟩
abbrev S256 : Shape := ⟨1, ![256]⟩
abbrev S1x128 : Shape := ⟨2, ![1, 128]⟩
abbrev S8x32 : Shape := ⟨2, ![8, 32]⟩
abbrev S8 : Shape := ⟨1, ![8]⟩
abbrev S8x1 : Shape := ⟨2, ![8, 1]⟩
abbrev S8x8 : Shape := ⟨2, ![8, 8]⟩
abbrev S1x8 : Shape := ⟨2, ![1, 8]⟩
abbrev S128x256 : Shape := ⟨2, ![128, 256]⟩
abbrev S32x128 : Shape := ⟨2, ![32, 128]⟩
abbrev S2176x128 : Shape := ⟨2, ![2176, 128]⟩
abbrev S544x128 : Shape := ⟨2, ![544, 128]⟩
abbrev S1x2x256 : Shape := ⟨3, ![1, 2, 256]⟩
abbrev S1x1x256 : Shape := ⟨3, ![1, 1, 256]⟩
abbrev S16x256 : Shape := ⟨2, ![16, 256]⟩
abbrev S2176x256 : Shape := ⟨2, ![2176, 256]⟩
abbrev S8x2176 : Shape := ⟨2, ![8, 2176]⟩
abbrev S2176x8 : Shape := ⟨2, ![2176, 8]⟩
abbrev S32x2176 : Shape := ⟨2, ![32, 2176]⟩

abbrev nBuf : Space → Nat
  | .hbm => 25
  | .vmem => 47
  | .smem => 0
  | _ => 0

abbrev bufTy : (tb : Table) → Fin (tcTables nBuf tb) → BufTy
  | .hbm, ⟨0, _⟩ => ⟨S4x1x4096, .bf16⟩
  | .hbm, ⟨1, _⟩ => ⟨S4x1x2x256, .bf16⟩
  | .hbm, ⟨2, _⟩ => ⟨S4x1x2x256, .bf16⟩
  | .hbm, ⟨3, _⟩ => ⟨S4x2x32640x128, .i8⟩
  | .hbm, ⟨4, _⟩ => ⟨S4x2x1020x256, .f32⟩
  | .hbm, ⟨5, _⟩ => ⟨S4x2x1020x256, .f32⟩
  | .hbm, ⟨6, _⟩ => ⟨S4x2x32640x128, .i8⟩
  | .hbm, ⟨7, _⟩ => ⟨S4x2x32640x8, .f32⟩
  | .hbm, ⟨8, _⟩ => ⟨S4x2x32640x8, .f32⟩
  | .hbm, ⟨9, _⟩ => ⟨S4x2x128x256, .bf16⟩
  | .hbm, ⟨10, _⟩ => ⟨S4x2x128x256, .bf16⟩
  | .hbm, ⟨11, _⟩ => ⟨S256x256, .bf16⟩
  | .hbm, ⟨12, _⟩ => ⟨S8x128, .bf16⟩
  | .hbm, ⟨13, _⟩ => ⟨S256x128, .bf16⟩
  | .hbm, ⟨14, _⟩ => ⟨S4x2x8x256, .bf16⟩
  | .hbm, ⟨15, _⟩ => ⟨S4x2x1x256, .bf16⟩
  | .hbm, ⟨16, _⟩ => ⟨S4x2x1x256, .bf16⟩
  | .hbm, ⟨17, _⟩ => ⟨S4x2x8x32, .bf16⟩
  | .hbm, ⟨18, _⟩ => ⟨S4x2x8x256, .bf16⟩
  | .hbm, ⟨19, _⟩ => ⟨S4x2x1x128, .i8⟩
  | .hbm, ⟨20, _⟩ => ⟨S4x2x1x256, .f32⟩
  | .hbm, ⟨21, _⟩ => ⟨S4x2x1x256, .f32⟩
  | .hbm, ⟨22, _⟩ => ⟨S4x2x1x128, .i8⟩
  | .hbm, ⟨23, _⟩ => ⟨S4x2x1x8, .f32⟩
  | .hbm, ⟨24, _⟩ => ⟨S4x2x1x8, .f32⟩
  | .local _ .vmem, ⟨0, _⟩ => ⟨S1x1x8x256, .bf16⟩
  | .local _ .vmem, ⟨1, _⟩ => ⟨S1x1x8x256, .bf16⟩
  | .local _ .vmem, ⟨2, _⟩ => ⟨S256x256, .bf16⟩
  | .local _ .vmem, ⟨3, _⟩ => ⟨S8x128, .bf16⟩
  | .local _ .vmem, ⟨4, _⟩ => ⟨S256x128, .bf16⟩
  | .local _ .vmem, ⟨5, _⟩ => ⟨S1x1x2176x128, .i8⟩
  | .local _ .vmem, ⟨6, _⟩ => ⟨S1x1x2176x128, .i8⟩
  | .local _ .vmem, ⟨7, _⟩ => ⟨S1x1x1020x256, .f32⟩
  | .local _ .vmem, ⟨8, _⟩ => ⟨S1x1x1020x256, .f32⟩
  | .local _ .vmem, ⟨9, _⟩ => ⟨S1x1x1020x256, .f32⟩
  | .local _ .vmem, ⟨10, _⟩ => ⟨S1x1x1020x256, .f32⟩
  | .local _ .vmem, ⟨11, _⟩ => ⟨S1x1x2176x128, .i8⟩
  | .local _ .vmem, ⟨12, _⟩ => ⟨S1x1x2176x128, .i8⟩
  | .local _ .vmem, ⟨13, _⟩ => ⟨S1x1x2176x8, .f32⟩
  | .local _ .vmem, ⟨14, _⟩ => ⟨S1x1x2176x8, .f32⟩
  | .local _ .vmem, ⟨15, _⟩ => ⟨S1x1x2176x8, .f32⟩
  | .local _ .vmem, ⟨16, _⟩ => ⟨S1x1x2176x8, .f32⟩
  | .local _ .vmem, ⟨17, _⟩ => ⟨S1x1x128x256, .bf16⟩
  | .local _ .vmem, ⟨18, _⟩ => ⟨S1x1x128x256, .bf16⟩
  | .local _ .vmem, ⟨19, _⟩ => ⟨S1x1x128x256, .bf16⟩
  | .local _ .vmem, ⟨20, _⟩ => ⟨S1x1x128x256, .bf16⟩
  | .local _ .vmem, ⟨21, _⟩ => ⟨S1x1x1x256, .bf16⟩
  | .local _ .vmem, ⟨22, _⟩ => ⟨S1x1x1x256, .bf16⟩
  | .local _ .vmem, ⟨23, _⟩ => ⟨S1x1x1x256, .bf16⟩
  | .local _ .vmem, ⟨24, _⟩ => ⟨S1x1x1x256, .bf16⟩
  | .local _ .vmem, ⟨25, _⟩ => ⟨S1x1x8x32, .bf16⟩
  | .local _ .vmem, ⟨26, _⟩ => ⟨S1x1x8x32, .bf16⟩
  | .local _ .vmem, ⟨27, _⟩ => ⟨S1x1x8x256, .bf16⟩
  | .local _ .vmem, ⟨28, _⟩ => ⟨S1x1x8x256, .bf16⟩
  | .local _ .vmem, ⟨29, _⟩ => ⟨S1x1x1x128, .i8⟩
  | .local _ .vmem, ⟨30, _⟩ => ⟨S1x1x1x128, .i8⟩
  | .local _ .vmem, ⟨31, _⟩ => ⟨S1x1x1x256, .f32⟩
  | .local _ .vmem, ⟨32, _⟩ => ⟨S1x1x1x256, .f32⟩
  | .local _ .vmem, ⟨33, _⟩ => ⟨S1x1x1x256, .f32⟩
  | .local _ .vmem, ⟨34, _⟩ => ⟨S1x1x1x256, .f32⟩
  | .local _ .vmem, ⟨35, _⟩ => ⟨S1x1x1x128, .i8⟩
  | .local _ .vmem, ⟨36, _⟩ => ⟨S1x1x1x128, .i8⟩
  | .local _ .vmem, ⟨37, _⟩ => ⟨S1x1x1x8, .f32⟩
  | .local _ .vmem, ⟨38, _⟩ => ⟨S1x1x1x8, .f32⟩
  | .local _ .vmem, ⟨39, _⟩ => ⟨S1x1x1x8, .f32⟩
  | .local _ .vmem, ⟨40, _⟩ => ⟨S1x1x1x8, .f32⟩
  | .local _ .vmem, ⟨41, _⟩ => ⟨S8x256, .bf16⟩
  | .local _ .vmem, ⟨42, _⟩ => ⟨S1020x2x256, .bf16⟩
  | .local _ .vmem, ⟨43, _⟩ => ⟨S1020x2x256, .bf16⟩
  | .local _ .vmem, ⟨44, _⟩ => ⟨S8x128, .f32⟩
  | .local _ .vmem, ⟨45, _⟩ => ⟨S8x128, .f32⟩
  | .local _ .vmem, ⟨46, _⟩ => ⟨S8x256, .f32⟩
  | _, _ => ⟨S4x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev main_v4_4 : Ref sig .tc := ⟨.hbm, 22, rfl⟩
abbrev main_v4_5 : Ref sig .tc := ⟨.hbm, 23, rfl⟩
abbrev main_v4_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_scratch0 : Ref sig .tc := ⟨.vmem, 41, rfl⟩
abbrev cc0_scratch1 : Ref sig .tc := ⟨.vmem, 42, rfl⟩
abbrev cc0_scratch2 : Ref sig .tc := ⟨.vmem, 43, rfl⟩
abbrev cc0_scratch3 : Ref sig .tc := ⟨.vmem, 44, rfl⟩
abbrev cc0_scratch4 : Ref sig .tc := ⟨.vmem, 45, rfl⟩
abbrev cc0_scratch5 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40

abbrev nD : Nat := 1
abbrev τ : Topo := Topo.v7x

variable {F : FTy → Type} [FloatOps F]

abbrev grid0 : Pipeline.Grid := ⟨2, ![8, 15], ![false, false]⟩

def k0_off1 (i : grid0.Coords) (c0_i32_7 : BitVec 32) : Fin 3 → Nat :=
  let arg1 : BitVec 32 := BitVec.ofNat 32 (i 1).val
  let c68_i32 : BitVec 32 := 68#32
  let v17 : BitVec 32 := Scalar.muli arg1 c68_i32
  let v18 : BitVec 32 := Scalar.addi v17 c0_i32_7
  let v19 : Index := Scalar.indexCast v18
  let c0_8 : Index := 0#32
  ![v19.toNat, 0, 0]
def k0_cond2 (i : grid0.Coords) : BitVec 1 :=
  let arg1 : BitVec 32 := BitVec.ofNat 32 (i 1).val
  let c14_i32_251 : BitVec 32 := 14#32
  let v1121 : BitVec 1 := Scalar.cmpi .eq arg1 c14_i32_251
  let v1122 : BitVec 32 := Scalar.extui v1121
  let c0_i32_252 : BitVec 32 := 0#32
  let v1123 : BitVec 1 := Scalar.cmpi .ne v1122 c0_i32_252
  v1123

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_1 : BitVec 32 := 0#32
  let v3 : BitVec 1 := Scalar.cmpi .ne v2 c0_i32_1
  v3

def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_8 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_9 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_10 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_11 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_12 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_13 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_14 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_15 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_16 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_17 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_18 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_19 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_20 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_21 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1x1x8x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2176x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1020x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1020x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2176x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2176x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2176x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x8x32 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x8x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1x128 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1x1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x1x1x128 .i8 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x1x1x8 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x1x1x8 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== ReferenceIdeal.lean ====
abbrev S4x1x4096 : Shape := ⟨3, ![4, 1, 4096]⟩
abbrev S4x1x2x256 : Shape := ⟨4, ![4, 1, 2, 256]⟩
abbrev S4x2x32640x128 : Shape := ⟨4, ![4, 2, 32640, 128]⟩
abbrev S4x2x1020x256 : Shape := ⟨4, ![4, 2, 1020, 256]⟩
abbrev S4x2x32640x8 : Shape := ⟨4, ![4, 2, 32640, 8]⟩
abbrev S4x2x128x256 : Shape := ⟨4, ![4, 2, 128, 256]⟩
abbrev S4x2x8x256 : Shape := ⟨4, ![4, 2, 8, 256]⟩
abbrev S4x2x1x256 : Shape := ⟨4, ![4, 2, 1, 256]⟩
abbrev S4x2x31x256 : Shape := ⟨4, ![4, 2, 31, 256]⟩
abbrev S4x2x32x256 : Shape := ⟨4, ![4, 2, 32, 256]⟩
abbrev S_ : Shape := ⟨0, ![]⟩
abbrev S4x2x256 : Shape := ⟨3, ![4, 2, 256]⟩
abbrev S4x2x1x8x32 : Shape := ⟨5, ![4, 2, 1, 8, 32]⟩
abbrev S4x2x1x8 : Shape := ⟨4, ![4, 2, 1, 8]⟩
abbrev S4x2x1x8x1 : Shape := ⟨5, ![4, 2, 1, 8, 1]⟩
abbrev S4x2x32640x128x1 : Shape := ⟨5, ![4, 2, 32640, 128, 1]⟩
abbrev S4x2x32640x128x2 : Shape := ⟨5, ![4, 2, 32640, 128, 2]⟩
abbrev S4x2x32640x256 : Shape := ⟨4, ![4, 2, 32640, 256]⟩
abbrev S4x2x1020x32x256 : Shape := ⟨5, ![4, 2, 1020, 32, 256]⟩
abbrev S4x2x1020x1x256 : Shape := ⟨5, ![4, 2, 1020, 1, 256]⟩
abbrev S4x2x32640x8x32 : Shape := ⟨5, ![4, 2, 32640, 8, 32]⟩
abbrev S4x2x32640x8x1 : Shape := ⟨5, ![4, 2, 32640, 8, 1]⟩
abbrev S4x2x32769x256 : Shape := ⟨4, ![4, 2, 32769, 256]⟩
abbrev S4x2x8x32769 : Shape := ⟨4, ![4, 2, 8, 32769]⟩
abbrev S32769 : Shape := ⟨1, ![32769]⟩
abbrev S4x2x8 : Shape := ⟨3, ![4, 2, 8]⟩
abbrev S4x2x8x1 : Shape := ⟨4, ![4, 2, 8, 1]⟩
abbrev S4x2x1x128x2 : Shape := ⟨5, ![4, 2, 1, 128, 2]⟩
abbrev S4x2x1x128x1 : Shape := ⟨5, ![4, 2, 1, 128, 1]⟩
abbrev S4x2x1x128 : Shape := ⟨4, ![4, 2, 1, 128]⟩

abbrev nBuf : Space → Nat
  | .hbm => 191
  | .vmem => 0
  | .smem => 0
  | _ => 0

abbrev hbmTy0_0 (i : Nat) : BufTy := match i % 128 with
  | 0 => ⟨S4x1x4096, .bf16⟩
  | 1 => ⟨S4x1x2x256, .bf16⟩
  | 2 => ⟨S4x1x2x256, .bf16⟩
  | 3 => ⟨S4x2x32640x128, .i8⟩
  | 4 => ⟨S4x2x1020x256, .f32⟩
  | 5 => ⟨S4x2x1020x256, .f32⟩
  | 6 => ⟨S4x2x32640x128, .i8⟩
  | 7 => ⟨S4x2x32640x8, .f32⟩
  | 8 => ⟨S4x2x32640x8, .f32⟩
  | 9 => ⟨S4x2x128x256, .bf16⟩
  | 10 => ⟨S4x2x128x256, .bf16⟩
  | 11 => ⟨S4x2x8x256, .bf16⟩
  | 12 => ⟨S4x2x1x256, .bf16⟩
  | 13 => ⟨S4x2x1x256, .bf16⟩
  | 14 => ⟨S4x2x31x256, .bf16⟩
  | 15 => ⟨S4x2x32x256, .bf16⟩
  | 16 => ⟨S4x2x32x256, .f32⟩
  | 17 => ⟨S_, .f32⟩
  | 18 => ⟨S4x2x256, .f32⟩
  | 19 => ⟨S4x2x1x256, .f32⟩
  | 20 => ⟨S4x2x1x256, .f32⟩
  | 21 => ⟨S_, .f32⟩
  | 22 => ⟨S4x2x256, .f32⟩
  | 23 => ⟨S4x2x1x256, .f32⟩
  | 24 => ⟨S4x2x1x256, .f32⟩
  | 25 => ⟨S_, .f32⟩
  | 26 => ⟨S4x2x1x256, .f32⟩
  | 27 => ⟨S4x2x1x256, .i1⟩
  | 28 => ⟨S_, .f32⟩
  | 29 => ⟨S4x2x1x256, .f32⟩
  | 30 => ⟨S4x2x1x256, .f32⟩
  | 31 => ⟨S_, .f32⟩
  | 32 => ⟨S_, .f32⟩
  | 33 => ⟨S4x2x1x256, .f32⟩
  | 34 => ⟨S4x2x1x256, .f32⟩
  | 35 => ⟨S4x2x1x256, .f32⟩
  | 36 => ⟨S4x2x1x256, .f32⟩
  | 37 => ⟨S4x2x1x256, .f32⟩
  | 38 => ⟨S_, .f32⟩
  | 39 => ⟨S_, .f32⟩
  | 40 => ⟨S_, .f32⟩
  | 41 => ⟨S4x2x1x256, .f32⟩
  | 42 => ⟨S4x2x1x256, .f32⟩
  | 43 => ⟨S_, .f32⟩
  | 44 => ⟨S4x2x1x256, .f32⟩
  | 45 => ⟨S4x2x1x256, .f32⟩
  | 46 => ⟨S4x2x1x256, .bf16⟩
  | 47 => ⟨S4x2x1x256, .bf16⟩
  | 48 => ⟨S4x2x1x256, .bf16⟩
  | 49 => ⟨S4x2x1x256, .bf16⟩
  | 50 => ⟨S4x2x1x256, .bf16⟩
  | 51 => ⟨S4x2x1x256, .f32⟩
  | 52 => ⟨S4x2x1x8x32, .f32⟩
  | 53 => ⟨S_, .f32⟩
  | 54 => ⟨S4x2x1x8, .f32⟩
  | 55 => ⟨S4x2x1x8x1, .f32⟩
  | 56 => ⟨S_, .f32⟩
  | 57 => ⟨S4x2x1x8, .f32⟩
  | 58 => ⟨S4x2x1x8x1, .f32⟩
  | 59 => ⟨S4x2x1x8x1, .f32⟩
  | 60 => ⟨S_, .f32⟩
  | 61 => ⟨S4x2x1x8x1, .f32⟩
  | 62 => ⟨S4x2x1x8x1, .i1⟩
  | 63 => ⟨S_, .f32⟩
  | 64 => ⟨S4x2x1x8x1, .f32⟩
  | 65 => ⟨S4x2x1x8x1, .f32⟩
  | 66 => ⟨S_, .f32⟩
  | 67 => ⟨S_, .f32⟩
  | 68 => ⟨S4x2x1x8x1, .f32⟩
  | 69 => ⟨S4x2x1x8x1, .f32⟩
  | 70 => ⟨S4x2x1x8x32, .f32⟩
  | 71 => ⟨S4x2x1x8x32, .f32⟩
  | 72 => ⟨S4x2x1x8x32, .f32⟩
  | 73 => ⟨S4x2x1x8x32, .f32⟩
  | 74 => ⟨S4x2x1x8x32, .f32⟩
  | 75 => ⟨S_, .f32⟩
  | 76 => ⟨S_, .f32⟩
  | 77 => ⟨S_, .f32⟩
  | 78 => ⟨S4x2x1x8x32, .f32⟩
  | 79 => ⟨S4x2x1x8x32, .f32⟩
  | 80 => ⟨S_, .f32⟩
  | 81 => ⟨S4x2x1x8x32, .f32⟩
  | 82 => ⟨S4x2x1x8x32, .f32⟩
  | 83 => ⟨S4x2x1x8x32, .bf16⟩
  | 84 => ⟨S4x2x1x8x1, .bf16⟩
  | 85 => ⟨S4x2x1x8x32, .bf16⟩
  | 86 => ⟨S4x2x1x8x32, .bf16⟩
  | 87 => ⟨S4x2x1x8x1, .bf16⟩
  | 88 => ⟨S4x2x1x8x32, .bf16⟩
  | 89 => ⟨S4x2x1x8x32, .bf16⟩
  | 90 => ⟨S4x2x1x256, .bf16⟩
  | 91 => ⟨S4x2x32640x128, .i32⟩
  | 92 => ⟨S_, .i32⟩
  | 93 => ⟨S4x2x32640x128, .i32⟩
  | 94 => ⟨S4x2x32640x128, .i32⟩
  | 95 => ⟨S_, .i32⟩
  | 96 => ⟨S4x2x32640x128, .i32⟩
  | 97 => ⟨S4x2x32640x128, .i32⟩
  | 98 => ⟨S4x2x32640x128x1, .i32⟩
  | 99 => ⟨S4x2x32640x128x1, .i32⟩
  | 100 => ⟨S4x2x32640x128x2, .i32⟩
  | 101 => ⟨S4x2x32640x256, .i32⟩
  | 102 => ⟨S4x2x32640x256, .f32⟩
  | 103 => ⟨S4x2x1020x32x256, .f32⟩
  | 104 => ⟨S4x2x1020x1x256, .f32⟩
  | 105 => ⟨S4x2x1020x1x256, .f32⟩
  | 106 => ⟨S4x2x1020x32x256, .bf16⟩
  | 107 => ⟨S4x2x1020x1x256, .bf16⟩
  | 108 => ⟨S4x2x1020x32x256, .bf16⟩
  | 109 => ⟨S4x2x1020x32x256, .bf16⟩
  | 110 => ⟨S4x2x1020x1x256, .bf16⟩
  | 111 => ⟨S4x2x1020x32x256, .bf16⟩
  | 112 => ⟨S4x2x1020x32x256, .bf16⟩
  | 113 => ⟨S4x2x32640x256, .bf16⟩
  | 114 => ⟨S4x2x32640x128, .i32⟩
  | 115 => ⟨S_, .i32⟩
  | 116 => ⟨S4x2x32640x128, .i32⟩
  | 117 => ⟨S4x2x32640x128, .i32⟩
  | 118 => ⟨S_, .i32⟩
  | 119 => ⟨S4x2x32640x128, .i32⟩
  | 120 => ⟨S4x2x32640x128, .i32⟩
  | 121 => ⟨S4x2x32640x128x1, .i32⟩
  | 122 => ⟨S4x2x32640x128x1, .i32⟩
  | 123 => ⟨S4x2x32640x128x2, .i32⟩
  | 124 => ⟨S4x2x32640x256, .i32⟩
  | 125 => ⟨S4x2x32640x256, .f32⟩
  | 126 => ⟨S4x2x32640x8x32, .f32⟩
  | 127 => ⟨S4x2x32640x8x1, .f32⟩
  | _ => ⟨S4x1x4096, .bf16⟩

abbrev hbmTy0_1 (i : Nat) : BufTy := match i % 128 with
  | 0 => ⟨S4x2x32640x8x1, .f32⟩
  | 1 => ⟨S4x2x32640x8x32, .bf16⟩
  | 2 => ⟨S4x2x32640x8x1, .bf16⟩
  | 3 => ⟨S4x2x32640x8x32, .bf16⟩
  | 4 => ⟨S4x2x32640x8x32, .bf16⟩
  | 5 => ⟨S4x2x32640x8x1, .bf16⟩
  | 6 => ⟨S4x2x32640x8x32, .bf16⟩
  | 7 => ⟨S4x2x32640x8x32, .bf16⟩
  | 8 => ⟨S4x2x32640x256, .bf16⟩
  | 9 => ⟨S4x2x32769x256, .bf16⟩
  | 10 => ⟨S4x2x32769x256, .bf16⟩
  | 11 => ⟨S4x2x8x32769, .f32⟩
  | 12 => ⟨S_, .f32⟩
  | 13 => ⟨S4x2x8x32769, .f32⟩
  | 14 => ⟨S4x2x8x32769, .f32⟩
  | 15 => ⟨S32769, .i32⟩
  | 16 => ⟨S_, .i32⟩
  | 17 => ⟨S32769, .i32⟩
  | 18 => ⟨S32769, .i1⟩
  | 19 => ⟨S_, .f32⟩
  | 20 => ⟨S_, .f32⟩
  | 21 => ⟨S4x2x8x32769, .i1⟩
  | 22 => ⟨S4x2x8x32769, .f32⟩
  | 23 => ⟨S4x2x8x32769, .f32⟩
  | 24 => ⟨S_, .f32⟩
  | 25 => ⟨S4x2x8, .f32⟩
  | 26 => ⟨S4x2x8x1, .f32⟩
  | 27 => ⟨S4x2x8x32769, .f32⟩
  | 28 => ⟨S4x2x8x32769, .f32⟩
  | 29 => ⟨S4x2x8x32769, .f32⟩
  | 30 => ⟨S4x2x32769x256, .f32⟩
  | 31 => ⟨S4x2x8x256, .f32⟩
  | 32 => ⟨S_, .f32⟩
  | 33 => ⟨S4x2x8, .f32⟩
  | 34 => ⟨S4x2x8x1, .f32⟩
  | 35 => ⟨S4x2x8x256, .f32⟩
  | 36 => ⟨S4x2x8x256, .f32⟩
  | 37 => ⟨S4x2x8x256, .bf16⟩
  | 38 => ⟨S4x2x1x256, .i32⟩
  | 39 => ⟨S4x2x1x128x2, .i32⟩
  | 40 => ⟨S4x2x1x128x1, .i32⟩
  | 41 => ⟨S4x2x1x128, .i32⟩
  | 42 => ⟨S4x2x1x128x1, .i32⟩
  | 43 => ⟨S4x2x1x128, .i32⟩
  | 44 => ⟨S_, .i32⟩
  | 45 => ⟨S4x2x1x128, .i32⟩
  | 46 => ⟨S4x2x1x128, .i32⟩
  | 47 => ⟨S4x2x1x128, .i32⟩
  | 48 => ⟨S4x2x1x128, .i8⟩
  | 49 => ⟨S4x2x1x256, .f32⟩
  | 50 => ⟨S4x2x1x256, .i32⟩
  | 51 => ⟨S4x2x1x128x2, .i32⟩
  | 52 => ⟨S4x2x1x128x1, .i32⟩
  | 53 => ⟨S4x2x1x128, .i32⟩
  | 54 => ⟨S4x2x1x128x1, .i32⟩
  | 55 => ⟨S4x2x1x128, .i32⟩
  | 56 => ⟨S_, .i32⟩
  | 57 => ⟨S4x2x1x128, .i32⟩
  | 58 => ⟨S4x2x1x128, .i32⟩
  | 59 => ⟨S4x2x1x128, .i32⟩
  | 60 => ⟨S4x2x1x128, .i8⟩
  | 61 => ⟨S4x2x1x8, .f32⟩
  | 62 => ⟨S4x2x1x8, .f32⟩
  | _ => ⟨S4x1x4096, .bf16⟩

abbrev hbmTy (i : Nat) : BufTy := match i / 128 with
  | 0 => hbmTy0_0 i
  | 1 => hbmTy0_1 i
  | _ => ⟨S4x1x4096, .bf16⟩

abbrev bufTy : (tb : Table) → Fin (tcTables nBuf tb) → BufTy
  | .hbm, ⟨i, _⟩ => hbmTy i
  | _, _ => ⟨S4x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_cst_5 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_cst_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_8 : Ref sig .tc := ⟨.hbm, 60, rfl⟩
abbrev main_v33 : Ref sig .tc := ⟨.hbm, 61, rfl⟩
abbrev main_v34 : Ref sig .tc := ⟨.hbm, 62, rfl⟩
abbrev main_cst_9 : Ref sig .tc := ⟨.hbm, 63, rfl⟩
abbrev main_v35 : Ref sig .tc := ⟨.hbm, 64, rfl⟩
abbrev main_v36 : Ref sig .tc := ⟨.hbm, 65, rfl⟩
abbrev main_cst_10 : Ref sig .tc := ⟨.hbm, 66, rfl⟩
abbrev main_call3_v0 : Ref sig .tc := ⟨.hbm, 67, rfl⟩
abbrev main_call3_v1 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_11 : Ref sig .tc := ⟨.hbm, 75, rfl⟩
abbrev main_cst_12 : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_c : Ref sig .tc := ⟨.hbm, 92, rfl⟩
abbrev main_v53 : Ref sig .tc := ⟨.hbm, 93, rfl⟩
abbrev main_v54 : Ref sig .tc := ⟨.hbm, 94, rfl⟩
abbrev main_c_13 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_14 : Ref sig .tc := ⟨.hbm, 115, rfl⟩
abbrev main_v74 : Ref sig .tc := ⟨.hbm, 116, rfl⟩
abbrev main_v75 : Ref sig .tc := ⟨.hbm, 117, rfl⟩
abbrev main_c_15 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_16 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_c_17 : Ref sig .tc := ⟨.hbm, 144, rfl⟩
abbrev main_v100 : Ref sig .tc := ⟨.hbm, 145, rfl⟩
abbrev main_v101 : Ref sig .tc := ⟨.hbm, 146, rfl⟩
abbrev main_cst_18 : Ref sig .tc := ⟨.hbm, 147, rfl⟩
abbrev main_call6_v0 : Ref sig .tc := ⟨.hbm, 148, rfl⟩
abbrev main_call6_v1 : Ref sig .tc := ⟨.hbm, 149, rfl⟩
abbrev main_call6_v2 : Ref sig .tc := ⟨.hbm, 150, rfl⟩
abbrev main_v102 : Ref sig .tc := ⟨.hbm, 151, rfl⟩
abbrev main_cst_19 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_20 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_c_21 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_c_22 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩

abbrev nD : Nat := 1
abbrev τ : Topo := Topo.v7x

variable {F : FTy → Type} [FloatOps F]
-- ==== Proof.KOff.lean ====
/- The 68 rows of a block's scale and zero tables are read at literal row numbers: each offset in closed form. -/
module

public import proofs.«01_k».proof.Proof.Gen.Kernel

@[expose] public section

namespace Cert.Kernel.Hand

open Cert.Kernel.Gen
open Idealize.ShloMosaic Idealize.SL.Sem

instance closedOff_k0_off1_0 (i : grid0.Coords) : ClosedOff (k0_off1 i (BitVec.ofNat 32 0)) := ⟨![68 * (i 1).val + 0, 0], k0_off1_eq i ⟨0, by decide⟩⟩
instance closedOff_k0_off1_1 (i : grid0.Coords) : ClosedOff (k0_off1 i (BitVec.ofNat 32 1)) := ⟨![68 * (i 1).val + 1, 0], k0_off1_eq i ⟨1, by decide⟩⟩
instance closedOff_k0_off1_2 (i : grid0.Coords) : ClosedOff (k0_off1 i (BitVec.ofNat 32 2)) := ⟨![68 * (i 1).val + 2, 0], k0_off1_eq i ⟨2, by decide⟩⟩
instance closedOff_k0_off1_3 (i : grid0.Coords) : ClosedOff (k0_off1 i (BitVec.ofNat 32 3)) := ⟨![68 * (i 1).val + 3, 0], k0_off1_eq i ⟨3, by decide⟩⟩
instance closedOff_k0_off1_4 (i : grid0.Coords) : ClosedOff (k0_off1 i (BitVec.ofNat 32 4)) := ⟨![68 * (i 1).val + 4, 0], k0_off1_eq i ⟨4, by decide⟩⟩
instance closedOff_k0_off1_5 (i : grid0.Coords) : ClosedOff (k0_off1 i (BitVec.ofNat 32 5)) := ⟨![68 * (i 1).val + 5, 0], k0_off1_eq i ⟨5, by decide⟩⟩
instance closedOff_k0_off1_6 (i : grid0.Coords) : ClosedOff (k0_off1 i (BitVec.ofNat 32 6)) := ⟨![68 * (i 1).val + 6, 0], k0_off1_eq i ⟨6, by decide⟩⟩
instance closedOff_k0_off1_7 (i : grid0.Coords) : ClosedOff (k0_off1 i (BitVec.ofNat 32 7)) := ⟨![68 * (i 1).val + 7, 0], k0_off1_eq i ⟨7, by decide⟩⟩
instance closedOff_k0_off1_8 (i : grid0.Coords) : ClosedOff (k0_off1 i (BitVec.ofNat 32 8)) := ⟨![68 * (i 1).val + 8, 0], k0_off1_eq i ⟨8, by decide⟩⟩
instance closedOff_k0_off1_9 (i : grid0.Coords) : ClosedOff (k0_off1 i (BitVec.ofNat 32 9)) := ⟨![68 * (i 1).val + 9, 0], k0_off1_eq i ⟨9, by decide⟩⟩
instance closedOff_k0_off1_10 (i : grid0.Coords) : ClosedOff (k0_off1 i (BitVec.ofNat 32 10)) := ⟨![68 * (i 1).val + 10, 0], k0_off1_eq i ⟨10, by decide⟩⟩
instance closedOff_k0_off1_11 (i : grid0.Coords) : ClosedOff (k0_off1 i (BitVec.ofNat 32 11)) := ⟨![68 * (i 1).val + 11, 0], k0_off1_eq i ⟨11, by decide⟩⟩
instance closedOff_k0_off1_12 (i : grid0.Coords) : ClosedOff (k0_off1 i (BitVec.ofNat 32 12)) := ⟨![68 * (i 1).val + 12, 0], k0_off1_eq i ⟨12, by decide⟩⟩
instance closedOff_k0_off1_13 (i : grid0.Coords) : ClosedOff (k0_off1 i (BitVec.ofNat 32 13)) := ⟨![68 * (i 1).val + 13, 0], k0_off1_eq i ⟨13, by decide⟩⟩
instance closedOff_k0_off1_14 (i : grid0.Coords) : ClosedOff (k0_off1 i (BitVec.ofNat 32 14)) := ⟨![68 * (i 1).val + 14, 0], k0_off1_eq i ⟨14, by decide⟩⟩
instance closedOff_k0_off1_15 (i : grid0.Coords) : ClosedOff (k0_off1 i (BitVec.ofNat 32 15)) := ⟨![68 * (i 1).val + 15, 0], k0_off1_eq i ⟨15, by decide⟩⟩
instance closedOff_k0_off1_16 (i : grid0.Coords) : ClosedOff (k0_off1 i (BitVec.ofNat 32 16)) := ⟨![68 * (i 1).val + 16, 0], k0_off1_eq i ⟨16, by decide⟩⟩
instance closedOff_k0_off1_17 (i : grid0.Coords) : ClosedOff (k0_off1 i (BitVec.ofNat 32 17)) := ⟨![68 * (i 1).val + 17, 0], k0_off1_eq i ⟨17, by decide⟩⟩
instance closedOff_k0_off1_18 (i : grid0.Coords) : ClosedOff (k0_off1 i (BitVec.ofNat 32 18)) := ⟨![68 * (i 1).val + 18, 0], k0_off1_eq i ⟨18, by decide⟩⟩
instance closedOff_k0_off1_19 (i : grid0.Coords) : ClosedOff (k0_off1 i (BitVec.ofNat 32 19)) := ⟨![68 * (i 1).val + 19, 0], k0_off1_eq i ⟨19, by decide⟩⟩
instance closedOff_k0_off1_20 (i : grid0.Coords) : ClosedOff (k0_off1 i (BitVec.ofNat 32 20)) := ⟨![68 * (i 1).val + 20, 0], k0_off1_eq i ⟨20, by decide⟩⟩
instance closedOff_k0_off1_21 (i : grid0.Coords) : ClosedOff (k0_off1 i (BitVec.ofNat 32 21)) := ⟨![68 * (i 1).val + 21, 0], k0_off1_eq i ⟨21, by decide⟩⟩
instance closedOff_k0_off1_22 (i : grid0.Coords) : ClosedOff (k0_off1 i (BitVec.ofNat 32 22)) := ⟨![68 * (i 1).val + 22, 0], k0_off1_eq i ⟨22, by decide⟩⟩
instance closedOff_k0_off1_23 (i : grid0.Coords) : ClosedOff (k0_off1 i (BitVec.ofNat 32 23)) := ⟨![68 * (i 1).val + 23, 0], k0_off1_eq i ⟨23, by decide⟩⟩
instance closedOff_k0_off1_24 (i : grid0.Coords) : ClosedOff (k0_off1 i (BitVec.ofNat 32 24)) := ⟨![68 * (i 1).val + 24, 0], k0_off1_eq i ⟨24, by decide⟩⟩
instance closedOff_k0_off1_25 (i : grid0.Coords) : ClosedOff (k0_off1 i (BitVec.ofNat 32 25)) := ⟨![68 * (i 1).val + 25, 0], k0_off1_eq i ⟨25, by decide⟩⟩
instance closedOff_k0_off1_26 (i : grid0.Coords) : ClosedOff (k0_off1 i (BitVec.ofNat 32 26)) := ⟨![68 * (i 1).val + 26, 0], k0_off1_eq i ⟨26, by decide⟩⟩
instance closedOff_k0_off1_27 (i : grid0.Coords) : ClosedOff (k0_off1 i (BitVec.ofNat 32 27)) := ⟨![68 * (i 1).val + 27, 0], k0_off1_eq i ⟨27, by decide⟩⟩
instance closedOff_k0_off1_28 (i : grid0.Coords) : ClosedOff (k0_off1 i (BitVec.ofNat 32 28)) := ⟨![68 * (i 1).val + 28, 0], k0_off1_eq i ⟨28, by decide⟩⟩
instance closedOff_k0_off1_29 (i : grid0.Coords) : ClosedOff (k0_off1 i (BitVec.ofNat 32 29)) := ⟨![68 * (i 1).val + 29, 0], k0_off1_eq i ⟨29, by decide⟩⟩
instance closedOff_k0_off1_30 (i : grid0.Coords) : ClosedOff (k0_off1 i (BitVec.ofNat 32 30)) := ⟨![68 * (i 1).val + 30, 0], k0_off1_eq i ⟨30, by decide⟩⟩
instance closedOff_k0_off1_31 (i : grid0.Coords) : ClosedOff (k0_off1 i (BitVec.ofNat 32 31)) := ⟨![68 * (i 1).val + 31, 0], k0_off1_eq i ⟨31, by decide⟩⟩
instance closedOff_k0_off1_32 (i : grid0.Coords) : ClosedOff (k0_off1 i (BitVec.ofNat 32 32)) := ⟨![68 * (i 1).val + 32, 0], k0_off1_eq i ⟨32, by decide⟩⟩
instance closedOff_k0_off1_33 (i : grid0.Coords) : ClosedOff (k0_off1 i (BitVec.ofNat 32 33)) := ⟨![68 * (i 1).val + 33, 0], k0_off1_eq i ⟨33, by decide⟩⟩
instance closedOff_k0_off1_34 (i : grid0.Coords) : ClosedOff (k0_off1 i (BitVec.ofNat 32 34)) := ⟨![68 * (i 1).val + 34, 0], k0_off1_eq i ⟨34, by decide⟩⟩
instance closedOff_k0_off1_35 (i : grid0.Coords) : ClosedOff (k0_off1 i (BitVec.ofNat 32 35)) := ⟨![68 * (i 1).val + 35, 0], k0_off1_eq i ⟨35, by decide⟩⟩
instance closedOff_k0_off1_36 (i : grid0.Coords) : ClosedOff (k0_off1 i (BitVec.ofNat 32 36)) := ⟨![68 * (i 1).val + 36, 0], k0_off1_eq i ⟨36, by decide⟩⟩
instance closedOff_k0_off1_37 (i : grid0.Coords) : ClosedOff (k0_off1 i (BitVec.ofNat 32 37)) := ⟨![68 * (i 1).val + 37, 0], k0_off1_eq i ⟨37, by decide⟩⟩
instance closedOff_k0_off1_38 (i : grid0.Coords) : ClosedOff (k0_off1 i (BitVec.ofNat 32 38)) := ⟨![68 * (i 1).val + 38, 0], k0_off1_eq i ⟨38, by decide⟩⟩
instance closedOff_k0_off1_39 (i : grid0.Coords) : ClosedOff (k0_off1 i (BitVec.ofNat 32 39)) := ⟨![68 * (i 1).val + 39, 0], k0_off1_eq i ⟨39, by decide⟩⟩
instance closedOff_k0_off1_40 (i : grid0.Coords) : ClosedOff (k0_off1 i (BitVec.ofNat 32 40)) := ⟨![68 * (i 1).val + 40, 0], k0_off1_eq i ⟨40, by decide⟩⟩
instance closedOff_k0_off1_41 (i : grid0.Coords) : ClosedOff (k0_off1 i (BitVec.ofNat 32 41)) := ⟨![68 * (i 1).val + 41, 0], k0_off1_eq i ⟨41, by decide⟩⟩
instance closedOff_k0_off1_42 (i : grid0.Coords) : ClosedOff (k0_off1 i (BitVec.ofNat 32 42)) := ⟨![68 * (i 1).val + 42, 0], k0_off1_eq i ⟨42, by decide⟩⟩
instance closedOff_k0_off1_43 (i : grid0.Coords) : ClosedOff (k0_off1 i (BitVec.ofNat 32 43)) := ⟨![68 * (i 1).val + 43, 0], k0_off1_eq i ⟨43, by decide⟩⟩
instance closedOff_k0_off1_44 (i : grid0.Coords) : ClosedOff (k0_off1 i (BitVec.ofNat 32 44)) := ⟨![68 * (i 1).val + 44, 0], k0_off1_eq i ⟨44, by decide⟩⟩
instance closedOff_k0_off1_45 (i : grid0.Coords) : ClosedOff (k0_off1 i (BitVec.ofNat 32 45)) := ⟨![68 * (i 1).val + 45, 0], k0_off1_eq i ⟨45, by decide⟩⟩
instance closedOff_k0_off1_46 (i : grid0.Coords) : ClosedOff (k0_off1 i (BitVec.ofNat 32 46)) := ⟨![68 * (i 1).val + 46, 0], k0_off1_eq i ⟨46, by decide⟩⟩
instance closedOff_k0_off1_47 (i : grid0.Coords) : ClosedOff (k0_off1 i (BitVec.ofNat 32 47)) := ⟨![68 * (i 1).val + 47, 0], k0_off1_eq i ⟨47, by decide⟩⟩
instance closedOff_k0_off1_48 (i : grid0.Coords) : ClosedOff (k0_off1 i (BitVec.ofNat 32 48)) := ⟨![68 * (i 1).val + 48, 0], k0_off1_eq i ⟨48, by decide⟩⟩
instance closedOff_k0_off1_49 (i : grid0.Coords) : ClosedOff (k0_off1 i (BitVec.ofNat 32 49)) := ⟨![68 * (i 1).val + 49, 0], k0_off1_eq i ⟨49, by decide⟩⟩
instance closedOff_k0_off1_50 (i : grid0.Coords) : ClosedOff (k0_off1 i (BitVec.ofNat 32 50)) := ⟨![68 * (i 1).val + 50, 0], k0_off1_eq i ⟨50, by decide⟩⟩
instance closedOff_k0_off1_51 (i : grid0.Coords) : ClosedOff (k0_off1 i (BitVec.ofNat 32 51)) := ⟨![68 * (i 1).val + 51, 0], k0_off1_eq i ⟨51, by decide⟩⟩
instance closedOff_k0_off1_52 (i : grid0.Coords) : ClosedOff (k0_off1 i (BitVec.ofNat 32 52)) := ⟨![68 * (i 1).val + 52, 0], k0_off1_eq i ⟨52, by decide⟩⟩
instance closedOff_k0_off1_53 (i : grid0.Coords) : ClosedOff (k0_off1 i (BitVec.ofNat 32 53)) := ⟨![68 * (i 1).val + 53, 0], k0_off1_eq i ⟨53, by decide⟩⟩
instance closedOff_k0_off1_54 (i : grid0.Coords) : ClosedOff (k0_off1 i (BitVec.ofNat 32 54)) := ⟨![68 * (i 1).val + 54, 0], k0_off1_eq i ⟨54, by decide⟩⟩
instance closedOff_k0_off1_55 (i : grid0.Coords) : ClosedOff (k0_off1 i (BitVec.ofNat 32 55)) := ⟨![68 * (i 1).val + 55, 0], k0_off1_eq i ⟨55, by decide⟩⟩
instance closedOff_k0_off1_56 (i : grid0.Coords) : ClosedOff (k0_off1 i (BitVec.ofNat 32 56)) := ⟨![68 * (i 1).val + 56, 0], k0_off1_eq i ⟨56, by decide⟩⟩
instance closedOff_k0_off1_57 (i : grid0.Coords) : ClosedOff (k0_off1 i (BitVec.ofNat 32 57)) := ⟨![68 * (i 1).val + 57, 0], k0_off1_eq i ⟨57, by decide⟩⟩
instance closedOff_k0_off1_58 (i : grid0.Coords) : ClosedOff (k0_off1 i (BitVec.ofNat 32 58)) := ⟨![68 * (i 1).val + 58, 0], k0_off1_eq i ⟨58, by decide⟩⟩
instance closedOff_k0_off1_59 (i : grid0.Coords) : ClosedOff (k0_off1 i (BitVec.ofNat 32 59)) := ⟨![68 * (i 1).val + 59, 0], k0_off1_eq i ⟨59, by decide⟩⟩
instance closedOff_k0_off1_60 (i : grid0.Coords) : ClosedOff (k0_off1 i (BitVec.ofNat 32 60)) := ⟨![68 * (i 1).val + 60, 0], k0_off1_eq i ⟨60, by decide⟩⟩
instance closedOff_k0_off1_61 (i : grid0.Coords) : ClosedOff (k0_off1 i (BitVec.ofNat 32 61)) := ⟨![68 * (i 1).val + 61, 0], k0_off1_eq i ⟨61, by decide⟩⟩
instance closedOff_k0_off1_62 (i : grid0.Coords) : ClosedOff (k0_off1 i (BitVec.ofNat 32 62)) := ⟨![68 * (i 1).val + 62, 0], k0_off1_eq i ⟨62, by decide⟩⟩
instance closedOff_k0_off1_63 (i : grid0.Coords) : ClosedOff (k0_off1 i (BitVec.ofNat 32 63)) := ⟨![68 * (i 1).val + 63, 0], k0_off1_eq i ⟨63, by decide⟩⟩
instance closedOff_k0_off1_64 (i : grid0.Coords) : ClosedOff (k0_off1 i (BitVec.ofNat 32 64)) := ⟨![68 * (i 1).val + 64, 0], k0_off1_eq i ⟨64, by decide⟩⟩
instance closedOff_k0_off1_65 (i : grid0.Coords) : ClosedOff (k0_off1 i (BitVec.ofNat 32 65)) := ⟨![68 * (i 1).val + 65, 0], k0_off1_eq i ⟨65, by decide⟩⟩
instance closedOff_k0_off1_66 (i : grid0.Coords) : ClosedOff (k0_off1 i (BitVec.ofNat 32 66)) := ⟨![68 * (i 1).val + 66, 0], k0_off1_eq i ⟨66, by decide⟩⟩
instance closedOff_k0_off1_67 (i : grid0.Coords) : ClosedOff (k0_off1 i (BitVec.ofNat 32 67)) := ⟨![68 * (i 1).val + 67, 0], k0_off1_eq i ⟨67, by decide⟩⟩

end Cert.Kernel.Hand
-- ==== Proof.KRuns.lean ====
/- What the three kinds of grid point share: the two branch conditions in closed form (the first and the last of each 15 points), where output windows are idle, the memrefs a point is handed. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import proofs.«01_k».proof.Proof.KOff
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body's branch conditions -/

abbrev cond0_0 (i : grid0.Coords) : Prop := k0_cond1 i = 1#1
theorem hcond0_0 : ∀ t : Fin cfg0.N, cond0_0 (grid0.coords t) ↔ t.val % 15 = 0 :=
  (fun t => by
    have ht : t.val < 120 := Nat.lt_of_lt_of_eq t.isLt N_0
    have e0 : (grid0.coords t 0).val = t.val / 15 % 8 := Pipeline.Grid.coords_val t 0 (by decide) rfl
    have e1 : (grid0.coords t 1).val = t.val / 1 % 15 := Pipeline.Grid.coords_val t 1 (by decide) rfl
    simp only [cond0_0, k0_cond1, e0, e1]
    word_cmp
   : ∀ t : Fin grid0.N, cond0_0 (grid0.coords t) ↔ t.val % 15 = 0)

abbrev cond0_1 (i : grid0.Coords) : Prop := k0_cond2 i = 1#1
theorem hcond0_1 : ∀ t : Fin cfg0.N, cond0_1 (grid0.coords t) ↔ t.val % 15 = 14 :=
  (fun t => by
    have ht : t.val < 120 := Nat.lt_of_lt_of_eq t.isLt N_0
    have e0 : (grid0.coords t 0).val = t.val / 15 % 8 := Pipeline.Grid.coords_val t 0 (by decide) rfl
    have e1 : (grid0.coords t 1).val = t.val / 1 % 15 := Pipeline.Grid.coords_val t 1 (by decide) rfl
    simp only [cond0_1, k0_cond2, e0, e1]
    word_cmp
   : ∀ t : Fin grid0.N, cond0_1 (grid0.coords t) ↔ t.val % 15 = 14)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
/-! ## The kernel body on any staging memrefs: a subtype the run finds -/

abbrev ms0_0 (t : Fin cfg0.N) : Memref sig .tc .vmem S1x1x8x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2176x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1020x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1020x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x2176x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x2176x8 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x2176x8 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x128x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x128x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x1x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x1x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x8x32 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x8x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x1x128 .i8 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1x1x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1x1x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1x1x128 .i8 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x1x1x8 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x1x1x8 .f32 := win0_21.stage (cfg0.slots t 21)
abbrev hs0_21 (t : Fin cfg0.N) : (ms0_21 t).IsWhole := hstage0_21 ((cfg0.slots t 21).cast nbuf0_21)
abbrev scM0_0 : Memref sig .tc .vmem S8x256 .bf16 := Memref.whole cc0_scratch0
abbrev scM0_1 : Memref sig .tc .vmem S1020x256 .i32 := Memref.whole cc0_scratch1
abbrev scM0_2 : Memref sig .tc .vmem S1020x256 .i32 := Memref.whole cc0_scratch2
abbrev scM0_3 : Memref sig .tc .vmem S8x128 .f32 := Memref.whole cc0_scratch3
abbrev scM0_4 : Memref sig .tc .vmem S8x128 .f32 := Memref.whole cc0_scratch4
abbrev scM0_5 : Memref sig .tc .vmem S8x256 .f32 := Memref.whole cc0_scratch5
abbrev VS0_0 : View sig .tc .vmem S8x256 .bf16 := scM0_0.view
abbrev VS0_1 : View sig .tc .vmem S1020x256 .i32 := scM0_1.view
abbrev VS0_2 : View sig .tc .vmem S1020x256 .i32 := scM0_2.view
abbrev VS0_3 : View sig .tc .vmem S8x128 .f32 := scM0_3.view
abbrev VS0_4 : View sig .tc .vmem S8x128 .f32 := scM0_4.view
abbrev VS0_5 : View sig .tc .vmem S8x256 .f32 := scM0_5.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Hand

end
-- ==== Proof.KRunA.lean ====
/- The body run whole at the first point of a head (it stores the new token's codes, scales and zeros and starts the running maximum, sum and accumulator): the pieces each buffer ends with are found by the run. -/
module

public import proofs.«01_k».proof.Proof.KRuns

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 2240000 in
noncomputable def kernelRun0_A (c : Dev nD) (i : grid0.Coords) (arg2 : Memref sig .tc .vmem S1x1x8x256 .bf16) (harg2 : arg2.IsWhole) (arg3 : Memref sig .tc .vmem S256x256 .bf16) (harg3 : arg3.IsWhole) (arg4 : Memref sig .tc .vmem S8x128 .bf16) (harg4 : arg4.IsWhole) (arg5 : Memref sig .tc .vmem S256x128 .bf16) (harg5 : arg5.IsWhole) (arg6 : Memref sig .tc .vmem S1x1x2176x128 .i8) (harg6 : arg6.IsWhole) (arg7 : Memref sig .tc .vmem S1x1x1020x256 .f32) (harg7 : arg7.IsWhole) (arg8 : Memref sig .tc .vmem S1x1x1020x256 .f32) (harg8 : arg8.IsWhole) (arg9 : Memref sig .tc .vmem S1x1x2176x128 .i8) (harg9 : arg9.IsWhole) (arg10 : Memref sig .tc .vmem S1x1x2176x8 .f32) (harg10 : arg10.IsWhole) (arg11 : Memref sig .tc .vmem S1x1x2176x8 .f32) (harg11 : arg11.IsWhole) (arg12 : Memref sig .tc .vmem S1x1x128x256 .bf16) (harg12 : arg12.IsWhole) (arg13 : Memref sig .tc .vmem S1x1x128x256 .bf16) (harg13 : arg13.IsWhole) (arg14 : Memref sig .tc .vmem S1x1x1x256 .bf16) (harg14 : arg14.IsWhole) (arg15 : Memref sig .tc .vmem S1x1x1x256 .bf16) (harg15 : arg15.IsWhole) (arg16 : Memref sig .tc .vmem S1x1x8x32 .bf16) (harg16 : arg16.IsWhole) (arg17 : Memref sig .tc .vmem S1x1x8x256 .bf16) (harg17 : arg17.IsWhole) (arg18 : Memref sig .tc .vmem S1x1x1x128 .i8) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x128 .i8) (harg21 : arg21.IsWhole) (arg22 : Memref sig .tc .vmem S1x1x1x8 .f32) (harg22 : arg22.IsWhole) (arg23 : Memref sig .tc .vmem S1x1x1x8 .f32) (harg23 : arg23.IsWhole) (arg24 : Memref sig .tc .vmem S8x256 .bf16) (harg24 : arg24.IsWhole) (arg25 : Memref sig .tc .vmem S1020x256 .i32) (harg25 : arg25.IsWhole) (arg26 : Memref sig .tc .vmem S1020x256 .i32) (harg26 : arg26.IsWhole) (arg27 : Memref sig .tc .vmem S8x128 .f32) (harg27 : arg27.IsWhole) (arg28 : Memref sig .tc .vmem S8x128 .f32) (harg28 : arg28.IsWhole) (arg29 : Memref sig .tc .vmem S8x256 .f32) (harg29 : arg29.IsWhole) (hc0 : cond0_0 i) (hc1 : ¬cond0_1 i)
    (x0 : Vec F S1x1x8x256 .bf16) (x1 : Vec F S256x256 .bf16) (x2 : Vec F S8x128 .bf16) (x3 : Vec F S256x128 .bf16) (x4 : Vec F S1x1x2176x128 .i8) (x5 : Vec F S1x1x1020x256 .f32) (x6 : Vec F S1x1x1020x256 .f32) (x7 : Vec F S1x1x2176x128 .i8) (x8 : Vec F S1x1x2176x8 .f32) (x9 : Vec F S1x1x2176x8 .f32) (x10 : Vec F S1x1x128x256 .bf16) (x11 : Vec F S1x1x128x256 .bf16) (x12 : Vec F S1x1x1x256 .bf16) (x13 : Vec F S1x1x1x256 .bf16) (x14 : Vec F S1x1x8x32 .bf16) :
    Σ' (LS0 : List (View.Piece (Elt F) S8x256 .bf16)), Σ' (LS1 : List (View.Piece (Elt F) S1020x256 .i32)), Σ' (LS2 : List (View.Piece (Elt F) S1020x256 .i32)), Σ' (LS3 : List (View.Piece (Elt F) S8x128 .f32)), Σ' (LS4 : List (View.Piece (Elt F) S8x128 .f32)), { LS5 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2) ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4) ∗ (∃ f, arg29.view.loc (c : Thread nD τ) ↦[arg29.view.set]{fullShare} arg29.view.writes (Elt F) f LS5)) -∗ K ⟨⟩))
          ⊢ wp frame (wpE (defs₀ (F := F)) Variants.none c none) E (cc0_kivi4_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, fun E K => ?run⟩
  case run =>
    simp only [cc0_kivi4_decode_eq_skeleton]; unfold cc0_kivi4_decode_skel
    simp only [k0_part7_eq_skeleton, k0_part1_eq_skeleton, k0_part2_eq_skeleton, k0_part3_eq_skeleton, k0_part4_eq_skeleton, k0_part5_eq_skeleton, k0_part6_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Hand

end
-- ==== Proof.KRunB.lean ====
/- The body run whole at a point that is neither the first nor the last of a head: the pieces each buffer ends with are found by the run. -/
module

public import proofs.«01_k».proof.Proof.KRuns

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1960000 in
noncomputable def kernelRun0_B (c : Dev nD) (i : grid0.Coords) (arg2 : Memref sig .tc .vmem S1x1x8x256 .bf16) (harg2 : arg2.IsWhole) (arg3 : Memref sig .tc .vmem S256x256 .bf16) (harg3 : arg3.IsWhole) (arg4 : Memref sig .tc .vmem S8x128 .bf16) (harg4 : arg4.IsWhole) (arg5 : Memref sig .tc .vmem S256x128 .bf16) (harg5 : arg5.IsWhole) (arg6 : Memref sig .tc .vmem S1x1x2176x128 .i8) (harg6 : arg6.IsWhole) (arg7 : Memref sig .tc .vmem S1x1x1020x256 .f32) (harg7 : arg7.IsWhole) (arg8 : Memref sig .tc .vmem S1x1x1020x256 .f32) (harg8 : arg8.IsWhole) (arg9 : Memref sig .tc .vmem S1x1x2176x128 .i8) (harg9 : arg9.IsWhole) (arg10 : Memref sig .tc .vmem S1x1x2176x8 .f32) (harg10 : arg10.IsWhole) (arg11 : Memref sig .tc .vmem S1x1x2176x8 .f32) (harg11 : arg11.IsWhole) (arg12 : Memref sig .tc .vmem S1x1x128x256 .bf16) (harg12 : arg12.IsWhole) (arg13 : Memref sig .tc .vmem S1x1x128x256 .bf16) (harg13 : arg13.IsWhole) (arg14 : Memref sig .tc .vmem S1x1x1x256 .bf16) (harg14 : arg14.IsWhole) (arg15 : Memref sig .tc .vmem S1x1x1x256 .bf16) (harg15 : arg15.IsWhole) (arg16 : Memref sig .tc .vmem S1x1x8x32 .bf16) (harg16 : arg16.IsWhole) (arg17 : Memref sig .tc .vmem S1x1x8x256 .bf16) (harg17 : arg17.IsWhole) (arg18 : Memref sig .tc .vmem S1x1x1x128 .i8) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x128 .i8) (harg21 : arg21.IsWhole) (arg22 : Memref sig .tc .vmem S1x1x1x8 .f32) (harg22 : arg22.IsWhole) (arg23 : Memref sig .tc .vmem S1x1x1x8 .f32) (harg23 : arg23.IsWhole) (arg24 : Memref sig .tc .vmem S8x256 .bf16) (harg24 : arg24.IsWhole) (arg25 : Memref sig .tc .vmem S1020x256 .i32) (harg25 : arg25.IsWhole) (arg26 : Memref sig .tc .vmem S1020x256 .i32) (harg26 : arg26.IsWhole) (arg27 : Memref sig .tc .vmem S8x128 .f32) (harg27 : arg27.IsWhole) (arg28 : Memref sig .tc .vmem S8x128 .f32) (harg28 : arg28.IsWhole) (arg29 : Memref sig .tc .vmem S8x256 .f32) (harg29 : arg29.IsWhole) (hc0 : ¬cond0_0 i) (hc1 : ¬cond0_1 i)
    (x0 : Vec F S1x1x8x256 .bf16) (x1 : Vec F S256x256 .bf16) (x2 : Vec F S8x128 .bf16) (x3 : Vec F S256x128 .bf16) (x4 : Vec F S1x1x2176x128 .i8) (x5 : Vec F S1x1x1020x256 .f32) (x6 : Vec F S1x1x1020x256 .f32) (x7 : Vec F S1x1x2176x128 .i8) (x8 : Vec F S1x1x2176x8 .f32) (x9 : Vec F S1x1x2176x8 .f32) (x10 : Vec F S1x1x128x256 .bf16) (x11 : Vec F S1x1x128x256 .bf16) (x12 : Vec F S1x1x1x256 .bf16) (x13 : Vec F S1x1x1x256 .bf16) (x14 : Vec F S1x1x8x32 .bf16) (xs0 : Vec F S8x256 .bf16) (xs1 : Vec F S1020x256 .i32) (xs2 : Vec F S1020x256 .i32) (xs3 : Vec F S8x128 .f32) (xs4 : Vec F S8x128 .f32) (xs5 : Vec F S8x256 .f32) :
    Σ' (LS0 : List (View.Piece (Elt F) S8x256 .bf16)), Σ' (LS1 : List (View.Piece (Elt F) S1020x256 .i32)), Σ' (LS2 : List (View.Piece (Elt F) S1020x256 .i32)), Σ' (LS3 : List (View.Piece (Elt F) S8x128 .f32)), Σ' (LS4 : List (View.Piece (Elt F) S8x128 .f32)), { LS5 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4 ∗ owns (c : Thread nD τ) arg29 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ owns (c : Thread nD τ) arg25 fullShare xs1 ∗ owns (c : Thread nD τ) arg26 fullShare xs2 ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4) ∗ (∃ f, arg29.view.loc (c : Thread nD τ) ↦[arg29.view.set]{fullShare} arg29.view.writes (Elt F) f LS5)) -∗ K ⟨⟩))
          ⊢ wp frame (wpE (defs₀ (F := F)) Variants.none c none) E (cc0_kivi4_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨[], [], [], ?_, ?_, ?_, fun E K => ?run⟩
  case run =>
    simp only [cc0_kivi4_decode_eq_skeleton]; unfold cc0_kivi4_decode_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg24.eq_unread hfs0; obtain rfl := harg25.eq_unread hfs1; obtain rfl := harg26.eq_unread hfs2; obtain rfl := harg27.eq_unread hfs3; obtain rfl := harg28.eq_unread hfs4; obtain rfl := harg29.eq_unread hfs5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]
    · iexists _; isplitr; · ipureintro; exact harg24.read_unread _
      iexact HS0
    isplitl [HS1]
    · iexists _; isplitr; · ipureintro; exact harg25.read_unread _
      iexact HS1
    isplitl [HS2]
    · iexists _; isplitr; · ipureintro; exact harg26.read_unread _
      iexact HS2
    isplitl [HS3]; · iexists _; iexact HS3
    isplitl [HS4]; · iexists _; iexact HS4
    iexists _; iexact HS5

end Cert.Kernel.Hand

end
-- ==== Proof.KRunC.lean ====
/- The body run whole at the last point of a head (it also stores the attention output): the pieces each buffer ends with are found by the run. -/
module

public import proofs.«01_k».proof.Proof.KRuns

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1972000 in
noncomputable def kernelRun0_C (c : Dev nD) (i : grid0.Coords) (arg2 : Memref sig .tc .vmem S1x1x8x256 .bf16) (harg2 : arg2.IsWhole) (arg3 : Memref sig .tc .vmem S256x256 .bf16) (harg3 : arg3.IsWhole) (arg4 : Memref sig .tc .vmem S8x128 .bf16) (harg4 : arg4.IsWhole) (arg5 : Memref sig .tc .vmem S256x128 .bf16) (harg5 : arg5.IsWhole) (arg6 : Memref sig .tc .vmem S1x1x2176x128 .i8) (harg6 : arg6.IsWhole) (arg7 : Memref sig .tc .vmem S1x1x1020x256 .f32) (harg7 : arg7.IsWhole) (arg8 : Memref sig .tc .vmem S1x1x1020x256 .f32) (harg8 : arg8.IsWhole) (arg9 : Memref sig .tc .vmem S1x1x2176x128 .i8) (harg9 : arg9.IsWhole) (arg10 : Memref sig .tc .vmem S1x1x2176x8 .f32) (harg10 : arg10.IsWhole) (arg11 : Memref sig .tc .vmem S1x1x2176x8 .f32) (harg11 : arg11.IsWhole) (arg12 : Memref sig .tc .vmem S1x1x128x256 .bf16) (harg12 : arg12.IsWhole) (arg13 : Memref sig .tc .vmem S1x1x128x256 .bf16) (harg13 : arg13.IsWhole) (arg14 : Memref sig .tc .vmem S1x1x1x256 .bf16) (harg14 : arg14.IsWhole) (arg15 : Memref sig .tc .vmem S1x1x1x256 .bf16) (harg15 : arg15.IsWhole) (arg16 : Memref sig .tc .vmem S1x1x8x32 .bf16) (harg16 : arg16.IsWhole) (arg17 : Memref sig .tc .vmem S1x1x8x256 .bf16) (harg17 : arg17.IsWhole) (arg18 : Memref sig .tc .vmem S1x1x1x128 .i8) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x128 .i8) (harg21 : arg21.IsWhole) (arg22 : Memref sig .tc .vmem S1x1x1x8 .f32) (harg22 : arg22.IsWhole) (arg23 : Memref sig .tc .vmem S1x1x1x8 .f32) (harg23 : arg23.IsWhole) (arg24 : Memref sig .tc .vmem S8x256 .bf16) (harg24 : arg24.IsWhole) (arg25 : Memref sig .tc .vmem S1020x256 .i32) (harg25 : arg25.IsWhole) (arg26 : Memref sig .tc .vmem S1020x256 .i32) (harg26 : arg26.IsWhole) (arg27 : Memref sig .tc .vmem S8x128 .f32) (harg27 : arg27.IsWhole) (arg28 : Memref sig .tc .vmem S8x128 .f32) (harg28 : arg28.IsWhole) (arg29 : Memref sig .tc .vmem S8x256 .f32) (harg29 : arg29.IsWhole) (hc0 : ¬cond0_0 i) (hc1 : cond0_1 i)
    (x0 : Vec F S1x1x8x256 .bf16) (x1 : Vec F S256x256 .bf16) (x2 : Vec F S8x128 .bf16) (x3 : Vec F S256x128 .bf16) (x4 : Vec F S1x1x2176x128 .i8) (x5 : Vec F S1x1x1020x256 .f32) (x6 : Vec F S1x1x1020x256 .f32) (x7 : Vec F S1x1x2176x128 .i8) (x8 : Vec F S1x1x2176x8 .f32) (x9 : Vec F S1x1x2176x8 .f32) (x10 : Vec F S1x1x128x256 .bf16) (x11 : Vec F S1x1x128x256 .bf16) (x12 : Vec F S1x1x1x256 .bf16) (x13 : Vec F S1x1x1x256 .bf16) (x14 : Vec F S1x1x8x32 .bf16) (xs0 : Vec F S8x256 .bf16) (xs1 : Vec F S1020x256 .i32) (xs2 : Vec F S1020x256 .i32) (xs3 : Vec F S8x128 .f32) (xs4 : Vec F S8x128 .f32) (xs5 : Vec F S8x256 .f32) :
    Σ' (LS0 : List (View.Piece (Elt F) S8x256 .bf16)), Σ' (LS1 : List (View.Piece (Elt F) S1020x256 .i32)), Σ' (LS2 : List (View.Piece (Elt F) S1020x256 .i32)), Σ' (LS3 : List (View.Piece (Elt F) S8x128 .f32)), Σ' (LS4 : List (View.Piece (Elt F) S8x128 .f32)), { LS5 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4 ∗ owns (c : Thread nD τ) arg29 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ owns (c : Thread nD τ) arg25 fullShare xs1 ∗ owns (c : Thread nD τ) arg26 fullShare xs2 ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4) ∗ (∃ f, arg29.view.loc (c : Thread nD τ) ↦[arg29.view.set]{fullShare} arg29.view.writes (Elt F) f LS5)) -∗ K ⟨⟩))
          ⊢ wp frame (wpE (defs₀ (F := F)) Variants.none c none) E (cc0_kivi4_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨[], [], [], ?_, ?_, ?_, fun E K => ?run⟩
  case run =>
    simp only [cc0_kivi4_decode_eq_skeleton]; unfold cc0_kivi4_decode_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg24.eq_unread hfs0; obtain rfl := harg25.eq_unread hfs1; obtain rfl := harg26.eq_unread hfs2; obtain rfl := harg27.eq_unread hfs3; obtain rfl := harg28.eq_unread hfs4; obtain rfl := harg29.eq_unread hfs5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]
    · iexists _; isplitr; · ipureintro; exact harg24.read_unread _
      iexact HS0
    isplitl [HS1]
    · iexists _; isplitr; · ipureintro; exact harg25.read_unread _
      iexact HS1
    isplitl [HS2]
    · iexists _; isplitr; · ipureintro; exact harg26.read_unread _
      iexact HS2
    isplitl [HS3]; · iexists _; iexact HS3
    isplitl [HS4]; · iexists _; iexact HS4
    iexists _; iexact HS5

end Cert.Kernel.Hand

end
-- ==== Proof.KFrame.lean ====
/- The frame of the kernel: at every point the scoped buffers and the outputs are taken and given back at some contents. -/
module

public import proofs.«01_k».proof.Proof.KRunA
public import proofs.«01_k».proof.Proof.KRunB
public import proofs.«01_k».proof.Proof.KRunC
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1320000 in
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 4 rfl).trans ((hA c 4).trans (V_main_arg3 m c)),
      (Pipeline.RDat.FramePost.arr_in h c 5 rfl).trans ((hA c 5).trans (V_main_arg4 m c)),
      (Pipeline.RDat.FramePost.arr_in h c 6 rfl).trans ((hA c 6).trans (V_main_arg5 m c)),
      (Pipeline.RDat.FramePost.arr_in h c 7 rfl).trans ((hA c 7).trans (V_main_arg6 m c)),
      (Pipeline.RDat.FramePost.arr_in h c 8 rfl).trans ((hA c 8).trans (V_main_arg7 m c)),
      (Pipeline.RDat.FramePost.arr_in h c 9 rfl).trans ((hA c 9).trans (V_main_arg8 m c)),
      (Pipeline.RDat.FramePost.arr_in h c 10 rfl).trans ((hA c 10).trans (V_main_arg9 m c)),
      (Pipeline.RDat.FramePost.arr_in h c 11 rfl).trans ((hA c 11).trans (V_main_arg10 m c))⟩) h

def forgets0 : Fin 22 → Bool := fun w => w.val == 15 || w.val == 16 || w.val == 17 || w.val == 18 || w.val == 19 || w.val == 20 || w.val == 21

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨_ + 22, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

set_option maxHeartbeats 33600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  have hN : t.val < 120 := lt_of_lt_of_eq t.isLt (show cfg0.N = 120 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  by_cases h0 : t.val % 15 = 0
  · have h1 : ¬ t.val % 15 = 14 := by omega
    iintro ⟨⟨⟨⟨%v0, HS0⟩, ⟨%v1, HS1⟩, ⟨%v2, HS2⟩, ⟨%v3, HS3⟩, ⟨%v4, HS4⟩, ⟨%v5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iintro ⟨H0, H1, H2, H3, H4, H5, H6, H7, H8, H9, H10, H11, H12, H13, H14, H15, H16, H17, H18, H19, H20, H21, ⟨%es0, HS0⟩, ⟨%es1, HS1⟩, ⟨%es2, HS2⟩, ⟨%es3, HS3⟩, ⟨%es4, HS4⟩, ⟨%es5, HS5⟩⟩
    isplitl [HS0 HS1 HS2 HS3 HS4 HS5 Hg]
    · isplitl [HS0 HS1 HS2 HS3 HS4 HS5]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        isplitl [HS3]
        · iexists _; unfold owns; iexists _; isplitr
          swap; · iexact HS3
          ipureintro; rfl
        isplitl [HS4]
        · iexists _; unfold owns; iexists _; isplitr
          swap; · iexact HS4
          ipureintro; rfl
        iexists _; unfold owns; iexists _; isplitr
        swap; · iexact HS5
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · by_cases h1 : t.val % 15 = 14
    · iintro ⟨⟨⟨⟨%v0, HS0⟩, ⟨%v1, HS1⟩, ⟨%v2, HS2⟩, ⟨%v3, HS3⟩, ⟨%v4, HS4⟩, ⟨%v5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, H14, H15, H16, H17, H18, H19, H20, H21, HS0, HS1, HS2, ⟨%es3, HS3⟩, ⟨%es4, HS4⟩, ⟨%es5, HS5⟩⟩
      isplitl [HS0 HS1 HS2 HS3 HS4 HS5 Hg]
      · isplitl [HS0 HS1 HS2 HS3 HS4 HS5]
        · isplitl [HS0]
          · iexists _; iexact HS0
          isplitl [HS1]
          · iexists _; iexact HS1
          isplitl [HS2]
          · iexists _; iexact HS2
          isplitl [HS3]
          · iexists _; unfold owns; iexists _; isplitr
            swap; · iexact HS3
            ipureintro; rfl
          isplitl [HS4]
          · iexists _; unfold owns; iexists _; isplitr
            swap; · iexact HS4
            ipureintro; rfl
          iexists _; unfold owns; iexists _; isplitr
          swap; · iexact HS5
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21
    · iintro ⟨⟨⟨⟨%v0, HS0⟩, ⟨%v1, HS1⟩, ⟨%v2, HS2⟩, ⟨%v3, HS3⟩, ⟨%v4, HS4⟩, ⟨%v5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, H14, H15, H16, H17, H18, H19, H20, H21, HS0, HS1, HS2, ⟨%es3, HS3⟩, ⟨%es4, HS4⟩, ⟨%es5, HS5⟩⟩
      isplitl [HS0 HS1 HS2 HS3 HS4 HS5 Hg]
      · isplitl [HS0 HS1 HS2 HS3 HS4 HS5]
        · isplitl [HS0]
          · iexists _; iexact HS0
          isplitl [HS1]
          · iexists _; iexact HS1
          isplitl [HS2]
          · iexists _; iexact HS2
          isplitl [HS3]
          · iexists _; unfold owns; iexists _; isplitr
            swap; · iexact HS3
            ipureintro; rfl
          isplitl [HS4]
          · iexists _; unfold owns; iexists _; isplitr
            swap; · iexact HS4
            ipureintro; rfl
          iexists _; unfold owns; iexists _; isplitr
          swap; · iexact HS5
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_ofR m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel.Hand

end
-- ==== Proof.IOff.lean ====
/- The 68 rows of a block's scale and zero tables are read at literal row numbers: each offset in closed form. -/
module

public import proofs.«01_k».proof.Proof.Gen.KernelIdeal

@[expose] public section

namespace Cert.KernelIdeal.Hand

open Cert.KernelIdeal.Gen
open Idealize.ShloMosaic Idealize.SL.Sem

instance closedOff_k0_off1_0 (i : grid0.Coords) : ClosedOff (k0_off1 i (BitVec.ofNat 32 0)) := ⟨![68 * (i 1).val + 0, 0, 0], k0_off1_eq i ⟨0, by decide⟩⟩
instance closedOff_k0_off1_1 (i : grid0.Coords) : ClosedOff (k0_off1 i (BitVec.ofNat 32 1)) := ⟨![68 * (i 1).val + 1, 0, 0], k0_off1_eq i ⟨1, by decide⟩⟩
instance closedOff_k0_off1_2 (i : grid0.Coords) : ClosedOff (k0_off1 i (BitVec.ofNat 32 2)) := ⟨![68 * (i 1).val + 2, 0, 0], k0_off1_eq i ⟨2, by decide⟩⟩
instance closedOff_k0_off1_3 (i : grid0.Coords) : ClosedOff (k0_off1 i (BitVec.ofNat 32 3)) := ⟨![68 * (i 1).val + 3, 0, 0], k0_off1_eq i ⟨3, by decide⟩⟩
instance closedOff_k0_off1_4 (i : grid0.Coords) : ClosedOff (k0_off1 i (BitVec.ofNat 32 4)) := ⟨![68 * (i 1).val + 4, 0, 0], k0_off1_eq i ⟨4, by decide⟩⟩
instance closedOff_k0_off1_5 (i : grid0.Coords) : ClosedOff (k0_off1 i (BitVec.ofNat 32 5)) := ⟨![68 * (i 1).val + 5, 0, 0], k0_off1_eq i ⟨5, by decide⟩⟩
instance closedOff_k0_off1_6 (i : grid0.Coords) : ClosedOff (k0_off1 i (BitVec.ofNat 32 6)) := ⟨![68 * (i 1).val + 6, 0, 0], k0_off1_eq i ⟨6, by decide⟩⟩
instance closedOff_k0_off1_7 (i : grid0.Coords) : ClosedOff (k0_off1 i (BitVec.ofNat 32 7)) := ⟨![68 * (i 1).val + 7, 0, 0], k0_off1_eq i ⟨7, by decide⟩⟩
instance closedOff_k0_off1_8 (i : grid0.Coords) : ClosedOff (k0_off1 i (BitVec.ofNat 32 8)) := ⟨![68 * (i 1).val + 8, 0, 0], k0_off1_eq i ⟨8, by decide⟩⟩
instance closedOff_k0_off1_9 (i : grid0.Coords) : ClosedOff (k0_off1 i (BitVec.ofNat 32 9)) := ⟨![68 * (i 1).val + 9, 0, 0], k0_off1_eq i ⟨9, by decide⟩⟩
instance closedOff_k0_off1_10 (i : grid0.Coords) : ClosedOff (k0_off1 i (BitVec.ofNat 32 10)) := ⟨![68 * (i 1).val + 10, 0, 0], k0_off1_eq i ⟨10, by decide⟩⟩
instance closedOff_k0_off1_11 (i : grid0.Coords) : ClosedOff (k0_off1 i (BitVec.ofNat 32 11)) := ⟨![68 * (i 1).val + 11, 0, 0], k0_off1_eq i ⟨11, by decide⟩⟩
instance closedOff_k0_off1_12 (i : grid0.Coords) : ClosedOff (k0_off1 i (BitVec.ofNat 32 12)) := ⟨![68 * (i 1).val + 12, 0, 0], k0_off1_eq i ⟨12, by decide⟩⟩
instance closedOff_k0_off1_13 (i : grid0.Coords) : ClosedOff (k0_off1 i (BitVec.ofNat 32 13)) := ⟨![68 * (i 1).val + 13, 0, 0], k0_off1_eq i ⟨13, by decide⟩⟩
instance closedOff_k0_off1_14 (i : grid0.Coords) : ClosedOff (k0_off1 i (BitVec.ofNat 32 14)) := ⟨![68 * (i 1).val + 14, 0, 0], k0_off1_eq i ⟨14, by decide⟩⟩
instance closedOff_k0_off1_15 (i : grid0.Coords) : ClosedOff (k0_off1 i (BitVec.ofNat 32 15)) := ⟨![68 * (i 1).val + 15, 0, 0], k0_off1_eq i ⟨15, by decide⟩⟩
instance closedOff_k0_off1_16 (i : grid0.Coords) : ClosedOff (k0_off1 i (BitVec.ofNat 32 16)) := ⟨![68 * (i 1).val + 16, 0, 0], k0_off1_eq i ⟨16, by decide⟩⟩
instance closedOff_k0_off1_17 (i : grid0.Coords) : ClosedOff (k0_off1 i (BitVec.ofNat 32 17)) := ⟨![68 * (i 1).val + 17, 0, 0], k0_off1_eq i ⟨17, by decide⟩⟩
instance closedOff_k0_off1_18 (i : grid0.Coords) : ClosedOff (k0_off1 i (BitVec.ofNat 32 18)) := ⟨![68 * (i 1).val + 18, 0, 0], k0_off1_eq i ⟨18, by decide⟩⟩
instance closedOff_k0_off1_19 (i : grid0.Coords) : ClosedOff (k0_off1 i (BitVec.ofNat 32 19)) := ⟨![68 * (i 1).val + 19, 0, 0], k0_off1_eq i ⟨19, by decide⟩⟩
instance closedOff_k0_off1_20 (i : grid0.Coords) : ClosedOff (k0_off1 i (BitVec.ofNat 32 20)) := ⟨![68 * (i 1).val + 20, 0, 0], k0_off1_eq i ⟨20, by decide⟩⟩
instance closedOff_k0_off1_21 (i : grid0.Coords) : ClosedOff (k0_off1 i (BitVec.ofNat 32 21)) := ⟨![68 * (i 1).val + 21, 0, 0], k0_off1_eq i ⟨21, by decide⟩⟩
instance closedOff_k0_off1_22 (i : grid0.Coords) : ClosedOff (k0_off1 i (BitVec.ofNat 32 22)) := ⟨![68 * (i 1).val + 22, 0, 0], k0_off1_eq i ⟨22, by decide⟩⟩
instance closedOff_k0_off1_23 (i : grid0.Coords) : ClosedOff (k0_off1 i (BitVec.ofNat 32 23)) := ⟨![68 * (i 1).val + 23, 0, 0], k0_off1_eq i ⟨23, by decide⟩⟩
instance closedOff_k0_off1_24 (i : grid0.Coords) : ClosedOff (k0_off1 i (BitVec.ofNat 32 24)) := ⟨![68 * (i 1).val + 24, 0, 0], k0_off1_eq i ⟨24, by decide⟩⟩
instance closedOff_k0_off1_25 (i : grid0.Coords) : ClosedOff (k0_off1 i (BitVec.ofNat 32 25)) := ⟨![68 * (i 1).val + 25, 0, 0], k0_off1_eq i ⟨25, by decide⟩⟩
instance closedOff_k0_off1_26 (i : grid0.Coords) : ClosedOff (k0_off1 i (BitVec.ofNat 32 26)) := ⟨![68 * (i 1).val + 26, 0, 0], k0_off1_eq i ⟨26, by decide⟩⟩
instance closedOff_k0_off1_27 (i : grid0.Coords) : ClosedOff (k0_off1 i (BitVec.ofNat 32 27)) := ⟨![68 * (i 1).val + 27, 0, 0], k0_off1_eq i ⟨27, by decide⟩⟩
instance closedOff_k0_off1_28 (i : grid0.Coords) : ClosedOff (k0_off1 i (BitVec.ofNat 32 28)) := ⟨![68 * (i 1).val + 28, 0, 0], k0_off1_eq i ⟨28, by decide⟩⟩
instance closedOff_k0_off1_29 (i : grid0.Coords) : ClosedOff (k0_off1 i (BitVec.ofNat 32 29)) := ⟨![68 * (i 1).val + 29, 0, 0], k0_off1_eq i ⟨29, by decide⟩⟩
instance closedOff_k0_off1_30 (i : grid0.Coords) : ClosedOff (k0_off1 i (BitVec.ofNat 32 30)) := ⟨![68 * (i 1).val + 30, 0, 0], k0_off1_eq i ⟨30, by decide⟩⟩
instance closedOff_k0_off1_31 (i : grid0.Coords) : ClosedOff (k0_off1 i (BitVec.ofNat 32 31)) := ⟨![68 * (i 1).val + 31, 0, 0], k0_off1_eq i ⟨31, by decide⟩⟩
instance closedOff_k0_off1_32 (i : grid0.Coords) : ClosedOff (k0_off1 i (BitVec.ofNat 32 32)) := ⟨![68 * (i 1).val + 32, 0, 0], k0_off1_eq i ⟨32, by decide⟩⟩
instance closedOff_k0_off1_33 (i : grid0.Coords) : ClosedOff (k0_off1 i (BitVec.ofNat 32 33)) := ⟨![68 * (i 1).val + 33, 0, 0], k0_off1_eq i ⟨33, by decide⟩⟩
instance closedOff_k0_off1_34 (i : grid0.Coords) : ClosedOff (k0_off1 i (BitVec.ofNat 32 34)) := ⟨![68 * (i 1).val + 34, 0, 0], k0_off1_eq i ⟨34, by decide⟩⟩
instance closedOff_k0_off1_35 (i : grid0.Coords) : ClosedOff (k0_off1 i (BitVec.ofNat 32 35)) := ⟨![68 * (i 1).val + 35, 0, 0], k0_off1_eq i ⟨35, by decide⟩⟩
instance closedOff_k0_off1_36 (i : grid0.Coords) : ClosedOff (k0_off1 i (BitVec.ofNat 32 36)) := ⟨![68 * (i 1).val + 36, 0, 0], k0_off1_eq i ⟨36, by decide⟩⟩
instance closedOff_k0_off1_37 (i : grid0.Coords) : ClosedOff (k0_off1 i (BitVec.ofNat 32 37)) := ⟨![68 * (i 1).val + 37, 0, 0], k0_off1_eq i ⟨37, by decide⟩⟩
instance closedOff_k0_off1_38 (i : grid0.Coords) : ClosedOff (k0_off1 i (BitVec.ofNat 32 38)) := ⟨![68 * (i 1).val + 38, 0, 0], k0_off1_eq i ⟨38, by decide⟩⟩
instance closedOff_k0_off1_39 (i : grid0.Coords) : ClosedOff (k0_off1 i (BitVec.ofNat 32 39)) := ⟨![68 * (i 1).val + 39, 0, 0], k0_off1_eq i ⟨39, by decide⟩⟩
instance closedOff_k0_off1_40 (i : grid0.Coords) : ClosedOff (k0_off1 i (BitVec.ofNat 32 40)) := ⟨![68 * (i 1).val + 40, 0, 0], k0_off1_eq i ⟨40, by decide⟩⟩
instance closedOff_k0_off1_41 (i : grid0.Coords) : ClosedOff (k0_off1 i (BitVec.ofNat 32 41)) := ⟨![68 * (i 1).val + 41, 0, 0], k0_off1_eq i ⟨41, by decide⟩⟩
instance closedOff_k0_off1_42 (i : grid0.Coords) : ClosedOff (k0_off1 i (BitVec.ofNat 32 42)) := ⟨![68 * (i 1).val + 42, 0, 0], k0_off1_eq i ⟨42, by decide⟩⟩
instance closedOff_k0_off1_43 (i : grid0.Coords) : ClosedOff (k0_off1 i (BitVec.ofNat 32 43)) := ⟨![68 * (i 1).val + 43, 0, 0], k0_off1_eq i ⟨43, by decide⟩⟩
instance closedOff_k0_off1_44 (i : grid0.Coords) : ClosedOff (k0_off1 i (BitVec.ofNat 32 44)) := ⟨![68 * (i 1).val + 44, 0, 0], k0_off1_eq i ⟨44, by decide⟩⟩
instance closedOff_k0_off1_45 (i : grid0.Coords) : ClosedOff (k0_off1 i (BitVec.ofNat 32 45)) := ⟨![68 * (i 1).val + 45, 0, 0], k0_off1_eq i ⟨45, by decide⟩⟩
instance closedOff_k0_off1_46 (i : grid0.Coords) : ClosedOff (k0_off1 i (BitVec.ofNat 32 46)) := ⟨![68 * (i 1).val + 46, 0, 0], k0_off1_eq i ⟨46, by decide⟩⟩
instance closedOff_k0_off1_47 (i : grid0.Coords) : ClosedOff (k0_off1 i (BitVec.ofNat 32 47)) := ⟨![68 * (i 1).val + 47, 0, 0], k0_off1_eq i ⟨47, by decide⟩⟩
instance closedOff_k0_off1_48 (i : grid0.Coords) : ClosedOff (k0_off1 i (BitVec.ofNat 32 48)) := ⟨![68 * (i 1).val + 48, 0, 0], k0_off1_eq i ⟨48, by decide⟩⟩
instance closedOff_k0_off1_49 (i : grid0.Coords) : ClosedOff (k0_off1 i (BitVec.ofNat 32 49)) := ⟨![68 * (i 1).val + 49, 0, 0], k0_off1_eq i ⟨49, by decide⟩⟩
instance closedOff_k0_off1_50 (i : grid0.Coords) : ClosedOff (k0_off1 i (BitVec.ofNat 32 50)) := ⟨![68 * (i 1).val + 50, 0, 0], k0_off1_eq i ⟨50, by decide⟩⟩
instance closedOff_k0_off1_51 (i : grid0.Coords) : ClosedOff (k0_off1 i (BitVec.ofNat 32 51)) := ⟨![68 * (i 1).val + 51, 0, 0], k0_off1_eq i ⟨51, by decide⟩⟩
instance closedOff_k0_off1_52 (i : grid0.Coords) : ClosedOff (k0_off1 i (BitVec.ofNat 32 52)) := ⟨![68 * (i 1).val + 52, 0, 0], k0_off1_eq i ⟨52, by decide⟩⟩
instance closedOff_k0_off1_53 (i : grid0.Coords) : ClosedOff (k0_off1 i (BitVec.ofNat 32 53)) := ⟨![68 * (i 1).val + 53, 0, 0], k0_off1_eq i ⟨53, by decide⟩⟩
instance closedOff_k0_off1_54 (i : grid0.Coords) : ClosedOff (k0_off1 i (BitVec.ofNat 32 54)) := ⟨![68 * (i 1).val + 54, 0, 0], k0_off1_eq i ⟨54, by decide⟩⟩
instance closedOff_k0_off1_55 (i : grid0.Coords) : ClosedOff (k0_off1 i (BitVec.ofNat 32 55)) := ⟨![68 * (i 1).val + 55, 0, 0], k0_off1_eq i ⟨55, by decide⟩⟩
instance closedOff_k0_off1_56 (i : grid0.Coords) : ClosedOff (k0_off1 i (BitVec.ofNat 32 56)) := ⟨![68 * (i 1).val + 56, 0, 0], k0_off1_eq i ⟨56, by decide⟩⟩
instance closedOff_k0_off1_57 (i : grid0.Coords) : ClosedOff (k0_off1 i (BitVec.ofNat 32 57)) := ⟨![68 * (i 1).val + 57, 0, 0], k0_off1_eq i ⟨57, by decide⟩⟩
instance closedOff_k0_off1_58 (i : grid0.Coords) : ClosedOff (k0_off1 i (BitVec.ofNat 32 58)) := ⟨![68 * (i 1).val + 58, 0, 0], k0_off1_eq i ⟨58, by decide⟩⟩
instance closedOff_k0_off1_59 (i : grid0.Coords) : ClosedOff (k0_off1 i (BitVec.ofNat 32 59)) := ⟨![68 * (i 1).val + 59, 0, 0], k0_off1_eq i ⟨59, by decide⟩⟩
instance closedOff_k0_off1_60 (i : grid0.Coords) : ClosedOff (k0_off1 i (BitVec.ofNat 32 60)) := ⟨![68 * (i 1).val + 60, 0, 0], k0_off1_eq i ⟨60, by decide⟩⟩
instance closedOff_k0_off1_61 (i : grid0.Coords) : ClosedOff (k0_off1 i (BitVec.ofNat 32 61)) := ⟨![68 * (i 1).val + 61, 0, 0], k0_off1_eq i ⟨61, by decide⟩⟩
instance closedOff_k0_off1_62 (i : grid0.Coords) : ClosedOff (k0_off1 i (BitVec.ofNat 32 62)) := ⟨![68 * (i 1).val + 62, 0, 0], k0_off1_eq i ⟨62, by decide⟩⟩
instance closedOff_k0_off1_63 (i : grid0.Coords) : ClosedOff (k0_off1 i (BitVec.ofNat 32 63)) := ⟨![68 * (i 1).val + 63, 0, 0], k0_off1_eq i ⟨63, by decide⟩⟩
instance closedOff_k0_off1_64 (i : grid0.Coords) : ClosedOff (k0_off1 i (BitVec.ofNat 32 64)) := ⟨![68 * (i 1).val + 64, 0, 0], k0_off1_eq i ⟨64, by decide⟩⟩
instance closedOff_k0_off1_65 (i : grid0.Coords) : ClosedOff (k0_off1 i (BitVec.ofNat 32 65)) := ⟨![68 * (i 1).val + 65, 0, 0], k0_off1_eq i ⟨65, by decide⟩⟩
instance closedOff_k0_off1_66 (i : grid0.Coords) : ClosedOff (k0_off1 i (BitVec.ofNat 32 66)) := ⟨![68 * (i 1).val + 66, 0, 0], k0_off1_eq i ⟨66, by decide⟩⟩
instance closedOff_k0_off1_67 (i : grid0.Coords) : ClosedOff (k0_off1 i (BitVec.ofNat 32 67)) := ⟨![68 * (i 1).val + 67, 0, 0], k0_off1_eq i ⟨67, by decide⟩⟩

end Cert.KernelIdeal.Hand
-- ==== Proof.IRuns.lean ====
/- What the three kinds of grid point share: the two branch conditions in closed form (the first and the last of each 15 points), where output windows are idle, the memrefs a point is handed. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import proofs.«01_k».proof.Proof.IOff
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

abbrev cond0_0 (i : grid0.Coords) : Prop := k0_cond1 i = 1#1
theorem hcond0_0 : ∀ t : Fin cfg0.N, cond0_0 (grid0.coords t) ↔ t.val % 15 = 0 :=
  (fun t => by
    have ht : t.val < 120 := Nat.lt_of_lt_of_eq t.isLt N_0
    have e0 : (grid0.coords t 0).val = t.val / 15 % 8 := Pipeline.Grid.coords_val t 0 (by decide) rfl
    have e1 : (grid0.coords t 1).val = t.val / 1 % 15 := Pipeline.Grid.coords_val t 1 (by decide) rfl
    simp only [cond0_0, k0_cond1, e0, e1]
    word_cmp
   : ∀ t : Fin grid0.N, cond0_0 (grid0.coords t) ↔ t.val % 15 = 0)

abbrev cond0_1 (i : grid0.Coords) : Prop := k0_cond2 i = 1#1
theorem hcond0_1 : ∀ t : Fin cfg0.N, cond0_1 (grid0.coords t) ↔ t.val % 15 = 14 :=
  (fun t => by
    have ht : t.val < 120 := Nat.lt_of_lt_of_eq t.isLt N_0
    have e0 : (grid0.coords t 0).val = t.val / 15 % 8 := Pipeline.Grid.coords_val t 0 (by decide) rfl
    have e1 : (grid0.coords t 1).val = t.val / 1 % 15 := Pipeline.Grid.coords_val t 1 (by decide) rfl
    simp only [cond0_1, k0_cond2, e0, e1]
    word_cmp
   : ∀ t : Fin grid0.N, cond0_1 (grid0.coords t) ↔ t.val % 15 = 14)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem idleAt0_15_A : ∀ t : Fin cfg0.N, cond0_0 (grid0.coords t) → ¬cond0_1 (grid0.coords t) → cfg0.idle 15 (grid0.coords t) = true := by decide +kernel
theorem noFlush0_15_A : ∀ t : Fin cfg0.N, cond0_0 (grid0.coords t) → ¬cond0_1 (grid0.coords t) → (cfg0.win 15).flush t = false := by decide +kernel
theorem idleAt0_15_B : ∀ t : Fin cfg0.N, ¬cond0_0 (grid0.coords t) → ¬cond0_1 (grid0.coords t) → cfg0.idle 15 (grid0.coords t) = true := by decide +kernel
theorem noFlush0_15_B : ∀ t : Fin cfg0.N, ¬cond0_0 (grid0.coords t) → ¬cond0_1 (grid0.coords t) → (cfg0.win 15).flush t = false := by decide +kernel
theorem liveAt0_15_C : ∀ t : Fin cfg0.N, ¬cond0_0 (grid0.coords t) → cond0_1 (grid0.coords t) → cfg0.idle 15 (grid0.coords t) = false := by decide +kernel
def freshTab0_16 : ℕ → Bool
  | 0 => true
  | n + 1 => (0x800100020004000800100020004000 : ℕ).testBit n
theorem freshTab0_16_step : ∀ t : Fin cfg0.N,
    freshTab0_16 (t.val + 1) = ((cfg0.win 16).flush t || (cfg0.idle 16 (cfg0.grid.coords t) && freshTab0_16 t.val)) := by decide +kernel
theorem fresh0_16_eq (t : Fin cfg0.N) : cfg0.fresh 16 t.val = freshTab0_16 t.val :=
  Pipeline.Cfg.fresh_tab cfg0 16 freshTab0_16 rfl freshTab0_16_step t.val (Nat.le_of_lt t.isLt)
theorem liveAt0_16_A : ∀ t : Fin cfg0.N, cond0_0 (grid0.coords t) → ¬cond0_1 (grid0.coords t) → cfg0.idle 16 (grid0.coords t) = false := by decide +kernel
theorem idleAt0_16_B : ∀ t : Fin cfg0.N, ¬cond0_0 (grid0.coords t) → ¬cond0_1 (grid0.coords t) → cfg0.idle 16 (grid0.coords t) = true := by decide +kernel
theorem noFlush0_16_B : ∀ t : Fin cfg0.N, ¬cond0_0 (grid0.coords t) → ¬cond0_1 (grid0.coords t) → (cfg0.win 16).flush t = false := by decide +kernel
theorem idleAt0_16_C : ∀ t : Fin cfg0.N, ¬cond0_0 (grid0.coords t) → cond0_1 (grid0.coords t) → cfg0.idle 16 (grid0.coords t) = true := by decide +kernel
theorem notFresh0_16_C : ∀ t : Fin cfg0.N, ¬cond0_0 (grid0.coords t) → cond0_1 (grid0.coords t) → cfg0.fresh 16 t.val = false := by
  intro t; rw [fresh0_16_eq t]; revert t; decide +kernel
def freshTab0_17 : ℕ → Bool
  | 0 => true
  | n + 1 => (0x800100020004000800100020004000 : ℕ).testBit n
theorem freshTab0_17_step : ∀ t : Fin cfg0.N,
    freshTab0_17 (t.val + 1) = ((cfg0.win 17).flush t || (cfg0.idle 17 (cfg0.grid.coords t) && freshTab0_17 t.val)) := by decide +kernel
theorem fresh0_17_eq (t : Fin cfg0.N) : cfg0.fresh 17 t.val = freshTab0_17 t.val :=
  Pipeline.Cfg.fresh_tab cfg0 17 freshTab0_17 rfl freshTab0_17_step t.val (Nat.le_of_lt t.isLt)
theorem liveAt0_17_A : ∀ t : Fin cfg0.N, cond0_0 (grid0.coords t) → ¬cond0_1 (grid0.coords t) → cfg0.idle 17 (grid0.coords t) = false := by decide +kernel
theorem idleAt0_17_B : ∀ t : Fin cfg0.N, ¬cond0_0 (grid0.coords t) → ¬cond0_1 (grid0.coords t) → cfg0.idle 17 (grid0.coords t) = true := by decide +kernel
theorem noFlush0_17_B : ∀ t : Fin cfg0.N, ¬cond0_0 (grid0.coords t) → ¬cond0_1 (grid0.coords t) → (cfg0.win 17).flush t = false := by decide +kernel
theorem idleAt0_17_C : ∀ t : Fin cfg0.N, ¬cond0_0 (grid0.coords t) → cond0_1 (grid0.coords t) → cfg0.idle 17 (grid0.coords t) = true := by decide +kernel
theorem notFresh0_17_C : ∀ t : Fin cfg0.N, ¬cond0_0 (grid0.coords t) → cond0_1 (grid0.coords t) → cfg0.fresh 17 t.val = false := by
  intro t; rw [fresh0_17_eq t]; revert t; decide +kernel
def freshTab0_18 : ℕ → Bool
  | 0 => true
  | n + 1 => (0x800100020004000800100020004000 : ℕ).testBit n
theorem freshTab0_18_step : ∀ t : Fin cfg0.N,
    freshTab0_18 (t.val + 1) = ((cfg0.win 18).flush t || (cfg0.idle 18 (cfg0.grid.coords t) && freshTab0_18 t.val)) := by decide +kernel
theorem fresh0_18_eq (t : Fin cfg0.N) : cfg0.fresh 18 t.val = freshTab0_18 t.val :=
  Pipeline.Cfg.fresh_tab cfg0 18 freshTab0_18 rfl freshTab0_18_step t.val (Nat.le_of_lt t.isLt)
theorem liveAt0_18_A : ∀ t : Fin cfg0.N, cond0_0 (grid0.coords t) → ¬cond0_1 (grid0.coords t) → cfg0.idle 18 (grid0.coords t) = false := by decide +kernel
theorem idleAt0_18_B : ∀ t : Fin cfg0.N, ¬cond0_0 (grid0.coords t) → ¬cond0_1 (grid0.coords t) → cfg0.idle 18 (grid0.coords t) = true := by decide +kernel
theorem noFlush0_18_B : ∀ t : Fin cfg0.N, ¬cond0_0 (grid0.coords t) → ¬cond0_1 (grid0.coords t) → (cfg0.win 18).flush t = false := by decide +kernel
theorem idleAt0_18_C : ∀ t : Fin cfg0.N, ¬cond0_0 (grid0.coords t) → cond0_1 (grid0.coords t) → cfg0.idle 18 (grid0.coords t) = true := by decide +kernel
theorem notFresh0_18_C : ∀ t : Fin cfg0.N, ¬cond0_0 (grid0.coords t) → cond0_1 (grid0.coords t) → cfg0.fresh 18 t.val = false := by
  intro t; rw [fresh0_18_eq t]; revert t; decide +kernel
def freshTab0_19 : ℕ → Bool
  | 0 => true
  | n + 1 => (0x800100020004000800100020004000 : ℕ).testBit n
theorem freshTab0_19_step : ∀ t : Fin cfg0.N,
    freshTab0_19 (t.val + 1) = ((cfg0.win 19).flush t || (cfg0.idle 19 (cfg0.grid.coords t) && freshTab0_19 t.val)) := by decide +kernel
theorem fresh0_19_eq (t : Fin cfg0.N) : cfg0.fresh 19 t.val = freshTab0_19 t.val :=
  Pipeline.Cfg.fresh_tab cfg0 19 freshTab0_19 rfl freshTab0_19_step t.val (Nat.le_of_lt t.isLt)
theorem liveAt0_19_A : ∀ t : Fin cfg0.N, cond0_0 (grid0.coords t) → ¬cond0_1 (grid0.coords t) → cfg0.idle 19 (grid0.coords t) = false := by decide +kernel
theorem idleAt0_19_B : ∀ t : Fin cfg0.N, ¬cond0_0 (grid0.coords t) → ¬cond0_1 (grid0.coords t) → cfg0.idle 19 (grid0.coords t) = true := by decide +kernel
theorem noFlush0_19_B : ∀ t : Fin cfg0.N, ¬cond0_0 (grid0.coords t) → ¬cond0_1 (grid0.coords t) → (cfg0.win 19).flush t = false := by decide +kernel
theorem idleAt0_19_C : ∀ t : Fin cfg0.N, ¬cond0_0 (grid0.coords t) → cond0_1 (grid0.coords t) → cfg0.idle 19 (grid0.coords t) = true := by decide +kernel
theorem notFresh0_19_C : ∀ t : Fin cfg0.N, ¬cond0_0 (grid0.coords t) → cond0_1 (grid0.coords t) → cfg0.fresh 19 t.val = false := by
  intro t; rw [fresh0_19_eq t]; revert t; decide +kernel
def freshTab0_20 : ℕ → Bool
  | 0 => true
  | n + 1 => (0x800100020004000800100020004000 : ℕ).testBit n
theorem freshTab0_20_step : ∀ t : Fin cfg0.N,
    freshTab0_20 (t.val + 1) = ((cfg0.win 20).flush t || (cfg0.idle 20 (cfg0.grid.coords t) && freshTab0_20 t.val)) := by decide +kernel
theorem fresh0_20_eq (t : Fin cfg0.N) : cfg0.fresh 20 t.val = freshTab0_20 t.val :=
  Pipeline.Cfg.fresh_tab cfg0 20 freshTab0_20 rfl freshTab0_20_step t.val (Nat.le_of_lt t.isLt)
theorem liveAt0_20_A : ∀ t : Fin cfg0.N, cond0_0 (grid0.coords t) → ¬cond0_1 (grid0.coords t) → cfg0.idle 20 (grid0.coords t) = false := by decide +kernel
theorem idleAt0_20_B : ∀ t : Fin cfg0.N, ¬cond0_0 (grid0.coords t) → ¬cond0_1 (grid0.coords t) → cfg0.idle 20 (grid0.coords t) = true := by decide +kernel
theorem noFlush0_20_B : ∀ t : Fin cfg0.N, ¬cond0_0 (grid0.coords t) → ¬cond0_1 (grid0.coords t) → (cfg0.win 20).flush t = false := by decide +kernel
theorem idleAt0_20_C : ∀ t : Fin cfg0.N, ¬cond0_0 (grid0.coords t) → cond0_1 (grid0.coords t) → cfg0.idle 20 (grid0.coords t) = true := by decide +kernel
theorem notFresh0_20_C : ∀ t : Fin cfg0.N, ¬cond0_0 (grid0.coords t) → cond0_1 (grid0.coords t) → cfg0.fresh 20 t.val = false := by
  intro t; rw [fresh0_20_eq t]; revert t; decide +kernel
def freshTab0_21 : ℕ → Bool
  | 0 => true
  | n + 1 => (0x800100020004000800100020004000 : ℕ).testBit n
theorem freshTab0_21_step : ∀ t : Fin cfg0.N,
    freshTab0_21 (t.val + 1) = ((cfg0.win 21).flush t || (cfg0.idle 21 (cfg0.grid.coords t) && freshTab0_21 t.val)) := by decide +kernel
theorem fresh0_21_eq (t : Fin cfg0.N) : cfg0.fresh 21 t.val = freshTab0_21 t.val :=
  Pipeline.Cfg.fresh_tab cfg0 21 freshTab0_21 rfl freshTab0_21_step t.val (Nat.le_of_lt t.isLt)
theorem liveAt0_21_A : ∀ t : Fin cfg0.N, cond0_0 (grid0.coords t) → ¬cond0_1 (grid0.coords t) → cfg0.idle 21 (grid0.coords t) = false := by decide +kernel
theorem idleAt0_21_B : ∀ t : Fin cfg0.N, ¬cond0_0 (grid0.coords t) → ¬cond0_1 (grid0.coords t) → cfg0.idle 21 (grid0.coords t) = true := by decide +kernel
theorem noFlush0_21_B : ∀ t : Fin cfg0.N, ¬cond0_0 (grid0.coords t) → ¬cond0_1 (grid0.coords t) → (cfg0.win 21).flush t = false := by decide +kernel
theorem idleAt0_21_C : ∀ t : Fin cfg0.N, ¬cond0_0 (grid0.coords t) → cond0_1 (grid0.coords t) → cfg0.idle 21 (grid0.coords t) = true := by decide +kernel
theorem notFresh0_21_C : ∀ t : Fin cfg0.N, ¬cond0_0 (grid0.coords t) → cond0_1 (grid0.coords t) → cfg0.fresh 21 t.val = false := by
  intro t; rw [fresh0_21_eq t]; revert t; decide +kernel

/-! ## The kernel body on any staging memrefs: a subtype the run finds -/

abbrev VO0_15 : View sig .tc .vmem S1x1x8x256 .bf16 := (Memref.whole cc0_stg15_0 : Memref sig .tc .vmem S1x1x8x256 .bf16).view
abbrev VO0_16 : View sig .tc .vmem S1x1x1x128 .i8 := (Memref.whole cc0_stg16_0 : Memref sig .tc .vmem S1x1x1x128 .i8).view
abbrev VO0_17 : View sig .tc .vmem S1x1x1x256 .f32 := (Memref.whole cc0_stg17_0 : Memref sig .tc .vmem S1x1x1x256 .f32).view
abbrev VO0_18 : View sig .tc .vmem S1x1x1x256 .f32 := (Memref.whole cc0_stg18_0 : Memref sig .tc .vmem S1x1x1x256 .f32).view
abbrev VO0_19 : View sig .tc .vmem S1x1x1x128 .i8 := (Memref.whole cc0_stg19_0 : Memref sig .tc .vmem S1x1x1x128 .i8).view
abbrev VO0_20 : View sig .tc .vmem S1x1x1x8 .f32 := (Memref.whole cc0_stg20_0 : Memref sig .tc .vmem S1x1x1x8 .f32).view
abbrev VO0_21 : View sig .tc .vmem S1x1x1x8 .f32 := (Memref.whole cc0_stg21_0 : Memref sig .tc .vmem S1x1x1x8 .f32).view
abbrev ms0_0 (t : Fin cfg0.N) : Memref sig .tc .vmem S1x1x8x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2176x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1020x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1020x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x2176x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x2176x8 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x2176x8 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x128x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x128x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x1x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x1x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x8x32 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x8x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x1x128 .i8 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1x1x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1x1x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1x1x128 .i8 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x1x1x8 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x1x1x8 .f32 := win0_21.stage (cfg0.slots t 21)
abbrev hs0_21 (t : Fin cfg0.N) : (ms0_21 t).IsWhole := hstage0_21 ((cfg0.slots t 21).cast nbuf0_21)
abbrev scM0_0 : Memref sig .tc .vmem S8x256 .bf16 := Memref.whole cc0_scratch0
abbrev scM0_1 : Memref sig .tc .vmem S1020x2x256 .bf16 := Memref.whole cc0_scratch1
abbrev scM0_2 : Memref sig .tc .vmem S1020x2x256 .bf16 := Memref.whole cc0_scratch2
abbrev scM0_3 : Memref sig .tc .vmem S8x128 .f32 := Memref.whole cc0_scratch3
abbrev scM0_4 : Memref sig .tc .vmem S8x128 .f32 := Memref.whole cc0_scratch4
abbrev scM0_5 : Memref sig .tc .vmem S8x256 .f32 := Memref.whole cc0_scratch5
abbrev VS0_0 : View sig .tc .vmem S8x256 .bf16 := scM0_0.view
abbrev VS0_1 : View sig .tc .vmem S1020x2x256 .bf16 := scM0_1.view
abbrev VS0_2 : View sig .tc .vmem S1020x2x256 .bf16 := scM0_2.view
abbrev VS0_3 : View sig .tc .vmem S8x128 .f32 := scM0_3.view
abbrev VS0_4 : View sig .tc .vmem S8x128 .f32 := scM0_4.view
abbrev VS0_5 : View sig .tc .vmem S8x256 .f32 := scM0_5.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.IRunA.lean ====
/- The body run whole at the first point of a head (it stores the new token's codes, scales and zeros and starts the running maximum, sum and accumulator): the pieces each buffer ends with are found by the run. -/
module

public import proofs.«01_k».proof.Proof.IRuns

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2356000 in
noncomputable def kernelRun0_A (c : Dev nD) (i : grid0.Coords) (arg2 : Memref sig .tc .vmem S1x1x8x256 .bf16) (harg2 : arg2.IsWhole) (arg3 : Memref sig .tc .vmem S256x256 .bf16) (harg3 : arg3.IsWhole) (arg4 : Memref sig .tc .vmem S8x128 .bf16) (harg4 : arg4.IsWhole) (arg5 : Memref sig .tc .vmem S256x128 .bf16) (harg5 : arg5.IsWhole) (arg6 : Memref sig .tc .vmem S1x1x2176x128 .i8) (harg6 : arg6.IsWhole) (arg7 : Memref sig .tc .vmem S1x1x1020x256 .f32) (harg7 : arg7.IsWhole) (arg8 : Memref sig .tc .vmem S1x1x1020x256 .f32) (harg8 : arg8.IsWhole) (arg9 : Memref sig .tc .vmem S1x1x2176x128 .i8) (harg9 : arg9.IsWhole) (arg10 : Memref sig .tc .vmem S1x1x2176x8 .f32) (harg10 : arg10.IsWhole) (arg11 : Memref sig .tc .vmem S1x1x2176x8 .f32) (harg11 : arg11.IsWhole) (arg12 : Memref sig .tc .vmem S1x1x128x256 .bf16) (harg12 : arg12.IsWhole) (arg13 : Memref sig .tc .vmem S1x1x128x256 .bf16) (harg13 : arg13.IsWhole) (arg14 : Memref sig .tc .vmem S1x1x1x256 .bf16) (harg14 : arg14.IsWhole) (arg15 : Memref sig .tc .vmem S1x1x1x256 .bf16) (harg15 : arg15.IsWhole) (arg16 : Memref sig .tc .vmem S1x1x8x32 .bf16) (harg16 : arg16.IsWhole) (arg17 : Memref sig .tc .vmem S1x1x8x256 .bf16) (harg17 : arg17.IsWhole) (arg18 : Memref sig .tc .vmem S1x1x1x128 .i8) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x128 .i8) (harg21 : arg21.IsWhole) (arg22 : Memref sig .tc .vmem S1x1x1x8 .f32) (harg22 : arg22.IsWhole) (arg23 : Memref sig .tc .vmem S1x1x1x8 .f32) (harg23 : arg23.IsWhole) (arg24 : Memref sig .tc .vmem S8x256 .bf16) (harg24 : arg24.IsWhole) (arg25 : Memref sig .tc .vmem S1020x2x256 .bf16) (harg25 : arg25.IsWhole) (arg26 : Memref sig .tc .vmem S1020x2x256 .bf16) (harg26 : arg26.IsWhole) (arg27 : Memref sig .tc .vmem S8x128 .f32) (harg27 : arg27.IsWhole) (arg28 : Memref sig .tc .vmem S8x128 .f32) (harg28 : arg28.IsWhole) (arg29 : Memref sig .tc .vmem S8x256 .f32) (harg29 : arg29.IsWhole) (hc0 : cond0_0 i) (hc1 : ¬cond0_1 i)
    (x0 : Vec F S1x1x8x256 .bf16) (x1 : Vec F S256x256 .bf16) (x2 : Vec F S8x128 .bf16) (x3 : Vec F S256x128 .bf16) (x4 : Vec F S1x1x2176x128 .i8) (x5 : Vec F S1x1x1020x256 .f32) (x6 : Vec F S1x1x1020x256 .f32) (x7 : Vec F S1x1x2176x128 .i8) (x8 : Vec F S1x1x2176x8 .f32) (x9 : Vec F S1x1x2176x8 .f32) (x10 : Vec F S1x1x128x256 .bf16) (x11 : Vec F S1x1x128x256 .bf16) (x12 : Vec F S1x1x1x256 .bf16) (x13 : Vec F S1x1x1x256 .bf16) (x14 : Vec F S1x1x8x32 .bf16) :
    Σ' (L15 : List (View.Piece (Elt F) S1x1x8x256 .bf16)), Σ' (L16 : List (View.Piece (Elt F) S1x1x1x128 .i8)), Σ' (L17 : List (View.Piece (Elt F) S1x1x1x256 .f32)), Σ' (L18 : List (View.Piece (Elt F) S1x1x1x256 .f32)), Σ' (L19 : List (View.Piece (Elt F) S1x1x1x128 .i8)), Σ' (L20 : List (View.Piece (Elt F) S1x1x1x8 .f32)), Σ' (L21 : List (View.Piece (Elt F) S1x1x1x8 .f32)), Σ' (LS0 : List (View.Piece (Elt F) S8x256 .bf16)), Σ' (LS1 : List (View.Piece (Elt F) S1020x2x256 .bf16)), Σ' (LS2 : List (View.Piece (Elt F) S1020x2x256 .bf16)), Σ' (LS3 : List (View.Piece (Elt F) S8x128 .f32)), Σ' (LS4 : List (View.Piece (Elt F) S8x128 .f32)), { LS5 : List (View.Piece (Elt F) S8x256 .f32) //
      ∀ (xi15 : Vec F S1x1x8x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2) ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4) ∗ (∃ f, arg29.view.loc (c : Thread nD τ) ↦[arg29.view.set]{fullShare} arg29.view.writes (Elt F) f LS5)) -∗ K ⟨⟩))
          ⊢ wp frame (wpE (defs₀ (F := F)) Variants.none c none) E (cc0_kivi4_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨[], ?_, ?_, ?_, ?_, ?_, ?_, ?_, ?_, ?_, ?_, ?_, ?_, fun xi15 E K => ?run⟩
  case run =>
    simp only [cc0_kivi4_decode_eq_skeleton]; unfold cc0_kivi4_decode_skel
    simp only [k0_part7_eq_skeleton, k0_part1_eq_skeleton, k0_part2_eq_skeleton, k0_part3_eq_skeleton, k0_part4_eq_skeleton, k0_part5_eq_skeleton, k0_part6_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

section
variable (c : Dev nD) (i : grid0.Coords) (arg2 : Memref sig .tc .vmem S1x1x8x256 .bf16) (harg2 : arg2.IsWhole) (arg3 : Memref sig .tc .vmem S256x256 .bf16) (harg3 : arg3.IsWhole) (arg4 : Memref sig .tc .vmem S8x128 .bf16) (harg4 : arg4.IsWhole) (arg5 : Memref sig .tc .vmem S256x128 .bf16) (harg5 : arg5.IsWhole) (arg6 : Memref sig .tc .vmem S1x1x2176x128 .i8) (harg6 : arg6.IsWhole) (arg7 : Memref sig .tc .vmem S1x1x1020x256 .f32) (harg7 : arg7.IsWhole) (arg8 : Memref sig .tc .vmem S1x1x1020x256 .f32) (harg8 : arg8.IsWhole) (arg9 : Memref sig .tc .vmem S1x1x2176x128 .i8) (harg9 : arg9.IsWhole) (arg10 : Memref sig .tc .vmem S1x1x2176x8 .f32) (harg10 : arg10.IsWhole) (arg11 : Memref sig .tc .vmem S1x1x2176x8 .f32) (harg11 : arg11.IsWhole) (arg12 : Memref sig .tc .vmem S1x1x128x256 .bf16) (harg12 : arg12.IsWhole) (arg13 : Memref sig .tc .vmem S1x1x128x256 .bf16) (harg13 : arg13.IsWhole) (arg14 : Memref sig .tc .vmem S1x1x1x256 .bf16) (harg14 : arg14.IsWhole) (arg15 : Memref sig .tc .vmem S1x1x1x256 .bf16) (harg15 : arg15.IsWhole) (arg16 : Memref sig .tc .vmem S1x1x8x32 .bf16) (harg16 : arg16.IsWhole) (arg17 : Memref sig .tc .vmem S1x1x8x256 .bf16) (harg17 : arg17.IsWhole) (arg18 : Memref sig .tc .vmem S1x1x1x128 .i8) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x128 .i8) (harg21 : arg21.IsWhole) (arg22 : Memref sig .tc .vmem S1x1x1x8 .f32) (harg22 : arg22.IsWhole) (arg23 : Memref sig .tc .vmem S1x1x1x8 .f32) (harg23 : arg23.IsWhole) (arg24 : Memref sig .tc .vmem S8x256 .bf16) (harg24 : arg24.IsWhole) (arg25 : Memref sig .tc .vmem S1020x2x256 .bf16) (harg25 : arg25.IsWhole) (arg26 : Memref sig .tc .vmem S1020x2x256 .bf16) (harg26 : arg26.IsWhole) (arg27 : Memref sig .tc .vmem S8x128 .f32) (harg27 : arg27.IsWhole) (arg28 : Memref sig .tc .vmem S8x128 .f32) (harg28 : arg28.IsWhole) (arg29 : Memref sig .tc .vmem S8x256 .f32) (harg29 : arg29.IsWhole) (hc0 : cond0_0 i) (hc1 : ¬cond0_1 i)
    (x0 : Vec F S1x1x8x256 .bf16) (x1 : Vec F S256x256 .bf16) (x2 : Vec F S8x128 .bf16) (x3 : Vec F S256x128 .bf16) (x4 : Vec F S1x1x2176x128 .i8) (x5 : Vec F S1x1x1020x256 .f32) (x6 : Vec F S1x1x1020x256 .f32) (x7 : Vec F S1x1x2176x128 .i8) (x8 : Vec F S1x1x2176x8 .f32) (x9 : Vec F S1x1x2176x8 .f32) (x10 : Vec F S1x1x128x256 .bf16) (x11 : Vec F S1x1x128x256 .bf16) (x12 : Vec F S1x1x1x256 .bf16) (x13 : Vec F S1x1x1x256 .bf16) (x14 : Vec F S1x1x8x32 .bf16)

theorem cover0_A_16 (y : S1x1x1x128.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.1 S1x1x1x128.size (by sl_kernel_rfl) y
theorem cover0_A_17 (y : S1x1x1x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.1 S1x1x1x256.size (by sl_kernel_rfl) y
theorem cover0_A_18 (y : S1x1x1x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.1 S1x1x1x256.size (by sl_kernel_rfl) y
theorem cover0_A_19 (y : S1x1x1x128.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.1 S1x1x1x128.size (by sl_kernel_rfl) y
theorem cover0_A_20 (y : S1x1x1x8.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.1 S1x1x1x8.size (by sl_kernel_rfl) y
theorem cover0_A_21 (y : S1x1x1x8.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.1 S1x1x1x8.size (by sl_kernel_rfl) y
theorem scover0_A_0 (y : S8x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.1 S8x256.size (by sl_kernel_rfl) y
theorem scover0_A_1 (y : S1020x2x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.2.1 S1020x2x256.size (by sl_kernel_rfl) y
theorem scover0_A_2 (y : S1020x2x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.2.2.1 S1020x2x256.size (by sl_kernel_rfl) y
theorem scover0_A_3 (y : S8x128.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.2.2.2.1 S8x128.size (by sl_kernel_rfl) y
theorem scover0_A_4 (y : S8x128.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.2.2.2.2.1 S8x128.size (by sl_kernel_rfl) y
theorem scover0_A_5 (y : S8x256.Idx) : ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.2.2.2.2.2.1 S8x256.size (by sl_kernel_rfl) y

end

end Cert.KernelIdeal.Hand

end
-- ==== Proof.IRunB.lean ====
/- The body run whole at a point that is neither the first nor the last of a head: the pieces each buffer ends with are found by the run. -/
module

public import proofs.«01_k».proof.Proof.IRuns

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2032000 in
noncomputable def kernelRun0_B (c : Dev nD) (i : grid0.Coords) (arg2 : Memref sig .tc .vmem S1x1x8x256 .bf16) (harg2 : arg2.IsWhole) (arg3 : Memref sig .tc .vmem S256x256 .bf16) (harg3 : arg3.IsWhole) (arg4 : Memref sig .tc .vmem S8x128 .bf16) (harg4 : arg4.IsWhole) (arg5 : Memref sig .tc .vmem S256x128 .bf16) (harg5 : arg5.IsWhole) (arg6 : Memref sig .tc .vmem S1x1x2176x128 .i8) (harg6 : arg6.IsWhole) (arg7 : Memref sig .tc .vmem S1x1x1020x256 .f32) (harg7 : arg7.IsWhole) (arg8 : Memref sig .tc .vmem S1x1x1020x256 .f32) (harg8 : arg8.IsWhole) (arg9 : Memref sig .tc .vmem S1x1x2176x128 .i8) (harg9 : arg9.IsWhole) (arg10 : Memref sig .tc .vmem S1x1x2176x8 .f32) (harg10 : arg10.IsWhole) (arg11 : Memref sig .tc .vmem S1x1x2176x8 .f32) (harg11 : arg11.IsWhole) (arg12 : Memref sig .tc .vmem S1x1x128x256 .bf16) (harg12 : arg12.IsWhole) (arg13 : Memref sig .tc .vmem S1x1x128x256 .bf16) (harg13 : arg13.IsWhole) (arg14 : Memref sig .tc .vmem S1x1x1x256 .bf16) (harg14 : arg14.IsWhole) (arg15 : Memref sig .tc .vmem S1x1x1x256 .bf16) (harg15 : arg15.IsWhole) (arg16 : Memref sig .tc .vmem S1x1x8x32 .bf16) (harg16 : arg16.IsWhole) (arg17 : Memref sig .tc .vmem S1x1x8x256 .bf16) (harg17 : arg17.IsWhole) (arg18 : Memref sig .tc .vmem S1x1x1x128 .i8) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x128 .i8) (harg21 : arg21.IsWhole) (arg22 : Memref sig .tc .vmem S1x1x1x8 .f32) (harg22 : arg22.IsWhole) (arg23 : Memref sig .tc .vmem S1x1x1x8 .f32) (harg23 : arg23.IsWhole) (arg24 : Memref sig .tc .vmem S8x256 .bf16) (harg24 : arg24.IsWhole) (arg25 : Memref sig .tc .vmem S1020x2x256 .bf16) (harg25 : arg25.IsWhole) (arg26 : Memref sig .tc .vmem S1020x2x256 .bf16) (harg26 : arg26.IsWhole) (arg27 : Memref sig .tc .vmem S8x128 .f32) (harg27 : arg27.IsWhole) (arg28 : Memref sig .tc .vmem S8x128 .f32) (harg28 : arg28.IsWhole) (arg29 : Memref sig .tc .vmem S8x256 .f32) (harg29 : arg29.IsWhole) (hc0 : ¬cond0_0 i) (hc1 : ¬cond0_1 i)
    (x0 : Vec F S1x1x8x256 .bf16) (x1 : Vec F S256x256 .bf16) (x2 : Vec F S8x128 .bf16) (x3 : Vec F S256x128 .bf16) (x4 : Vec F S1x1x2176x128 .i8) (x5 : Vec F S1x1x1020x256 .f32) (x6 : Vec F S1x1x1020x256 .f32) (x7 : Vec F S1x1x2176x128 .i8) (x8 : Vec F S1x1x2176x8 .f32) (x9 : Vec F S1x1x2176x8 .f32) (x10 : Vec F S1x1x128x256 .bf16) (x11 : Vec F S1x1x128x256 .bf16) (x12 : Vec F S1x1x1x256 .bf16) (x13 : Vec F S1x1x1x256 .bf16) (x14 : Vec F S1x1x8x32 .bf16) (xs0 : Vec F S8x256 .bf16) (xs1 : Vec F S1020x2x256 .bf16) (xs2 : Vec F S1020x2x256 .bf16) (xs3 : Vec F S8x128 .f32) (xs4 : Vec F S8x128 .f32) (xs5 : Vec F S8x256 .f32) :
    Σ' (L15 : List (View.Piece (Elt F) S1x1x8x256 .bf16)), Σ' (L16 : List (View.Piece (Elt F) S1x1x1x128 .i8)), Σ' (L17 : List (View.Piece (Elt F) S1x1x1x256 .f32)), Σ' (L18 : List (View.Piece (Elt F) S1x1x1x256 .f32)), Σ' (L19 : List (View.Piece (Elt F) S1x1x1x128 .i8)), Σ' (L20 : List (View.Piece (Elt F) S1x1x1x8 .f32)), Σ' (L21 : List (View.Piece (Elt F) S1x1x1x8 .f32)), Σ' (LS0 : List (View.Piece (Elt F) S8x256 .bf16)), Σ' (LS1 : List (View.Piece (Elt F) S1020x2x256 .bf16)), Σ' (LS2 : List (View.Piece (Elt F) S1020x2x256 .bf16)), Σ' (LS3 : List (View.Piece (Elt F) S8x128 .f32)), Σ' (LS4 : List (View.Piece (Elt F) S8x128 .f32)), { LS5 : List (View.Piece (Elt F) S8x256 .f32) //
      ∀ (xi15 : Vec F S1x1x8x256 .bf16) (xi16 : Vec F S1x1x1x128 .i8) (xi17 : Vec F S1x1x1x256 .f32) (xi18 : Vec F S1x1x1x256 .f32) (xi19 : Vec F S1x1x1x128 .i8) (xi20 : Vec F S1x1x1x8 .f32) (xi21 : Vec F S1x1x1x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ owns (c : Thread nD τ) arg18 fullShare xi16 ∗ owns (c : Thread nD τ) arg19 fullShare xi17 ∗ owns (c : Thread nD τ) arg20 fullShare xi18 ∗ owns (c : Thread nD τ) arg21 fullShare xi19 ∗ owns (c : Thread nD τ) arg22 fullShare xi20 ∗ owns (c : Thread nD τ) arg23 fullShare xi21 ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4 ∗ owns (c : Thread nD τ) arg29 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ owns (c : Thread nD τ) arg18 fullShare xi16 ∗ owns (c : Thread nD τ) arg19 fullShare xi17 ∗ owns (c : Thread nD τ) arg20 fullShare xi18 ∗ owns (c : Thread nD τ) arg21 fullShare xi19 ∗ owns (c : Thread nD τ) arg22 fullShare xi20 ∗ owns (c : Thread nD τ) arg23 fullShare xi21 ∗ owns (c : Thread nD τ) arg24 fullShare xs0 ∗ owns (c : Thread nD τ) arg25 fullShare xs1 ∗ owns (c : Thread nD τ) arg26 fullShare xs2 ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4) ∗ (∃ f, arg29.view.loc (c : Thread nD τ) ↦[arg29.view.set]{fullShare} arg29.view.writes (Elt F) f LS5)) -∗ K ⟨⟩))
          ⊢ wp frame (wpE (defs₀ (F := F)) Variants.none c none) E (cc0_kivi4_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨[], [], [], [], [], [], [], [], [], [], ?_, ?_, ?_, fun xi15 xi16 xi17 xi18 xi19 xi20 xi21 E K => ?run⟩
  case run =>
    simp only [cc0_kivi4_decode_eq_skeleton]; unfold cc0_kivi4_decode_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hfs0; obtain rfl := harg25.eq_unread hfs1; obtain rfl := harg26.eq_unread hfs2; obtain rfl := harg27.eq_unread hfs3; obtain rfl := harg28.eq_unread hfs4; obtain rfl := harg29.eq_unread hfs5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [HS0]
    · iexists _; isplitr; · ipureintro; exact harg24.read_unread _
      iexact HS0
    isplitl [HS1]
    · iexists _; isplitr; · ipureintro; exact harg25.read_unread _
      iexact HS1
    isplitl [HS2]
    · iexists _; isplitr; · ipureintro; exact harg26.read_unread _
      iexact HS2
    isplitl [HS3]; · iexists _; iexact HS3
    isplitl [HS4]; · iexists _; iexact HS4
    iexists _; iexact HS5

section
variable (c : Dev nD) (i : grid0.Coords) (arg2 : Memref sig .tc .vmem S1x1x8x256 .bf16) (harg2 : arg2.IsWhole) (arg3 : Memref sig .tc .vmem S256x256 .bf16) (harg3 : arg3.IsWhole) (arg4 : Memref sig .tc .vmem S8x128 .bf16) (harg4 : arg4.IsWhole) (arg5 : Memref sig .tc .vmem S256x128 .bf16) (harg5 : arg5.IsWhole) (arg6 : Memref sig .tc .vmem S1x1x2176x128 .i8) (harg6 : arg6.IsWhole) (arg7 : Memref sig .tc .vmem S1x1x1020x256 .f32) (harg7 : arg7.IsWhole) (arg8 : Memref sig .tc .vmem S1x1x1020x256 .f32) (harg8 : arg8.IsWhole) (arg9 : Memref sig .tc .vmem S1x1x2176x128 .i8) (harg9 : arg9.IsWhole) (arg10 : Memref sig .tc .vmem S1x1x2176x8 .f32) (harg10 : arg10.IsWhole) (arg11 : Memref sig .tc .vmem S1x1x2176x8 .f32) (harg11 : arg11.IsWhole) (arg12 : Memref sig .tc .vmem S1x1x128x256 .bf16) (harg12 : arg12.IsWhole) (arg13 : Memref sig .tc .vmem S1x1x128x256 .bf16) (harg13 : arg13.IsWhole) (arg14 : Memref sig .tc .vmem S1x1x1x256 .bf16) (harg14 : arg14.IsWhole) (arg15 : Memref sig .tc .vmem S1x1x1x256 .bf16) (harg15 : arg15.IsWhole) (arg16 : Memref sig .tc .vmem S1x1x8x32 .bf16) (harg16 : arg16.IsWhole) (arg17 : Memref sig .tc .vmem S1x1x8x256 .bf16) (harg17 : arg17.IsWhole) (arg18 : Memref sig .tc .vmem S1x1x1x128 .i8) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x128 .i8) (harg21 : arg21.IsWhole) (arg22 : Memref sig .tc .vmem S1x1x1x8 .f32) (harg22 : arg22.IsWhole) (arg23 : Memref sig .tc .vmem S1x1x1x8 .f32) (harg23 : arg23.IsWhole) (arg24 : Memref sig .tc .vmem S8x256 .bf16) (harg24 : arg24.IsWhole) (arg25 : Memref sig .tc .vmem S1020x2x256 .bf16) (harg25 : arg25.IsWhole) (arg26 : Memref sig .tc .vmem S1020x2x256 .bf16) (harg26 : arg26.IsWhole) (arg27 : Memref sig .tc .vmem S8x128 .f32) (harg27 : arg27.IsWhole) (arg28 : Memref sig .tc .vmem S8x128 .f32) (harg28 : arg28.IsWhole) (arg29 : Memref sig .tc .vmem S8x256 .f32) (harg29 : arg29.IsWhole) (hc0 : ¬cond0_0 i) (hc1 : ¬cond0_1 i)
    (x0 : Vec F S1x1x8x256 .bf16) (x1 : Vec F S256x256 .bf16) (x2 : Vec F S8x128 .bf16) (x3 : Vec F S256x128 .bf16) (x4 : Vec F S1x1x2176x128 .i8) (x5 : Vec F S1x1x1020x256 .f32) (x6 : Vec F S1x1x1020x256 .f32) (x7 : Vec F S1x1x2176x128 .i8) (x8 : Vec F S1x1x2176x8 .f32) (x9 : Vec F S1x1x2176x8 .f32) (x10 : Vec F S1x1x128x256 .bf16) (x11 : Vec F S1x1x128x256 .bf16) (x12 : Vec F S1x1x1x256 .bf16) (x13 : Vec F S1x1x1x256 .bf16) (x14 : Vec F S1x1x8x32 .bf16) (xs0 : Vec F S8x256 .bf16) (xs1 : Vec F S1020x2x256 .bf16) (xs2 : Vec F S1020x2x256 .bf16) (xs3 : Vec F S8x128 .f32) (xs4 : Vec F S8x128 .f32) (xs5 : Vec F S8x256 .f32)

theorem scover0_B_3 (y : S8x128.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.1 S8x128.size (by sl_kernel_rfl) y
theorem scover0_B_4 (y : S8x128.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.2.1 S8x128.size (by sl_kernel_rfl) y
theorem scover0_B_5 (y : S8x256.Idx) : ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.2.2.1 S8x256.size (by sl_kernel_rfl) y

end

end Cert.KernelIdeal.Hand

end
-- ==== Proof.IRunC.lean ====
/- The body run whole at the last point of a head (it also stores the attention output): the pieces each buffer ends with are found by the run. -/
module

public import proofs.«01_k».proof.Proof.IRuns

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2044000 in
noncomputable def kernelRun0_C (c : Dev nD) (i : grid0.Coords) (arg2 : Memref sig .tc .vmem S1x1x8x256 .bf16) (harg2 : arg2.IsWhole) (arg3 : Memref sig .tc .vmem S256x256 .bf16) (harg3 : arg3.IsWhole) (arg4 : Memref sig .tc .vmem S8x128 .bf16) (harg4 : arg4.IsWhole) (arg5 : Memref sig .tc .vmem S256x128 .bf16) (harg5 : arg5.IsWhole) (arg6 : Memref sig .tc .vmem S1x1x2176x128 .i8) (harg6 : arg6.IsWhole) (arg7 : Memref sig .tc .vmem S1x1x1020x256 .f32) (harg7 : arg7.IsWhole) (arg8 : Memref sig .tc .vmem S1x1x1020x256 .f32) (harg8 : arg8.IsWhole) (arg9 : Memref sig .tc .vmem S1x1x2176x128 .i8) (harg9 : arg9.IsWhole) (arg10 : Memref sig .tc .vmem S1x1x2176x8 .f32) (harg10 : arg10.IsWhole) (arg11 : Memref sig .tc .vmem S1x1x2176x8 .f32) (harg11 : arg11.IsWhole) (arg12 : Memref sig .tc .vmem S1x1x128x256 .bf16) (harg12 : arg12.IsWhole) (arg13 : Memref sig .tc .vmem S1x1x128x256 .bf16) (harg13 : arg13.IsWhole) (arg14 : Memref sig .tc .vmem S1x1x1x256 .bf16) (harg14 : arg14.IsWhole) (arg15 : Memref sig .tc .vmem S1x1x1x256 .bf16) (harg15 : arg15.IsWhole) (arg16 : Memref sig .tc .vmem S1x1x8x32 .bf16) (harg16 : arg16.IsWhole) (arg17 : Memref sig .tc .vmem S1x1x8x256 .bf16) (harg17 : arg17.IsWhole) (arg18 : Memref sig .tc .vmem S1x1x1x128 .i8) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x128 .i8) (harg21 : arg21.IsWhole) (arg22 : Memref sig .tc .vmem S1x1x1x8 .f32) (harg22 : arg22.IsWhole) (arg23 : Memref sig .tc .vmem S1x1x1x8 .f32) (harg23 : arg23.IsWhole) (arg24 : Memref sig .tc .vmem S8x256 .bf16) (harg24 : arg24.IsWhole) (arg25 : Memref sig .tc .vmem S1020x2x256 .bf16) (harg25 : arg25.IsWhole) (arg26 : Memref sig .tc .vmem S1020x2x256 .bf16) (harg26 : arg26.IsWhole) (arg27 : Memref sig .tc .vmem S8x128 .f32) (harg27 : arg27.IsWhole) (arg28 : Memref sig .tc .vmem S8x128 .f32) (harg28 : arg28.IsWhole) (arg29 : Memref sig .tc .vmem S8x256 .f32) (harg29 : arg29.IsWhole) (hc0 : ¬cond0_0 i) (hc1 : cond0_1 i)
    (x0 : Vec F S1x1x8x256 .bf16) (x1 : Vec F S256x256 .bf16) (x2 : Vec F S8x128 .bf16) (x3 : Vec F S256x128 .bf16) (x4 : Vec F S1x1x2176x128 .i8) (x5 : Vec F S1x1x1020x256 .f32) (x6 : Vec F S1x1x1020x256 .f32) (x7 : Vec F S1x1x2176x128 .i8) (x8 : Vec F S1x1x2176x8 .f32) (x9 : Vec F S1x1x2176x8 .f32) (x10 : Vec F S1x1x128x256 .bf16) (x11 : Vec F S1x1x128x256 .bf16) (x12 : Vec F S1x1x1x256 .bf16) (x13 : Vec F S1x1x1x256 .bf16) (x14 : Vec F S1x1x8x32 .bf16) (xo16 : Vec F S1x1x1x128 .i8) (xo17 : Vec F S1x1x1x256 .f32) (xo18 : Vec F S1x1x1x256 .f32) (xo19 : Vec F S1x1x1x128 .i8) (xo20 : Vec F S1x1x1x8 .f32) (xo21 : Vec F S1x1x1x8 .f32) (xs0 : Vec F S8x256 .bf16) (xs1 : Vec F S1020x2x256 .bf16) (xs2 : Vec F S1020x2x256 .bf16) (xs3 : Vec F S8x128 .f32) (xs4 : Vec F S8x128 .f32) (xs5 : Vec F S8x256 .f32) :
    Σ' (L15 : List (View.Piece (Elt F) S1x1x8x256 .bf16)), Σ' (L16 : List (View.Piece (Elt F) S1x1x1x128 .i8)), Σ' (L17 : List (View.Piece (Elt F) S1x1x1x256 .f32)), Σ' (L18 : List (View.Piece (Elt F) S1x1x1x256 .f32)), Σ' (L19 : List (View.Piece (Elt F) S1x1x1x128 .i8)), Σ' (L20 : List (View.Piece (Elt F) S1x1x1x8 .f32)), Σ' (L21 : List (View.Piece (Elt F) S1x1x1x8 .f32)), Σ' (LS0 : List (View.Piece (Elt F) S8x256 .bf16)), Σ' (LS1 : List (View.Piece (Elt F) S1020x2x256 .bf16)), Σ' (LS2 : List (View.Piece (Elt F) S1020x2x256 .bf16)), Σ' (LS3 : List (View.Piece (Elt F) S8x128 .f32)), Σ' (LS4 : List (View.Piece (Elt F) S8x128 .f32)), { LS5 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xo16 ∗ owns (c : Thread nD τ) arg19 fullShare xo17 ∗ owns (c : Thread nD τ) arg20 fullShare xo18 ∗ owns (c : Thread nD τ) arg21 fullShare xo19 ∗ owns (c : Thread nD τ) arg22 fullShare xo20 ∗ owns (c : Thread nD τ) arg23 fullShare xo21 ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4 ∗ owns (c : Thread nD τ) arg29 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ owns (c : Thread nD τ) arg18 fullShare xo16 ∗ owns (c : Thread nD τ) arg19 fullShare xo17 ∗ owns (c : Thread nD τ) arg20 fullShare xo18 ∗ owns (c : Thread nD τ) arg21 fullShare xo19 ∗ owns (c : Thread nD τ) arg22 fullShare xo20 ∗ owns (c : Thread nD τ) arg23 fullShare xo21 ∗ owns (c : Thread nD τ) arg24 fullShare xs0 ∗ owns (c : Thread nD τ) arg25 fullShare xs1 ∗ owns (c : Thread nD τ) arg26 fullShare xs2 ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4) ∗ (∃ f, arg29.view.loc (c : Thread nD τ) ↦[arg29.view.set]{fullShare} arg29.view.writes (Elt F) f LS5)) -∗ K ⟨⟩))
          ⊢ wp frame (wpE (defs₀ (F := F)) Variants.none c none) E (cc0_kivi4_decode i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, [], [], [], [], [], [], [], [], [], ?_, ?_, ?_, fun E K => ?run⟩
  case run =>
    simp only [cc0_kivi4_decode_eq_skeleton]; unfold cc0_kivi4_decode_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hfs0; obtain rfl := harg25.eq_unread hfs1; obtain rfl := harg26.eq_unread hfs2; obtain rfl := harg27.eq_unread hfs3; obtain rfl := harg28.eq_unread hfs4; obtain rfl := harg29.eq_unread hfs5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [HS0]
    · iexists _; isplitr; · ipureintro; exact harg24.read_unread _
      iexact HS0
    isplitl [HS1]
    · iexists _; isplitr; · ipureintro; exact harg25.read_unread _
      iexact HS1
    isplitl [HS2]
    · iexists _; isplitr; · ipureintro; exact harg26.read_unread _
      iexact HS2
    isplitl [HS3]; · iexists _; iexact HS3
    isplitl [HS4]; · iexists _; iexact HS4
    iexists _; iexact HS5

section
variable (c : Dev nD) (i : grid0.Coords) (arg2 : Memref sig .tc .vmem S1x1x8x256 .bf16) (harg2 : arg2.IsWhole) (arg3 : Memref sig .tc .vmem S256x256 .bf16) (harg3 : arg3.IsWhole) (arg4 : Memref sig .tc .vmem S8x128 .bf16) (harg4 : arg4.IsWhole) (arg5 : Memref sig .tc .vmem S256x128 .bf16) (harg5 : arg5.IsWhole) (arg6 : Memref sig .tc .vmem S1x1x2176x128 .i8) (harg6 : arg6.IsWhole) (arg7 : Memref sig .tc .vmem S1x1x1020x256 .f32) (harg7 : arg7.IsWhole) (arg8 : Memref sig .tc .vmem S1x1x1020x256 .f32) (harg8 : arg8.IsWhole) (arg9 : Memref sig .tc .vmem S1x1x2176x128 .i8) (harg9 : arg9.IsWhole) (arg10 : Memref sig .tc .vmem S1x1x2176x8 .f32) (harg10 : arg10.IsWhole) (arg11 : Memref sig .tc .vmem S1x1x2176x8 .f32) (harg11 : arg11.IsWhole) (arg12 : Memref sig .tc .vmem S1x1x128x256 .bf16) (harg12 : arg12.IsWhole) (arg13 : Memref sig .tc .vmem S1x1x128x256 .bf16) (harg13 : arg13.IsWhole) (arg14 : Memref sig .tc .vmem S1x1x1x256 .bf16) (harg14 : arg14.IsWhole) (arg15 : Memref sig .tc .vmem S1x1x1x256 .bf16) (harg15 : arg15.IsWhole) (arg16 : Memref sig .tc .vmem S1x1x8x32 .bf16) (harg16 : arg16.IsWhole) (arg17 : Memref sig .tc .vmem S1x1x8x256 .bf16) (harg17 : arg17.IsWhole) (arg18 : Memref sig .tc .vmem S1x1x1x128 .i8) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x128 .i8) (harg21 : arg21.IsWhole) (arg22 : Memref sig .tc .vmem S1x1x1x8 .f32) (harg22 : arg22.IsWhole) (arg23 : Memref sig .tc .vmem S1x1x1x8 .f32) (harg23 : arg23.IsWhole) (arg24 : Memref sig .tc .vmem S8x256 .bf16) (harg24 : arg24.IsWhole) (arg25 : Memref sig .tc .vmem S1020x2x256 .bf16) (harg25 : arg25.IsWhole) (arg26 : Memref sig .tc .vmem S1020x2x256 .bf16) (harg26 : arg26.IsWhole) (arg27 : Memref sig .tc .vmem S8x128 .f32) (harg27 : arg27.IsWhole) (arg28 : Memref sig .tc .vmem S8x128 .f32) (harg28 : arg28.IsWhole) (arg29 : Memref sig .tc .vmem S8x256 .f32) (harg29 : arg29.IsWhole) (hc0 : ¬cond0_0 i) (hc1 : cond0_1 i)
    (x0 : Vec F S1x1x8x256 .bf16) (x1 : Vec F S256x256 .bf16) (x2 : Vec F S8x128 .bf16) (x3 : Vec F S256x128 .bf16) (x4 : Vec F S1x1x2176x128 .i8) (x5 : Vec F S1x1x1020x256 .f32) (x6 : Vec F S1x1x1020x256 .f32) (x7 : Vec F S1x1x2176x128 .i8) (x8 : Vec F S1x1x2176x8 .f32) (x9 : Vec F S1x1x2176x8 .f32) (x10 : Vec F S1x1x128x256 .bf16) (x11 : Vec F S1x1x128x256 .bf16) (x12 : Vec F S1x1x1x256 .bf16) (x13 : Vec F S1x1x1x256 .bf16) (x14 : Vec F S1x1x8x32 .bf16) (xo16 : Vec F S1x1x1x128 .i8) (xo17 : Vec F S1x1x1x256 .f32) (xo18 : Vec F S1x1x1x256 .f32) (xo19 : Vec F S1x1x1x128 .i8) (xo20 : Vec F S1x1x1x8 .f32) (xo21 : Vec F S1x1x1x8 .f32) (xs0 : Vec F S8x256 .bf16) (xs1 : Vec F S1020x2x256 .bf16) (xs2 : Vec F S1020x2x256 .bf16) (xs3 : Vec F S8x128 .f32) (xs4 : Vec F S8x128 .f32) (xs5 : Vec F S8x256 .f32)

theorem cover0_C_15 (y : S1x1x8x256.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5).1 S1x1x8x256.size (by sl_kernel_rfl) y
theorem scover0_C_3 (y : S8x128.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5).2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5).2.2.2.2.2.2.2.2.2.2.1 S8x128.size (by sl_kernel_rfl) y
theorem scover0_C_4 (y : S8x128.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5).2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5).2.2.2.2.2.2.2.2.2.2.2.1 S8x128.size (by sl_kernel_rfl) y
theorem scover0_C_5 (y : S8x256.Idx) : ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5).2.2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5).2.2.2.2.2.2.2.2.2.2.2.2.1 S8x256.size (by sl_kernel_rfl) y

end

end Cert.KernelIdeal.Hand

end
-- ==== Proof.IFrame.lean ====
/- The idealized kernel point by point: what the outputs and the carried scratch hold after each point, the body at every point, the run and the frame. -/
module

public import proofs.«01_k».proof.Proof.IRunA
public import proofs.«01_k».proof.Proof.IRunB
public import proofs.«01_k».proof.Proof.IRunC
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a list of pieces leaves in output 15's block. -/
abbrev rd15 (L : List (View.Piece (Elt F) S1x1x8x256 .bf16)) : Vec F S1x1x8x256 .bf16 := VO0_15.read (Elt F) (VO0_15.writes (Elt F) VO0_15.junk L)
/-- What a list of pieces leaves in output 16's block. -/
abbrev rd16 (L : List (View.Piece (Elt F) S1x1x1x128 .i8)) : Vec F S1x1x1x128 .i8 := VO0_16.read (Elt F) (VO0_16.writes (Elt F) VO0_16.junk L)
/-- What a list of pieces leaves in output 17's block. -/
abbrev rd17 (L : List (View.Piece (Elt F) S1x1x1x256 .f32)) : Vec F S1x1x1x256 .f32 := VO0_17.read (Elt F) (VO0_17.writes (Elt F) VO0_17.junk L)
/-- What a list of pieces leaves in output 18's block. -/
abbrev rd18 (L : List (View.Piece (Elt F) S1x1x1x256 .f32)) : Vec F S1x1x1x256 .f32 := VO0_18.read (Elt F) (VO0_18.writes (Elt F) VO0_18.junk L)
/-- What a list of pieces leaves in output 19's block. -/
abbrev rd19 (L : List (View.Piece (Elt F) S1x1x1x128 .i8)) : Vec F S1x1x1x128 .i8 := VO0_19.read (Elt F) (VO0_19.writes (Elt F) VO0_19.junk L)
/-- What a list of pieces leaves in output 20's block. -/
abbrev rd20 (L : List (View.Piece (Elt F) S1x1x1x8 .f32)) : Vec F S1x1x1x8 .f32 := VO0_20.read (Elt F) (VO0_20.writes (Elt F) VO0_20.junk L)
/-- What a list of pieces leaves in output 21's block. -/
abbrev rd21 (L : List (View.Piece (Elt F) S1x1x1x8 .f32)) : Vec F S1x1x1x8 .f32 := VO0_21.read (Elt F) (VO0_21.writes (Elt F) VO0_21.junk L)
/-- What a list of pieces leaves in carried scratch 0. -/
abbrev rs0 (L : List (View.Piece (Elt F) S8x256 .bf16)) : Vec F S8x256 .bf16 := VS0_0.read (Elt F) (VS0_0.writes (Elt F) VS0_0.junk L)
/-- What a list of pieces leaves in carried scratch 1. -/
abbrev rs1 (L : List (View.Piece (Elt F) S1020x2x256 .bf16)) : Vec F S1020x2x256 .bf16 := VS0_1.read (Elt F) (VS0_1.writes (Elt F) VS0_1.junk L)
/-- What a list of pieces leaves in carried scratch 2. -/
abbrev rs2 (L : List (View.Piece (Elt F) S1020x2x256 .bf16)) : Vec F S1020x2x256 .bf16 := VS0_2.read (Elt F) (VS0_2.writes (Elt F) VS0_2.junk L)
/-- What a list of pieces leaves in carried scratch 3. -/
abbrev rs3 (L : List (View.Piece (Elt F) S8x128 .f32)) : Vec F S8x128 .f32 := VS0_3.read (Elt F) (VS0_3.writes (Elt F) VS0_3.junk L)
/-- What a list of pieces leaves in carried scratch 4. -/
abbrev rs4 (L : List (View.Piece (Elt F) S8x128 .f32)) : Vec F S8x128 .f32 := VS0_4.read (Elt F) (VS0_4.writes (Elt F) VS0_4.junk L)
/-- What a list of pieces leaves in carried scratch 5. -/
abbrev rs5 (L : List (View.Piece (Elt F) S8x256 .f32)) : Vec F S8x256 .f32 := VS0_5.read (Elt F) (VS0_5.writes (Elt F) VS0_5.junk L)

variable (F) in
/-- The seven output blocks and the six carried scratch arrays after a point. -/
abbrev St : Type := Vec F S1x1x8x256 .bf16 × Vec F S1x1x1x128 .i8 × Vec F S1x1x1x256 .f32 × Vec F S1x1x1x256 .f32 × Vec F S1x1x1x128 .i8 × Vec F S1x1x1x8 .f32 × Vec F S1x1x1x8 .f32 × Vec F S8x256 .bf16 × Vec F S1020x2x256 .bf16 × Vec F S1020x2x256 .bf16 × Vec F S8x128 .f32 × Vec F S8x128 .f32 × Vec F S8x256 .f32

/-- The body's run at a point of kind A. -/
abbrev runA (c : Dev nD) (t : Fin cfg0.N) (h0 : t.val % 15 = 0) (h1 : ¬t.val % 15 = 14) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The body's run at a point of kind B. -/
abbrev runB (c : Dev nD) (t : Fin cfg0.N) (h0 : ¬t.val % 15 = 0) (h1 : ¬t.val % 15 = 14) (acc : St F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) acc.2.2.2.2.2.2.2.1 acc.2.2.2.2.2.2.2.2.1 acc.2.2.2.2.2.2.2.2.2.1 acc.2.2.2.2.2.2.2.2.2.2.1 acc.2.2.2.2.2.2.2.2.2.2.2.1 acc.2.2.2.2.2.2.2.2.2.2.2.2

/-- The body's run at a point of kind C. -/
abbrev runC (c : Dev nD) (t : Fin cfg0.N) (h0 : ¬t.val % 15 = 0) (h1 : t.val % 15 = 14) (acc : St F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) acc.2.1 acc.2.2.1 acc.2.2.2.1 acc.2.2.2.2.1 acc.2.2.2.2.2.1 acc.2.2.2.2.2.2.1 acc.2.2.2.2.2.2.2.1 acc.2.2.2.2.2.2.2.2.1 acc.2.2.2.2.2.2.2.2.2.1 acc.2.2.2.2.2.2.2.2.2.2.1 acc.2.2.2.2.2.2.2.2.2.2.2.1 acc.2.2.2.2.2.2.2.2.2.2.2.2

/-- What a point of kind A leaves. -/
def stA (c : Dev nD) (t : Fin cfg0.N) (h0 : t.val % 15 = 0) (h1 : ¬t.val % 15 = 14) : St F :=
  (rd15 [],
   rd16 (runA m c t h0 h1).2.1,
   rd17 (runA m c t h0 h1).2.2.1,
   rd18 (runA m c t h0 h1).2.2.2.1,
   rd19 (runA m c t h0 h1).2.2.2.2.1,
   rd20 (runA m c t h0 h1).2.2.2.2.2.1,
   rd21 (runA m c t h0 h1).2.2.2.2.2.2.1,
   rs0 (runA m c t h0 h1).2.2.2.2.2.2.2.1,
   rs1 (runA m c t h0 h1).2.2.2.2.2.2.2.2.1,
   rs2 (runA m c t h0 h1).2.2.2.2.2.2.2.2.2.1,
   rs3 (runA m c t h0 h1).2.2.2.2.2.2.2.2.2.2.1,
   rs4 (runA m c t h0 h1).2.2.2.2.2.2.2.2.2.2.2.1,
   rs5 (runA m c t h0 h1).2.2.2.2.2.2.2.2.2.2.2.2.1)

/-- What a point of kind B leaves. -/
def stB (c : Dev nD) (t : Fin cfg0.N) (h0 : ¬t.val % 15 = 0) (h1 : ¬t.val % 15 = 14) (acc : St F) : St F :=
  (rd15 [],
   acc.2.1,
   acc.2.2.1,
   acc.2.2.2.1,
   acc.2.2.2.2.1,
   acc.2.2.2.2.2.1,
   acc.2.2.2.2.2.2.1,
   acc.2.2.2.2.2.2.2.1,
   acc.2.2.2.2.2.2.2.2.1,
   acc.2.2.2.2.2.2.2.2.2.1,
   rs3 (runB m c t h0 h1 acc).2.2.2.2.2.2.2.2.2.2.1,
   rs4 (runB m c t h0 h1 acc).2.2.2.2.2.2.2.2.2.2.2.1,
   rs5 (runB m c t h0 h1 acc).2.2.2.2.2.2.2.2.2.2.2.2.1)

/-- What a point of kind C leaves. -/
def stC (c : Dev nD) (t : Fin cfg0.N) (h0 : ¬t.val % 15 = 0) (h1 : t.val % 15 = 14) (acc : St F) : St F :=
  (rd15 (runC m c t h0 h1 acc).1,
   acc.2.1,
   acc.2.2.1,
   acc.2.2.2.1,
   acc.2.2.2.2.1,
   acc.2.2.2.2.2.1,
   acc.2.2.2.2.2.2.1,
   acc.2.2.2.2.2.2.2.1,
   acc.2.2.2.2.2.2.2.2.1,
   acc.2.2.2.2.2.2.2.2.2.1,
   rs3 (runC m c t h0 h1 acc).2.2.2.2.2.2.2.2.2.2.1,
   rs4 (runC m c t h0 h1 acc).2.2.2.2.2.2.2.2.2.2.2.1,
   rs5 (runC m c t h0 h1 acc).2.2.2.2.2.2.2.2.2.2.2.2.1)

/-- What the outputs and the carried scratch hold after each point. -/
def outsAt0 (c : Dev nD) : (n : ℕ) → n < cfg0.N → St F
  | 0, hn => stA m c ⟨0, hn⟩ (by rfl) (by show ¬ 0 % 15 = 14; decide)
  | n + 1, hn =>
    if h0 : (n + 1) % 15 = 0 then stA m c ⟨n + 1, hn⟩ h0 (by show ¬ (n + 1) % 15 = 14; omega)
    else if h1 : (n + 1) % 15 = 14 then stC m c ⟨n + 1, hn⟩ h0 h1 (outsAt0 c n (Nat.lt_of_succ_lt hn))
    else stB m c ⟨n + 1, hn⟩ h0 h1 (outsAt0 c n (Nat.lt_of_succ_lt hn))

theorem outsAt0_A (c : Dev nD) (t : Fin cfg0.N) (h0 : t.val % 15 = 0) (h1 : ¬t.val % 15 = 14) :
    outsAt0 m c t.val t.isLt = stA m c t h0 h1 := by
  obtain ⟨n, hn⟩ := t
  cases n with
  | zero => rfl
  | succ n => exact dif_pos h0

theorem outsAt0_B (c : Dev nD) (t : Fin cfg0.N) (h0 : ¬t.val % 15 = 0) (h1 : ¬t.val % 15 = 14) :
    outsAt0 m c t.val t.isLt = stB m c t h0 h1 (outsAt0 m c (t.val - 1) (Nat.lt_of_le_of_lt (Nat.sub_le _ _) t.isLt)) := by
  obtain ⟨n, hn⟩ := t
  cases n with
  | zero => exact absurd rfl h0
  | succ n => exact (dif_neg h0).trans (dif_neg h1)

theorem outsAt0_C (c : Dev nD) (t : Fin cfg0.N) (h0 : ¬t.val % 15 = 0) (h1 : t.val % 15 = 14) :
    outsAt0 m c t.val t.isLt = stC m c t h0 h1 (outsAt0 m c (t.val - 1) (Nat.lt_of_le_of_lt (Nat.sub_le _ _) t.isLt)) := by
  obtain ⟨n, hn⟩ := t
  cases n with
  | zero => exact absurd rfl h0
  | succ n => exact (dif_neg h0).trans (dif_pos h1)

/-- The scratch arrays at the contents `s` names, with the generator register. -/
def ΦAt (c : Dev nD) (s : St F) : sProp 𝕄 :=
  iprop(iprop(owns (c : Thread nD τ) scM0_0 fullShare (s.2.2.2.2.2.2.2.1) ∗ owns (c : Thread nD τ) scM0_1 fullShare (s.2.2.2.2.2.2.2.2.1) ∗ owns (c : Thread nD τ) scM0_2 fullShare (s.2.2.2.2.2.2.2.2.2.1) ∗ owns (c : Thread nD τ) scM0_3 fullShare (s.2.2.2.2.2.2.2.2.2.2.1) ∗ owns (c : Thread nD τ) scM0_4 fullShare (s.2.2.2.2.2.2.2.2.2.2.2.1) ∗ owns (c : Thread nD τ) scM0_5 fullShare (s.2.2.2.2.2.2.2.2.2.2.2.2)) ∗ (∃ r, prngReg c r))

/-- The invariant: between heads the scratch at anything, within a head at what the point before left. -/
def PhiS (c : Dev nD) : (n : ℕ) → n ≤ cfg0.N → sProp 𝕄
  | 0, _ => Pipeline.ΦA spec0 c
  | n + 1, hn => if (n + 1) % 15 = 0 then Pipeline.ΦA spec0 c else ΦAt c (outsAt0 m c n hn)

theorem PhiS_zero (c : Dev nD) (n : ℕ) (h : n ≤ cfg0.N) (hz : n % 15 = 0) : PhiS m c n h = Pipeline.ΦA spec0 c := by
  cases n with
  | zero => rfl
  | succ n => exact if_pos hz

theorem PhiS_succ (c : Dev nD) (n : ℕ) (h : n + 1 ≤ cfg0.N) (hz : ¬(n + 1) % 15 = 0) :
    PhiS m c (n + 1) h = ΦAt c (outsAt0 m c n h) := if_neg hz

theorem PhiS_pos (c : Dev nD) (n : ℕ) (h : n ≤ cfg0.N) (hz : ¬n % 15 = 0) :
    PhiS m c n h = ΦAt c (outsAt0 m c (n - 1) (by omega)) := by
  cases n with
  | zero => exact absurd rfl hz
  | succ n => exact if_neg hz

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨17, _⟩ => (outsAt0 m c t.val t.isLt).2.2.1
    | ⟨18, _⟩ => (outsAt0 m c t.val t.isLt).2.2.2.1
    | ⟨19, _⟩ => (outsAt0 m c t.val t.isLt).2.2.2.2.1
    | ⟨20, _⟩ => (outsAt0 m c t.val t.isLt).2.2.2.2.2.1
    | ⟨21, _⟩ => (outsAt0 m c t.val t.isLt).2.2.2.2.2.2.1
    | ⟨_ + 22, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]
theorem after0_16 (c : Dev nD) (t : Fin cfg0.N) : (dats m 0 c).after 16 t = (outsAt0 m c t.val t.isLt).2.1 := by dsimp only [dats]
theorem after0_17 (c : Dev nD) (t : Fin cfg0.N) : (dats m 0 c).after 17 t = (outsAt0 m c t.val t.isLt).2.2.1 := by dsimp only [dats]
theorem after0_18 (c : Dev nD) (t : Fin cfg0.N) : (dats m 0 c).after 18 t = (outsAt0 m c t.val t.isLt).2.2.2.1 := by dsimp only [dats]
theorem after0_19 (c : Dev nD) (t : Fin cfg0.N) : (dats m 0 c).after 19 t = (outsAt0 m c t.val t.isLt).2.2.2.2.1 := by dsimp only [dats]
theorem after0_20 (c : Dev nD) (t : Fin cfg0.N) : (dats m 0 c).after 20 t = (outsAt0 m c t.val t.isLt).2.2.2.2.2.1 := by dsimp only [dats]
theorem after0_21 (c : Dev nD) (t : Fin cfg0.N) : (dats m 0 c).after 21 t = (outsAt0 m c t.val t.isLt).2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

theorem hcarry0_16 (c : Dev nD) : ∀ (t : Fin cfg0.N) (_ : t.val ≠ 0), cfg0.idle 16 (grid0.coords t) = true → cfg0.fresh 16 t.val = false →
    (dats m 0 c).after 16 t = (dats m 0 c).after 16 ⟨t.val - 1, by omega⟩ := by
  intro t _ hi _
  have hN : t.val < 120 := lt_of_lt_of_eq t.isLt (show cfg0.N = 120 from N_0)
  rw [after0_16, after0_16]
  by_cases h0 : t.val % 15 = 0
  · rw [liveAt0_16_A t ((hcond0_0 t).mpr h0) (fun h => by have := (hcond0_1 t).mp h; omega)] at hi
    exact absurd hi Bool.false_ne_true
  · by_cases h1 : t.val % 15 = 14
    · rw [outsAt0_C m c t h0 h1]; rfl
    · rw [outsAt0_B m c t h0 h1]; rfl

theorem hcarry0_17 (c : Dev nD) : ∀ (t : Fin cfg0.N) (_ : t.val ≠ 0), cfg0.idle 17 (grid0.coords t) = true → cfg0.fresh 17 t.val = false →
    (dats m 0 c).after 17 t = (dats m 0 c).after 17 ⟨t.val - 1, by omega⟩ := by
  intro t _ hi _
  have hN : t.val < 120 := lt_of_lt_of_eq t.isLt (show cfg0.N = 120 from N_0)
  rw [after0_17, after0_17]
  by_cases h0 : t.val % 15 = 0
  · rw [liveAt0_17_A t ((hcond0_0 t).mpr h0) (fun h => by have := (hcond0_1 t).mp h; omega)] at hi
    exact absurd hi Bool.false_ne_true
  · by_cases h1 : t.val % 15 = 14
    · rw [outsAt0_C m c t h0 h1]; rfl
    · rw [outsAt0_B m c t h0 h1]; rfl

theorem hcarry0_18 (c : Dev nD) : ∀ (t : Fin cfg0.N) (_ : t.val ≠ 0), cfg0.idle 18 (grid0.coords t) = true → cfg0.fresh 18 t.val = false →
    (dats m 0 c).after 18 t = (dats m 0 c).after 18 ⟨t.val - 1, by omega⟩ := by
  intro t _ hi _
  have hN : t.val < 120 := lt_of_lt_of_eq t.isLt (show cfg0.N = 120 from N_0)
  rw [after0_18, after0_18]
  by_cases h0 : t.val % 15 = 0
  · rw [liveAt0_18_A t ((hcond0_0 t).mpr h0) (fun h => by have := (hcond0_1 t).mp h; omega)] at hi
    exact absurd hi Bool.false_ne_true
  · by_cases h1 : t.val % 15 = 14
    · rw [outsAt0_C m c t h0 h1]; rfl
    · rw [outsAt0_B m c t h0 h1]; rfl

theorem hcarry0_19 (c : Dev nD) : ∀ (t : Fin cfg0.N) (_ : t.val ≠ 0), cfg0.idle 19 (grid0.coords t) = true → cfg0.fresh 19 t.val = false →
    (dats m 0 c).after 19 t = (dats m 0 c).after 19 ⟨t.val - 1, by omega⟩ := by
  intro t _ hi _
  have hN : t.val < 120 := lt_of_lt_of_eq t.isLt (show cfg0.N = 120 from N_0)
  rw [after0_19, after0_19]
  by_cases h0 : t.val % 15 = 0
  · rw [liveAt0_19_A t ((hcond0_0 t).mpr h0) (fun h => by have := (hcond0_1 t).mp h; omega)] at hi
    exact absurd hi Bool.false_ne_true
  · by_cases h1 : t.val % 15 = 14
    · rw [outsAt0_C m c t h0 h1]; rfl
    · rw [outsAt0_B m c t h0 h1]; rfl

theorem hcarry0_20 (c : Dev nD) : ∀ (t : Fin cfg0.N) (_ : t.val ≠ 0), cfg0.idle 20 (grid0.coords t) = true → cfg0.fresh 20 t.val = false →
    (dats m 0 c).after 20 t = (dats m 0 c).after 20 ⟨t.val - 1, by omega⟩ := by
  intro t _ hi _
  have hN : t.val < 120 := lt_of_lt_of_eq t.isLt (show cfg0.N = 120 from N_0)
  rw [after0_20, after0_20]
  by_cases h0 : t.val % 15 = 0
  · rw [liveAt0_20_A t ((hcond0_0 t).mpr h0) (fun h => by have := (hcond0_1 t).mp h; omega)] at hi
    exact absurd hi Bool.false_ne_true
  · by_cases h1 : t.val % 15 = 14
    · rw [outsAt0_C m c t h0 h1]; rfl
    · rw [outsAt0_B m c t h0 h1]; rfl

theorem hcarry0_21 (c : Dev nD) : ∀ (t : Fin cfg0.N) (_ : t.val ≠ 0), cfg0.idle 21 (grid0.coords t) = true → cfg0.fresh 21 t.val = false →
    (dats m 0 c).after 21 t = (dats m 0 c).after 21 ⟨t.val - 1, by omega⟩ := by
  intro t _ hi _
  have hN : t.val < 120 := lt_of_lt_of_eq t.isLt (show cfg0.N = 120 from N_0)
  rw [after0_21, after0_21]
  by_cases h0 : t.val % 15 = 0
  · rw [liveAt0_21_A t ((hcond0_0 t).mpr h0) (fun h => by have := (hcond0_1 t).mp h; omega)] at hi
    exact absurd hi Bool.false_ne_true
  · by_cases h1 : t.val % 15 = 14
    · rw [outsAt0_C m c t h0 h1]; rfl
    · rw [outsAt0_B m c t h0 h1]; rfl

theorem before0_16_C (c : Dev nD) (t : Fin cfg0.N) (h0 : ¬t.val % 15 = 0) (h1 : t.val % 15 = 14) (d) :
    (dats m 0 c).before 16 t d = (outsAt0 m c (t.val - 1) (Nat.lt_of_le_of_lt (Nat.sub_le _ _) t.isLt)).2.1 := by
  rw [Dat.before_out_traj _ 16 rfl (fun _ _ => rfl) (hcarry0_16 m c) t.val t rfl d,
    if_neg (by rw [notFresh0_16_C t (fun h => h0 ((hcond0_0 t).mp h)) ((hcond0_1 t).mpr h1)]; exact Bool.false_ne_true)]
  dsimp only [dats]
theorem before0_17_C (c : Dev nD) (t : Fin cfg0.N) (h0 : ¬t.val % 15 = 0) (h1 : t.val % 15 = 14) (d) :
    (dats m 0 c).before 17 t d = (outsAt0 m c (t.val - 1) (Nat.lt_of_le_of_lt (Nat.sub_le _ _) t.isLt)).2.2.1 := by
  rw [Dat.before_out_traj _ 17 rfl (fun _ _ => rfl) (hcarry0_17 m c) t.val t rfl d,
    if_neg (by rw [notFresh0_17_C t (fun h => h0 ((hcond0_0 t).mp h)) ((hcond0_1 t).mpr h1)]; exact Bool.false_ne_true)]
  dsimp only [dats]
theorem before0_18_C (c : Dev nD) (t : Fin cfg0.N) (h0 : ¬t.val % 15 = 0) (h1 : t.val % 15 = 14) (d) :
    (dats m 0 c).before 18 t d = (outsAt0 m c (t.val - 1) (Nat.lt_of_le_of_lt (Nat.sub_le _ _) t.isLt)).2.2.2.1 := by
  rw [Dat.before_out_traj _ 18 rfl (fun _ _ => rfl) (hcarry0_18 m c) t.val t rfl d,
    if_neg (by rw [notFresh0_18_C t (fun h => h0 ((hcond0_0 t).mp h)) ((hcond0_1 t).mpr h1)]; exact Bool.false_ne_true)]
  dsimp only [dats]
theorem before0_19_C (c : Dev nD) (t : Fin cfg0.N) (h0 : ¬t.val % 15 = 0) (h1 : t.val % 15 = 14) (d) :
    (dats m 0 c).before 19 t d = (outsAt0 m c (t.val - 1) (Nat.lt_of_le_of_lt (Nat.sub_le _ _) t.isLt)).2.2.2.2.1 := by
  rw [Dat.before_out_traj _ 19 rfl (fun _ _ => rfl) (hcarry0_19 m c) t.val t rfl d,
    if_neg (by rw [notFresh0_19_C t (fun h => h0 ((hcond0_0 t).mp h)) ((hcond0_1 t).mpr h1)]; exact Bool.false_ne_true)]
  dsimp only [dats]
theorem before0_20_C (c : Dev nD) (t : Fin cfg0.N) (h0 : ¬t.val % 15 = 0) (h1 : t.val % 15 = 14) (d) :
    (dats m 0 c).before 20 t d = (outsAt0 m c (t.val - 1) (Nat.lt_of_le_of_lt (Nat.sub_le _ _) t.isLt)).2.2.2.2.2.1 := by
  rw [Dat.before_out_traj _ 20 rfl (fun _ _ => rfl) (hcarry0_20 m c) t.val t rfl d,
    if_neg (by rw [notFresh0_20_C t (fun h => h0 ((hcond0_0 t).mp h)) ((hcond0_1 t).mpr h1)]; exact Bool.false_ne_true)]
  dsimp only [dats]
theorem before0_21_C (c : Dev nD) (t : Fin cfg0.N) (h0 : ¬t.val % 15 = 0) (h1 : t.val % 15 = 14) (d) :
    (dats m 0 c).before 21 t d = (outsAt0 m c (t.val - 1) (Nat.lt_of_le_of_lt (Nat.sub_le _ _) t.isLt)).2.2.2.2.2.2.1 := by
  rw [Dat.before_out_traj _ 21 rfl (fun _ _ => rfl) (hcarry0_21 m c) t.val t rfl d,
    if_neg (by rw [notFresh0_21_C t (fun h => h0 ((hcond0_0 t).mp h)) ((hcond0_1 t).mpr h1)]; exact Bool.false_ne_true)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

theorem leavesExact_flush (c : Dev nD) (w : Fin cfg0.W) (t : Fin cfg0.N) (hi : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [hi, hf]

set_option maxHeartbeats 33600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_castSucc m c t]
  have hN : t.val < 120 := lt_of_lt_of_eq t.isLt (show cfg0.N = 120 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  by_cases h0 : t.val % 15 = 0
  · have h1 : ¬ t.val % 15 = 14 := by omega
    rw [PhiS_succ m c _ _ (by omega), PhiS_zero m c _ _ h0, PhiA0_eq]
    rw [Dat.leavesExact_idle (dats m 0 c) 15 t (idleAt0_15_A t ((hcond0_0 t).mpr h0) (fun h => h1 ((hcond0_1 t).mp h))) (noFlush0_15_A t ((hcond0_0 t).mpr h0) (fun h => h1 ((hcond0_1 t).mp h)))]
    rw [show (dats m 0 c).leavesExact 16 t = owns (c : Thread nD τ) (ms0_16 t) fullShare ((dats m 0 c).after 16 t) from by unfold Dat.leavesExact; rw [liveAt0_16_A t ((hcond0_0 t).mpr h0) (fun h => h1 ((hcond0_1 t).mp h))], after0_16]
    rw [show (dats m 0 c).leavesExact 17 t = owns (c : Thread nD τ) (ms0_17 t) fullShare ((dats m 0 c).after 17 t) from by unfold Dat.leavesExact; rw [liveAt0_17_A t ((hcond0_0 t).mpr h0) (fun h => h1 ((hcond0_1 t).mp h))], after0_17]
    rw [show (dats m 0 c).leavesExact 18 t = owns (c : Thread nD τ) (ms0_18 t) fullShare ((dats m 0 c).after 18 t) from by unfold Dat.leavesExact; rw [liveAt0_18_A t ((hcond0_0 t).mpr h0) (fun h => h1 ((hcond0_1 t).mp h))], after0_18]
    rw [show (dats m 0 c).leavesExact 19 t = owns (c : Thread nD τ) (ms0_19 t) fullShare ((dats m 0 c).after 19 t) from by unfold Dat.leavesExact; rw [liveAt0_19_A t ((hcond0_0 t).mpr h0) (fun h => h1 ((hcond0_1 t).mp h))], after0_19]
    rw [show (dats m 0 c).leavesExact 20 t = owns (c : Thread nD τ) (ms0_20 t) fullShare ((dats m 0 c).after 20 t) from by unfold Dat.leavesExact; rw [liveAt0_20_A t ((hcond0_0 t).mpr h0) (fun h => h1 ((hcond0_1 t).mp h))], after0_20]
    rw [show (dats m 0 c).leavesExact 21 t = owns (c : Thread nD τ) (ms0_21 t) fullShare ((dats m 0 c).after 21 t) from by unfold Dat.leavesExact; rw [liveAt0_21_A t ((hcond0_0 t).mpr h0) (fun h => h1 ((hcond0_1 t).mp h))], after0_21]
    rw [outsAt0_A m c t h0 h1]; unfold ΦAt stA; (try dsimp only)
    iintro ⟨⟨⟨⟨%v0, HS0⟩, ⟨%v1, HS1⟩, ⟨%v2, HS2⟩, ⟨%v3, HS3⟩, ⟨%v4, HS4⟩, ⟨%v5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2.2.2.2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%es0, HS0⟩, ⟨%es1, HS1⟩, ⟨%es2, HS2⟩, ⟨%es3, HS3⟩, ⟨%es4, HS4⟩, ⟨%es5, HS5⟩⟩
    isplitl [HS0 HS1 HS2 HS3 HS4 HS5 Hg]
    · isplitl [HS0 HS1 HS2 HS3 HS4 HS5]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS3]
        · unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [HS4]
        · unfold owns; iexists _; isplitr
          swap; · iexact HS4
          ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact HS5
        ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      iexact Hg
    isplitl [Ho]; · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexists _; iexact H15
    isplitl [H16]
    · unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H18]
    · unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H19]
    · unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H20]
    · unfold owns; iexists _; isplitr
      swap; · iexact H20
      ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases h1 : t.val % 15 = 14
    · rw [PhiS_zero m c (t.val + 1) _ (by omega), PhiS_pos m c _ _ h0, PhiA0_eq]
      rw [show (dats m 0 c).leavesExact 15 t = owns (c : Thread nD τ) (ms0_15 t) fullShare ((dats m 0 c).after 15 t) from by unfold Dat.leavesExact; rw [liveAt0_15_C t (fun h => h0 ((hcond0_0 t).mp h)) ((hcond0_1 t).mpr h1)], after0_15]
      rw [leavesExact_flush m c 16 t (idleAt0_16_C t (fun h => h0 ((hcond0_0 t).mp h)) ((hcond0_1 t).mpr h1)) ((flush0_16 t).mpr h1), after0_16]
      rw [leavesExact_flush m c 17 t (idleAt0_17_C t (fun h => h0 ((hcond0_0 t).mp h)) ((hcond0_1 t).mpr h1)) ((flush0_17 t).mpr h1), after0_17]
      rw [leavesExact_flush m c 18 t (idleAt0_18_C t (fun h => h0 ((hcond0_0 t).mp h)) ((hcond0_1 t).mpr h1)) ((flush0_18 t).mpr h1), after0_18]
      rw [leavesExact_flush m c 19 t (idleAt0_19_C t (fun h => h0 ((hcond0_0 t).mp h)) ((hcond0_1 t).mpr h1)) ((flush0_19 t).mpr h1), after0_19]
      rw [leavesExact_flush m c 20 t (idleAt0_20_C t (fun h => h0 ((hcond0_0 t).mp h)) ((hcond0_1 t).mpr h1)) ((flush0_20 t).mpr h1), after0_20]
      rw [leavesExact_flush m c 21 t (idleAt0_21_C t (fun h => h0 ((hcond0_0 t).mp h)) ((hcond0_1 t).mpr h1)) ((flush0_21 t).mpr h1), after0_21]
      rw [outsAt0_C m c t h0 h1]; unfold ΦAt stC
      simp only [before0_16_C m c t h0 h1, before0_17_C m c t h0 h1, before0_18_C m c t h0 h1, before0_19_C m c t h0 h1, before0_20_C m c t h0 h1, before0_21_C m c t h0 h1]; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ _ _ _ _ _ _ _ _ _ _).2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexact H16
      isplitl [H17]; · iexact H17
      isplitl [H18]; · iexact H18
      isplitl [H19]; · iexact H19
      isplitl [H20]; · iexact H20
      isplitl [H21]; · iexact H21
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, H14, ⟨%e15, H15⟩, H16, H17, H18, H19, H20, H21, HS0, HS1, HS2, ⟨%es3, HS3⟩, ⟨%es4, HS4⟩, ⟨%es5, HS5⟩⟩
      isplitl [HS0 HS1 HS2 HS3 HS4 HS5 Hg]
      · isplitl [HS0 HS1 HS2 HS3 HS4 HS5]
        · isplitl [HS0]
          · iexists _; iexact HS0
          isplitl [HS1]
          · iexists _; iexact HS1
          isplitl [HS2]
          · iexists _; iexact HS2
          isplitl [HS3]
          · iexists _; unfold owns; iexists _; isplitr
            swap; · iexact HS3
            ipureintro; rfl
          isplitl [HS4]
          · iexists _; unfold owns; iexists _; isplitr
            swap; · iexact HS4
            ipureintro; rfl
          iexists _; unfold owns; iexists _; isplitr
          swap; · iexact HS5
          ipureintro; rfl
        iexact Hg
      isplitl [Ho]; · iexact Ho
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      isplitl [H14]
      · iexact H14
      isplitl [H15]
      · unfold owns; iexists _; isplitr
        swap; · iexact H15
        ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · iexact H16
      isplitl [H17]
      · iexact H17
      isplitl [H18]
      · iexact H18
      isplitl [H19]
      · iexact H19
      isplitl [H20]
      · iexact H20
      iexact H21
    · rw [PhiS_succ m c _ _ (by omega), PhiS_pos m c _ _ h0]
      rw [Dat.leavesExact_idle (dats m 0 c) 15 t (idleAt0_15_B t (fun h => h0 ((hcond0_0 t).mp h)) (fun h => h1 ((hcond0_1 t).mp h))) (noFlush0_15_B t (fun h => h0 ((hcond0_0 t).mp h)) (fun h => h1 ((hcond0_1 t).mp h)))]
      rw [Dat.leavesExact_idle (dats m 0 c) 16 t (idleAt0_16_B t (fun h => h0 ((hcond0_0 t).mp h)) (fun h => h1 ((hcond0_1 t).mp h))) (noFlush0_16_B t (fun h => h0 ((hcond0_0 t).mp h)) (fun h => h1 ((hcond0_1 t).mp h)))]
      rw [Dat.leavesExact_idle (dats m 0 c) 17 t (idleAt0_17_B t (fun h => h0 ((hcond0_0 t).mp h)) (fun h => h1 ((hcond0_1 t).mp h))) (noFlush0_17_B t (fun h => h0 ((hcond0_0 t).mp h)) (fun h => h1 ((hcond0_1 t).mp h)))]
      rw [Dat.leavesExact_idle (dats m 0 c) 18 t (idleAt0_18_B t (fun h => h0 ((hcond0_0 t).mp h)) (fun h => h1 ((hcond0_1 t).mp h))) (noFlush0_18_B t (fun h => h0 ((hcond0_0 t).mp h)) (fun h => h1 ((hcond0_1 t).mp h)))]
      rw [Dat.leavesExact_idle (dats m 0 c) 19 t (idleAt0_19_B t (fun h => h0 ((hcond0_0 t).mp h)) (fun h => h1 ((hcond0_1 t).mp h))) (noFlush0_19_B t (fun h => h0 ((hcond0_0 t).mp h)) (fun h => h1 ((hcond0_1 t).mp h)))]
      rw [Dat.leavesExact_idle (dats m 0 c) 20 t (idleAt0_20_B t (fun h => h0 ((hcond0_0 t).mp h)) (fun h => h1 ((hcond0_1 t).mp h))) (noFlush0_20_B t (fun h => h0 ((hcond0_0 t).mp h)) (fun h => h1 ((hcond0_1 t).mp h)))]
      rw [Dat.leavesExact_idle (dats m 0 c) 21 t (idleAt0_21_B t (fun h => h0 ((hcond0_0 t).mp h)) (fun h => h1 ((hcond0_1 t).mp h))) (noFlush0_21_B t (fun h => h0 ((hcond0_0 t).mp h)) (fun h => h1 ((hcond0_1 t).mp h)))]
      rw [outsAt0_B m c t h0 h1]; unfold ΦAt stB; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ _ _ _ _).2.2.2.2.2.2.2.2.2.2.2.2.2 _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, H14, H15, H16, H17, H18, H19, H20, H21, HS0, HS1, HS2, ⟨%es3, HS3⟩, ⟨%es4, HS4⟩, ⟨%es5, HS5⟩⟩
      isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS4]
          · unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS5
          ipureintro; exact View.read_writes_of_cover _ _ _ _ _ (scover0_B_5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      isplitl [H14]
      · iexact H14
      isplitl [H15]
      · iexists _; iexact H15
      isplitl [H16]
      · iexists _; iexact H16
      isplitl [H17]
      · iexists _; iexact H17
      isplitl [H18]
      · iexists _; iexact H18
      isplitl [H19]
      · iexists _; iexact H19
      isplitl [H20]
      · iexists _; iexact H20
      iexists _; iexact H21

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_zero m c cfg0.N _ (by rw [show cfg0.N = 120 from N_0])]

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Hand

end
-- ==== Proof.IValue.lean ====
/- The array each output window ends with: its block at each head's last point. -/
module

public import proofs.«01_k».proof.Proof.IFrame
public import Idealize.ShloMosaic.Lib.Pipeline.Value
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem post15 (r : PUnit × MemSt nD τ sig (Elt F)) (h : Pipeline.FramePost cfgs (dats m) 0 (V m) r) (c : Dev nD) :
    r.2.mem ((c : Thread nD τ).loc main_v4_0) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v4_1) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v4_2) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v4_3) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v4_4) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v4_5) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v4_6) = (dats m 0 c).arrAt 21 cfg0.N :=
  (h c).1 21

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 5).trans (((dats m 0 c).arrAt_in 5 rfl _).trans ((A_eq m c 5).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 6).trans (((dats m 0 c).arrAt_in 6 rfl _).trans ((A_eq m c 6).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 7).trans (((dats m 0 c).arrAt_in 7 rfl _).trans ((A_eq m c 7).trans (V_main_arg6 m c)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 8).trans (((dats m 0 c).arrAt_in 8 rfl _).trans ((A_eq m c 8).trans (V_main_arg7 m c)))

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 9).trans (((dats m 0 c).arrAt_in 9 rfl _).trans ((A_eq m c 9).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 10).trans (((dats m 0 c).arrAt_in 10 rfl _).trans ((A_eq m c 10).trans (V_main_arg9 m c)))

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 11).trans (((dats m 0 c).arrAt_in 11 rfl _).trans ((A_eq m c 11).trans (V_main_arg10 m c)))

theorem outsAt0_congr (c : Dev nD) : ∀ (j : ℕ) (h : j < cfg0.N) (j' : ℕ) (h' : j' < cfg0.N), j = j' → outsAt0 m c j h = outsAt0 m c j' h' := by
  intro j h j' h' hj; subst hj; rfl

abbrev run15Of (i : S4x2x8x256.Idx) : ℕ := 2 * ((i 0).val / 1 - 0) + 1 * ((i 1).val / 1 - 0) + 1 * ((i 2).val / 8 - 0) + 1 * ((i 3).val / 256 - 0)
set_option backward.proofsInPublic true in
abbrev loc15Of (i : S4x2x8x256.Idx) : S1x1x8x256.Idx := fun a => match a with
  | ⟨0, _⟩ => ⟨(i 0).val % 1, Nat.mod_lt _ (by decide)⟩
  | ⟨1, _⟩ => ⟨(i 1).val % 1, Nat.mod_lt _ (by decide)⟩
  | ⟨2, _⟩ => ⟨(i 2).val % 8, Nat.mod_lt _ (by decide)⟩
  | ⟨3, _⟩ => ⟨(i 3).val % 256, Nat.mod_lt _ (by decide)⟩
abbrev pt15Of (i : S4x2x8x256.Idx) : ℕ := 15 * run15Of i + 14

def G15 (c : Dev nD) : Buf (Elt F) ((c : Thread nD τ).loc main_v4_0) := fun i =>
  if h : pt15Of i < cfg0.N then
    (outsAt0 m c (pt15Of i) h).1 (loc15Of i)
  else V m c (Pipeline.arrRef spec0 15) i

theorem idx_facts15 : ∀ t : Fin cfg0.N, 0 ≤ win0_15.index t (0 : Fin 4) ∧ win0_15.index t (0 : Fin 4) ≤ 3
    ∧ 0 ≤ win0_15.index t (1 : Fin 4) ∧ win0_15.index t (1 : Fin 4) ≤ 1
    ∧ 0 ≤ win0_15.index t (2 : Fin 4) ∧ win0_15.index t (2 : Fin 4) ≤ 0
    ∧ 0 ≤ win0_15.index t (3 : Fin 4) ∧ win0_15.index t (3 : Fin 4) ≤ 0
    ∧ 2 * (win0_15.index t (0 : Fin 4) - 0) + 1 * (win0_15.index t (1 : Fin 4) - 0) + 1 * (win0_15.index t (2 : Fin 4) - 0) + 1 * (win0_15.index t (3 : Fin 4) - 0) = t.val / 15 :=
  (by decide +kernel : ∀ t : Fin grid0.N, _)

abbrev onto15Pt (q0 : Fin 4) (q1 : Fin 2) (q2 : Fin 1) (q3 : Fin 1) : Fin grid0.N :=
  ⟨15 * (2 * q0.val + 1 * q1.val + 1 * q2.val + 1 * q3.val) + 14, lt_of_lt_of_eq (by omega) N_0.symm⟩
theorem idx_onto15 : ∀ (q0 : Fin 4) (q1 : Fin 2) (q2 : Fin 1) (q3 : Fin 1), ∃ t : Fin cfg0.N, (cfg0.win 15).flush t = true ∧ win0_15.index t = ![q0.val + 0, q1.val + 0, q2.val + 0, q3.val + 0] :=
  fun q0 q1 q2 q3 => ⟨onto15Pt q0 q1 q2 q3, (by decide +kernel : ∀ (q0 : Fin 4) (q1 : Fin 2) (q2 : Fin 1) (q3 : Fin 1), win0_15.flush (onto15Pt q0 q1 q2 q3) = true ∧ win0_15.index (onto15Pt q0 q1 q2 q3) = ![q0.val + 0, q1.val + 0, q2.val + 0, q3.val + 0]) q0 q1 q2 q3⟩

theorem flushed15_eq (c : Dev nD) (t : Fin cfg0.N) (hf : (cfg0.win 15).flush t = true) :
    (dats m 0 c).flushed 15 t = ((cfg0.win 15).blk t).view.read (Elt F) (G15 m c) := by
  show (cfg0.win 15).cut (grid0.coords t) ((dats m 0 c).after 15 t) = _
  rw [after0_15]
  have hm : t.val % 15 = 14 := (flush0_15 t).mp hf
  obtain ⟨e0, e1, e2, e3, e4⟩ := idx_facts15 t
  funext y
  have hy0 : (y 0).val < 1 := (y 0).isLt
  have hy1 : (y 1).val < 1 := (y 1).isLt
  have hy2 : (y 2).val < 8 := (y 2).isLt
  have hy3 : (y 3).val < 256 := (y 3).isLt
  have hb0 : (((cfg0.win 15).blk t).view.emb y 0).val = win0_15.index t (0 : Fin 4) * 1 + 1 * (y 0).val := rfl
  have hb1 : (((cfg0.win 15).blk t).view.emb y 1).val = win0_15.index t (1 : Fin 4) * 1 + 1 * (y 1).val := rfl
  have hb2 : (((cfg0.win 15).blk t).view.emb y 2).val = win0_15.index t (2 : Fin 4) * 8 + 1 * (y 2).val := rfl
  have hb3 : (((cfg0.win 15).blk t).view.emb y 3).val = win0_15.index t (3 : Fin 4) * 256 + 1 * (y 3).val := rfl
  have hr : run15Of (((cfg0.win 15).blk t).view.emb y) = t.val / 15 := by
    show 2 * ((((cfg0.win 15).blk t).view.emb y 0).val / 1 - 0) + 1 * ((((cfg0.win 15).blk t).view.emb y 1).val / 1 - 0) + 1 * ((((cfg0.win 15).blk t).view.emb y 2).val / 8 - 0) + 1 * ((((cfg0.win 15).blk t).view.emb y 3).val / 256 - 0) = _
    rw [hb0, hb1, hb2, hb3]
    rw [show (win0_15.index t (0 : Fin 4) * 1 + 1 * (y 0).val) / 1 = win0_15.index t (0 : Fin 4) from by omega]; rw [show (win0_15.index t (1 : Fin 4) * 1 + 1 * (y 1).val) / 1 = win0_15.index t (1 : Fin 4) from by omega]; rw [show (win0_15.index t (2 : Fin 4) * 8 + 1 * (y 2).val) / 8 = win0_15.index t (2 : Fin 4) from by omega]; rw [show (win0_15.index t (3 : Fin 4) * 256 + 1 * (y 3).val) / 256 = win0_15.index t (3 : Fin 4) from by omega]
    omega
  have hl : loc15Of (((cfg0.win 15).blk t).view.emb y) = (cfg0.win 15).xinj (grid0.coords t) y := by
    funext a; apply Fin.ext
    match a with
    | ⟨0, _⟩ => show (((cfg0.win 15).blk t).view.emb y 0).val % 1 = (y 0).val; rw [hb0]; omega
    | ⟨1, _⟩ => show (((cfg0.win 15).blk t).view.emb y 1).val % 1 = (y 1).val; rw [hb1]; omega
    | ⟨2, _⟩ => show (((cfg0.win 15).blk t).view.emb y 2).val % 8 = (y 2).val; rw [hb2]; omega
    | ⟨3, _⟩ => show (((cfg0.win 15).blk t).view.emb y 3).val % 256 = (y 3).val; rw [hb3]; omega
  have hp : pt15Of (((cfg0.win 15).blk t).view.emb y) = t.val := by
    show 15 * run15Of (((cfg0.win 15).blk t).view.emb y) + 14 = _
    rw [hr]; have := Nat.div_add_mod t.val 15; omega
  show (outsAt0 m c t.val t.isLt).1 ((cfg0.win 15).xinj (grid0.coords t) y) = G15 m c (((cfg0.win 15).blk t).view.emb y)
  unfold G15
  rw [dif_pos (by rw [hp]; exact t.isLt), hl, outsAt0_congr m c _ _ _ _ hp]

theorem mem_blk15 (t : Fin cfg0.N) (i : S4x2x8x256.Idx) :
    i ∈ ((cfg0.win 15).blk t).view.set ↔ ∀ a : Fin 4, win0_15.index t a * S1x1x8x256.size a ≤ (i a).val ∧ (i a).val < win0_15.index t a * S1x1x8x256.size a + S1x1x8x256.size a := by
  show i ∈ ((View.whole main_v4_0).slice (win0_15.rect t)).set ↔ _
  rw [View.set_slice_whole, Rect.mem_set_unit]
  exact Iff.rfl

theorem covered_iff15 (i : S4x2x8x256.Idx) :
    (∃ t : Fin cfg0.N, (cfg0.win 15).flush t = true ∧ i ∈ ((cfg0.win 15).blk t).view.set) ↔ 0 ≤ (i 0).val ∧ (i 0).val < 4 ∧ 0 ≤ (i 1).val ∧ (i 1).val < 2 ∧ 0 ≤ (i 2).val ∧ (i 2).val < 8 ∧ 0 ≤ (i 3).val ∧ (i 3).val < 256 := by
  constructor
  · rintro ⟨t, -, hi⟩
    rw [mem_blk15] at hi
    have b0 : win0_15.index t (0 : Fin 4) * 1 ≤ (i 0).val ∧ (i 0).val < win0_15.index t (0 : Fin 4) * 1 + 1 := hi 0
    have b1 : win0_15.index t (1 : Fin 4) * 1 ≤ (i 1).val ∧ (i 1).val < win0_15.index t (1 : Fin 4) * 1 + 1 := hi 1
    have b2 : win0_15.index t (2 : Fin 4) * 8 ≤ (i 2).val ∧ (i 2).val < win0_15.index t (2 : Fin 4) * 8 + 8 := hi 2
    have b3 : win0_15.index t (3 : Fin 4) * 256 ≤ (i 3).val ∧ (i 3).val < win0_15.index t (3 : Fin 4) * 256 + 256 := hi 3
    obtain ⟨e0, e1, e2, e3, e4⟩ := idx_facts15 t
    omega
  · intro h
    have hi0 : (i 0).val < 4 := (i 0).isLt
    have hi1 : (i 1).val < 2 := (i 1).isLt
    have hi2 : (i 2).val < 8 := (i 2).isLt
    have hi3 : (i 3).val < 256 := (i 3).isLt
    obtain ⟨t, hft, ht⟩ := idx_onto15 ⟨(i 0).val / 1 - 0, by omega⟩ ⟨(i 1).val / 1 - 0, by omega⟩ ⟨(i 2).val / 8 - 0, by omega⟩ ⟨(i 3).val / 256 - 0, by omega⟩
    have q0 : win0_15.index t (0 : Fin 4) = (i 0).val / 1 - 0 + 0 := congrFun ht 0
    have q1 : win0_15.index t (1 : Fin 4) = (i 1).val / 1 - 0 + 0 := congrFun ht 1
    have q2 : win0_15.index t (2 : Fin 4) = (i 2).val / 8 - 0 + 0 := congrFun ht 2
    have q3 : win0_15.index t (3 : Fin 4) = (i 3).val / 256 - 0 + 0 := congrFun ht 3
    refine ⟨t, hft, ?_⟩
    rw [mem_blk15]
    intro a
    match a with
    | ⟨0, _⟩ => show win0_15.index t (0 : Fin 4) * 1 ≤ (i 0).val ∧ (i 0).val < win0_15.index t (0 : Fin 4) * 1 + 1; omega
    | ⟨1, _⟩ => show win0_15.index t (1 : Fin 4) * 1 ≤ (i 1).val ∧ (i 1).val < win0_15.index t (1 : Fin 4) * 1 + 1; omega
    | ⟨2, _⟩ => show win0_15.index t (2 : Fin 4) * 8 ≤ (i 2).val ∧ (i 2).val < win0_15.index t (2 : Fin 4) * 8 + 8; omega
    | ⟨3, _⟩ => show win0_15.index t (3 : Fin 4) * 256 ≤ (i 3).val ∧ (i 3).val < win0_15.index t (3 : Fin 4) * 256 + 256; omega

theorem final15 (c : Dev nD) : (dats m 0 c).arrAt 15 cfg0.N = G15 m c :=
  (dats m 0 c).arrAt_eq_of_cover 15 _ (fun t hf => flushed15_eq m c t hf) (fun i => (covered_iff15 i).2 (by
    have h0 : (i 0).val < 4 := (i 0).isLt; have h1 : (i 1).val < 2 := (i 1).isLt; have h2 : (i 2).val < 8 := (i 2).isLt; have h3 : (i 3).val < 256 := (i 3).isLt; omega))

/-! ## Output window 16 -/

abbrev run16Of (i : S4x2x1x128.Idx) : ℕ := 2 * ((i 0).val / 1 - 0) + 1 * ((i 1).val / 1 - 0) + 1 * ((i 2).val / 1 - 0) + 1 * ((i 3).val / 128 - 0)
set_option backward.proofsInPublic true in
abbrev loc16Of (i : S4x2x1x128.Idx) : S1x1x1x128.Idx := fun a => match a with
  | ⟨0, _⟩ => ⟨(i 0).val % 1, Nat.mod_lt _ (by decide)⟩
  | ⟨1, _⟩ => ⟨(i 1).val % 1, Nat.mod_lt _ (by decide)⟩
  | ⟨2, _⟩ => ⟨(i 2).val % 1, Nat.mod_lt _ (by decide)⟩
  | ⟨3, _⟩ => ⟨(i 3).val % 128, Nat.mod_lt _ (by decide)⟩
abbrev pt16Of (i : S4x2x1x128.Idx) : ℕ := 15 * run16Of i + 14

def G16 (c : Dev nD) : Buf (Elt F) ((c : Thread nD τ).loc main_v4_1) := fun i =>
  if h : pt16Of i < cfg0.N then
    (outsAt0 m c (pt16Of i) h).2.1 (loc16Of i)
  else V m c (Pipeline.arrRef spec0 16) i

theorem idx_facts16 : ∀ t : Fin cfg0.N, 0 ≤ win0_16.index t (0 : Fin 4) ∧ win0_16.index t (0 : Fin 4) ≤ 3
    ∧ 0 ≤ win0_16.index t (1 : Fin 4) ∧ win0_16.index t (1 : Fin 4) ≤ 1
    ∧ 0 ≤ win0_16.index t (2 : Fin 4) ∧ win0_16.index t (2 : Fin 4) ≤ 0
    ∧ 0 ≤ win0_16.index t (3 : Fin 4) ∧ win0_16.index t (3 : Fin 4) ≤ 0
    ∧ 2 * (win0_16.index t (0 : Fin 4) - 0) + 1 * (win0_16.index t (1 : Fin 4) - 0) + 1 * (win0_16.index t (2 : Fin 4) - 0) + 1 * (win0_16.index t (3 : Fin 4) - 0) = t.val / 15 :=
  (by decide +kernel : ∀ t : Fin grid0.N, _)

abbrev onto16Pt (q0 : Fin 4) (q1 : Fin 2) (q2 : Fin 1) (q3 : Fin 1) : Fin grid0.N :=
  ⟨15 * (2 * q0.val + 1 * q1.val + 1 * q2.val + 1 * q3.val) + 14, lt_of_lt_of_eq (by omega) N_0.symm⟩
theorem idx_onto16 : ∀ (q0 : Fin 4) (q1 : Fin 2) (q2 : Fin 1) (q3 : Fin 1), ∃ t : Fin cfg0.N, (cfg0.win 16).flush t = true ∧ win0_16.index t = ![q0.val + 0, q1.val + 0, q2.val + 0, q3.val + 0] :=
  fun q0 q1 q2 q3 => ⟨onto16Pt q0 q1 q2 q3, (by decide +kernel : ∀ (q0 : Fin 4) (q1 : Fin 2) (q2 : Fin 1) (q3 : Fin 1), win0_16.flush (onto16Pt q0 q1 q2 q3) = true ∧ win0_16.index (onto16Pt q0 q1 q2 q3) = ![q0.val + 0, q1.val + 0, q2.val + 0, q3.val + 0]) q0 q1 q2 q3⟩

theorem flushed16_eq (c : Dev nD) (t : Fin cfg0.N) (hf : (cfg0.win 16).flush t = true) :
    (dats m 0 c).flushed 16 t = ((cfg0.win 16).blk t).view.read (Elt F) (G16 m c) := by
  show (cfg0.win 16).cut (grid0.coords t) ((dats m 0 c).after 16 t) = _
  rw [after0_16]
  have hm : t.val % 15 = 14 := (flush0_16 t).mp hf
  obtain ⟨e0, e1, e2, e3, e4⟩ := idx_facts16 t
  funext y
  have hy0 : (y 0).val < 1 := (y 0).isLt
  have hy1 : (y 1).val < 1 := (y 1).isLt
  have hy2 : (y 2).val < 1 := (y 2).isLt
  have hy3 : (y 3).val < 128 := (y 3).isLt
  have hb0 : (((cfg0.win 16).blk t).view.emb y 0).val = win0_16.index t (0 : Fin 4) * 1 + 1 * (y 0).val := rfl
  have hb1 : (((cfg0.win 16).blk t).view.emb y 1).val = win0_16.index t (1 : Fin 4) * 1 + 1 * (y 1).val := rfl
  have hb2 : (((cfg0.win 16).blk t).view.emb y 2).val = win0_16.index t (2 : Fin 4) * 1 + 1 * (y 2).val := rfl
  have hb3 : (((cfg0.win 16).blk t).view.emb y 3).val = win0_16.index t (3 : Fin 4) * 128 + 1 * (y 3).val := rfl
  have hr : run16Of (((cfg0.win 16).blk t).view.emb y) = t.val / 15 := by
    show 2 * ((((cfg0.win 16).blk t).view.emb y 0).val / 1 - 0) + 1 * ((((cfg0.win 16).blk t).view.emb y 1).val / 1 - 0) + 1 * ((((cfg0.win 16).blk t).view.emb y 2).val / 1 - 0) + 1 * ((((cfg0.win 16).blk t).view.emb y 3).val / 128 - 0) = _
    rw [hb0, hb1, hb2, hb3]
    rw [show (win0_16.index t (0 : Fin 4) * 1 + 1 * (y 0).val) / 1 = win0_16.index t (0 : Fin 4) from by omega]; rw [show (win0_16.index t (1 : Fin 4) * 1 + 1 * (y 1).val) / 1 = win0_16.index t (1 : Fin 4) from by omega]; rw [show (win0_16.index t (2 : Fin 4) * 1 + 1 * (y 2).val) / 1 = win0_16.index t (2 : Fin 4) from by omega]; rw [show (win0_16.index t (3 : Fin 4) * 128 + 1 * (y 3).val) / 128 = win0_16.index t (3 : Fin 4) from by omega]
    omega
  have hl : loc16Of (((cfg0.win 16).blk t).view.emb y) = (cfg0.win 16).xinj (grid0.coords t) y := by
    funext a; apply Fin.ext
    match a with
    | ⟨0, _⟩ => show (((cfg0.win 16).blk t).view.emb y 0).val % 1 = (y 0).val; rw [hb0]; omega
    | ⟨1, _⟩ => show (((cfg0.win 16).blk t).view.emb y 1).val % 1 = (y 1).val; rw [hb1]; omega
    | ⟨2, _⟩ => show (((cfg0.win 16).blk t).view.emb y 2).val % 1 = (y 2).val; rw [hb2]; omega
    | ⟨3, _⟩ => show (((cfg0.win 16).blk t).view.emb y 3).val % 128 = (y 3).val; rw [hb3]; omega
  have hp : pt16Of (((cfg0.win 16).blk t).view.emb y) = t.val := by
    show 15 * run16Of (((cfg0.win 16).blk t).view.emb y) + 14 = _
    rw [hr]; have := Nat.div_add_mod t.val 15; omega
  show (outsAt0 m c t.val t.isLt).2.1 ((cfg0.win 16).xinj (grid0.coords t) y) = G16 m c (((cfg0.win 16).blk t).view.emb y)
  unfold G16
  rw [dif_pos (by rw [hp]; exact t.isLt), hl, outsAt0_congr m c _ _ _ _ hp]

theorem mem_blk16 (t : Fin cfg0.N) (i : S4x2x1x128.Idx) :
    i ∈ ((cfg0.win 16).blk t).view.set ↔ ∀ a : Fin 4, win0_16.index t a * S1x1x1x128.size a ≤ (i a).val ∧ (i a).val < win0_16.index t a * S1x1x1x128.size a + S1x1x1x128.size a := by
  show i ∈ ((View.whole main_v4_1).slice (win0_16.rect t)).set ↔ _
  rw [View.set_slice_whole, Rect.mem_set_unit]
  exact Iff.rfl

theorem covered_iff16 (i : S4x2x1x128.Idx) :
    (∃ t : Fin cfg0.N, (cfg0.win 16).flush t = true ∧ i ∈ ((cfg0.win 16).blk t).view.set) ↔ 0 ≤ (i 0).val ∧ (i 0).val < 4 ∧ 0 ≤ (i 1).val ∧ (i 1).val < 2 ∧ 0 ≤ (i 2).val ∧ (i 2).val < 1 ∧ 0 ≤ (i 3).val ∧ (i 3).val < 128 := by
  constructor
  · rintro ⟨t, -, hi⟩
    rw [mem_blk16] at hi
    have b0 : win0_16.index t (0 : Fin 4) * 1 ≤ (i 0).val ∧ (i 0).val < win0_16.index t (0 : Fin 4) * 1 + 1 := hi 0
    have b1 : win0_16.index t (1 : Fin 4) * 1 ≤ (i 1).val ∧ (i 1).val < win0_16.index t (1 : Fin 4) * 1 + 1 := hi 1
    have b2 : win0_16.index t (2 : Fin 4) * 1 ≤ (i 2).val ∧ (i 2).val < win0_16.index t (2 : Fin 4) * 1 + 1 := hi 2
    have b3 : win0_16.index t (3 : Fin 4) * 128 ≤ (i 3).val ∧ (i 3).val < win0_16.index t (3 : Fin 4) * 128 + 128 := hi 3
    obtain ⟨e0, e1, e2, e3, e4⟩ := idx_facts16 t
    omega
  · intro h
    have hi0 : (i 0).val < 4 := (i 0).isLt
    have hi1 : (i 1).val < 2 := (i 1).isLt
    have hi2 : (i 2).val < 1 := (i 2).isLt
    have hi3 : (i 3).val < 128 := (i 3).isLt
    obtain ⟨t, hft, ht⟩ := idx_onto16 ⟨(i 0).val / 1 - 0, by omega⟩ ⟨(i 1).val / 1 - 0, by omega⟩ ⟨(i 2).val / 1 - 0, by omega⟩ ⟨(i 3).val / 128 - 0, by omega⟩
    have q0 : win0_16.index t (0 : Fin 4) = (i 0).val / 1 - 0 + 0 := congrFun ht 0
    have q1 : win0_16.index t (1 : Fin 4) = (i 1).val / 1 - 0 + 0 := congrFun ht 1
    have q2 : win0_16.index t (2 : Fin 4) = (i 2).val / 1 - 0 + 0 := congrFun ht 2
    have q3 : win0_16.index t (3 : Fin 4) = (i 3).val / 128 - 0 + 0 := congrFun ht 3
    refine ⟨t, hft, ?_⟩
    rw [mem_blk16]
    intro a
    match a with
    | ⟨0, _⟩ => show win0_16.index t (0 : Fin 4) * 1 ≤ (i 0).val ∧ (i 0).val < win0_16.index t (0 : Fin 4) * 1 + 1; omega
    | ⟨1, _⟩ => show win0_16.index t (1 : Fin 4) * 1 ≤ (i 1).val ∧ (i 1).val < win0_16.index t (1 : Fin 4) * 1 + 1; omega
    | ⟨2, _⟩ => show win0_16.index t (2 : Fin 4) * 1 ≤ (i 2).val ∧ (i 2).val < win0_16.index t (2 : Fin 4) * 1 + 1; omega
    | ⟨3, _⟩ => show win0_16.index t (3 : Fin 4) * 128 ≤ (i 3).val ∧ (i 3).val < win0_16.index t (3 : Fin 4) * 128 + 128; omega

theorem final16 (c : Dev nD) : (dats m 0 c).arrAt 16 cfg0.N = G16 m c :=
  (dats m 0 c).arrAt_eq_of_cover 16 _ (fun t hf => flushed16_eq m c t hf) (fun i => (covered_iff16 i).2 (by
    have h0 : (i 0).val < 4 := (i 0).isLt; have h1 : (i 1).val < 2 := (i 1).isLt; have h2 : (i 2).val < 1 := (i 2).isLt; have h3 : (i 3).val < 128 := (i 3).isLt; omega))

/-! ## Output window 17 -/

abbrev run17Of (i : S4x2x1x256.Idx) : ℕ := 2 * ((i 0).val / 1 - 0) + 1 * ((i 1).val / 1 - 0) + 1 * ((i 2).val / 1 - 0) + 1 * ((i 3).val / 256 - 0)
set_option backward.proofsInPublic true in
abbrev loc17Of (i : S4x2x1x256.Idx) : S1x1x1x256.Idx := fun a => match a with
  | ⟨0, _⟩ => ⟨(i 0).val % 1, Nat.mod_lt _ (by decide)⟩
  | ⟨1, _⟩ => ⟨(i 1).val % 1, Nat.mod_lt _ (by decide)⟩
  | ⟨2, _⟩ => ⟨(i 2).val % 1, Nat.mod_lt _ (by decide)⟩
  | ⟨3, _⟩ => ⟨(i 3).val % 256, Nat.mod_lt _ (by decide)⟩
abbrev pt17Of (i : S4x2x1x256.Idx) : ℕ := 15 * run17Of i + 14

def G17 (c : Dev nD) : Buf (Elt F) ((c : Thread nD τ).loc main_v4_2) := fun i =>
  if h : pt17Of i < cfg0.N then
    (outsAt0 m c (pt17Of i) h).2.2.1 (loc17Of i)
  else V m c (Pipeline.arrRef spec0 17) i

theorem idx_facts17 : ∀ t : Fin cfg0.N, 0 ≤ win0_17.index t (0 : Fin 4) ∧ win0_17.index t (0 : Fin 4) ≤ 3
    ∧ 0 ≤ win0_17.index t (1 : Fin 4) ∧ win0_17.index t (1 : Fin 4) ≤ 1
    ∧ 0 ≤ win0_17.index t (2 : Fin 4) ∧ win0_17.index t (2 : Fin 4) ≤ 0
    ∧ 0 ≤ win0_17.index t (3 : Fin 4) ∧ win0_17.index t (3 : Fin 4) ≤ 0
    ∧ 2 * (win0_17.index t (0 : Fin 4) - 0) + 1 * (win0_17.index t (1 : Fin 4) - 0) + 1 * (win0_17.index t (2 : Fin 4) - 0) + 1 * (win0_17.index t (3 : Fin 4) - 0) = t.val / 15 :=
  (by decide +kernel : ∀ t : Fin grid0.N, _)

abbrev onto17Pt (q0 : Fin 4) (q1 : Fin 2) (q2 : Fin 1) (q3 : Fin 1) : Fin grid0.N :=
  ⟨15 * (2 * q0.val + 1 * q1.val + 1 * q2.val + 1 * q3.val) + 14, lt_of_lt_of_eq (by omega) N_0.symm⟩
theorem idx_onto17 : ∀ (q0 : Fin 4) (q1 : Fin 2) (q2 : Fin 1) (q3 : Fin 1), ∃ t : Fin cfg0.N, (cfg0.win 17).flush t = true ∧ win0_17.index t = ![q0.val + 0, q1.val + 0, q2.val + 0, q3.val + 0] :=
  fun q0 q1 q2 q3 => ⟨onto17Pt q0 q1 q2 q3, (by decide +kernel : ∀ (q0 : Fin 4) (q1 : Fin 2) (q2 : Fin 1) (q3 : Fin 1), win0_17.flush (onto17Pt q0 q1 q2 q3) = true ∧ win0_17.index (onto17Pt q0 q1 q2 q3) = ![q0.val + 0, q1.val + 0, q2.val + 0, q3.val + 0]) q0 q1 q2 q3⟩

theorem flushed17_eq (c : Dev nD) (t : Fin cfg0.N) (hf : (cfg0.win 17).flush t = true) :
    (dats m 0 c).flushed 17 t = ((cfg0.win 17).blk t).view.read (Elt F) (G17 m c) := by
  show (cfg0.win 17).cut (grid0.coords t) ((dats m 0 c).after 17 t) = _
  rw [after0_17]
  have hm : t.val % 15 = 14 := (flush0_17 t).mp hf
  obtain ⟨e0, e1, e2, e3, e4⟩ := idx_facts17 t
  funext y
  have hy0 : (y 0).val < 1 := (y 0).isLt
  have hy1 : (y 1).val < 1 := (y 1).isLt
  have hy2 : (y 2).val < 1 := (y 2).isLt
  have hy3 : (y 3).val < 256 := (y 3).isLt
  have hb0 : (((cfg0.win 17).blk t).view.emb y 0).val = win0_17.index t (0 : Fin 4) * 1 + 1 * (y 0).val := rfl
  have hb1 : (((cfg0.win 17).blk t).view.emb y 1).val = win0_17.index t (1 : Fin 4) * 1 + 1 * (y 1).val := rfl
  have hb2 : (((cfg0.win 17).blk t).view.emb y 2).val = win0_17.index t (2 : Fin 4) * 1 + 1 * (y 2).val := rfl
  have hb3 : (((cfg0.win 17).blk t).view.emb y 3).val = win0_17.index t (3 : Fin 4) * 256 + 1 * (y 3).val := rfl
  have hr : run17Of (((cfg0.win 17).blk t).view.emb y) = t.val / 15 := by
    show 2 * ((((cfg0.win 17).blk t).view.emb y 0).val / 1 - 0) + 1 * ((((cfg0.win 17).blk t).view.emb y 1).val / 1 - 0) + 1 * ((((cfg0.win 17).blk t).view.emb y 2).val / 1 - 0) + 1 * ((((cfg0.win 17).blk t).view.emb y 3).val / 256 - 0) = _
    rw [hb0, hb1, hb2, hb3]
    rw [show (win0_17.index t (0 : Fin 4) * 1 + 1 * (y 0).val) / 1 = win0_17.index t (0 : Fin 4) from by omega]; rw [show (win0_17.index t (1 : Fin 4) * 1 + 1 * (y 1).val) / 1 = win0_17.index t (1 : Fin 4) from by omega]; rw [show (win0_17.index t (2 : Fin 4) * 1 + 1 * (y 2).val) / 1 = win0_17.index t (2 : Fin 4) from by omega]; rw [show (win0_17.index t (3 : Fin 4) * 256 + 1 * (y 3).val) / 256 = win0_17.index t (3 : Fin 4) from by omega]
    omega
  have hl : loc17Of (((cfg0.win 17).blk t).view.emb y) = (cfg0.win 17).xinj (grid0.coords t) y := by
    funext a; apply Fin.ext
    match a with
    | ⟨0, _⟩ => show (((cfg0.win 17).blk t).view.emb y 0).val % 1 = (y 0).val; rw [hb0]; omega
    | ⟨1, _⟩ => show (((cfg0.win 17).blk t).view.emb y 1).val % 1 = (y 1).val; rw [hb1]; omega
    | ⟨2, _⟩ => show (((cfg0.win 17).blk t).view.emb y 2).val % 1 = (y 2).val; rw [hb2]; omega
    | ⟨3, _⟩ => show (((cfg0.win 17).blk t).view.emb y 3).val % 256 = (y 3).val; rw [hb3]; omega
  have hp : pt17Of (((cfg0.win 17).blk t).view.emb y) = t.val := by
    show 15 * run17Of (((cfg0.win 17).blk t).view.emb y) + 14 = _
    rw [hr]; have := Nat.div_add_mod t.val 15; omega
  show (outsAt0 m c t.val t.isLt).2.2.1 ((cfg0.win 17).xinj (grid0.coords t) y) = G17 m c (((cfg0.win 17).blk t).view.emb y)
  unfold G17
  rw [dif_pos (by rw [hp]; exact t.isLt), hl, outsAt0_congr m c _ _ _ _ hp]

theorem mem_blk17 (t : Fin cfg0.N) (i : S4x2x1x256.Idx) :
    i ∈ ((cfg0.win 17).blk t).view.set ↔ ∀ a : Fin 4, win0_17.index t a * S1x1x1x256.size a ≤ (i a).val ∧ (i a).val < win0_17.index t a * S1x1x1x256.size a + S1x1x1x256.size a := by
  show i ∈ ((View.whole main_v4_2).slice (win0_17.rect t)).set ↔ _
  rw [View.set_slice_whole, Rect.mem_set_unit]
  exact Iff.rfl

theorem covered_iff17 (i : S4x2x1x256.Idx) :
    (∃ t : Fin cfg0.N, (cfg0.win 17).flush t = true ∧ i ∈ ((cfg0.win 17).blk t).view.set) ↔ 0 ≤ (i 0).val ∧ (i 0).val < 4 ∧ 0 ≤ (i 1).val ∧ (i 1).val < 2 ∧ 0 ≤ (i 2).val ∧ (i 2).val < 1 ∧ 0 ≤ (i 3).val ∧ (i 3).val < 256 := by
  constructor
  · rintro ⟨t, -, hi⟩
    rw [mem_blk17] at hi
    have b0 : win0_17.index t (0 : Fin 4) * 1 ≤ (i 0).val ∧ (i 0).val < win0_17.index t (0 : Fin 4) * 1 + 1 := hi 0
    have b1 : win0_17.index t (1 : Fin 4) * 1 ≤ (i 1).val ∧ (i 1).val < win0_17.index t (1 : Fin 4) * 1 + 1 := hi 1
    have b2 : win0_17.index t (2 : Fin 4) * 1 ≤ (i 2).val ∧ (i 2).val < win0_17.index t (2 : Fin 4) * 1 + 1 := hi 2
    have b3 : win0_17.index t (3 : Fin 4) * 256 ≤ (i 3).val ∧ (i 3).val < win0_17.index t (3 : Fin 4) * 256 + 256 := hi 3
    obtain ⟨e0, e1, e2, e3, e4⟩ := idx_facts17 t
    omega
  · intro h
    have hi0 : (i 0).val < 4 := (i 0).isLt
    have hi1 : (i 1).val < 2 := (i 1).isLt
    have hi2 : (i 2).val < 1 := (i 2).isLt
    have hi3 : (i 3).val < 256 := (i 3).isLt
    obtain ⟨t, hft, ht⟩ := idx_onto17 ⟨(i 0).val / 1 - 0, by omega⟩ ⟨(i 1).val / 1 - 0, by omega⟩ ⟨(i 2).val / 1 - 0, by omega⟩ ⟨(i 3).val / 256 - 0, by omega⟩
    have q0 : win0_17.index t (0 : Fin 4) = (i 0).val / 1 - 0 + 0 := congrFun ht 0
    have q1 : win0_17.index t (1 : Fin 4) = (i 1).val / 1 - 0 + 0 := congrFun ht 1
    have q2 : win0_17.index t (2 : Fin 4) = (i 2).val / 1 - 0 + 0 := congrFun ht 2
    have q3 : win0_17.index t (3 : Fin 4) = (i 3).val / 256 - 0 + 0 := congrFun ht 3
    refine ⟨t, hft, ?_⟩
    rw [mem_blk17]
    intro a
    match a with
    | ⟨0, _⟩ => show win0_17.index t (0 : Fin 4) * 1 ≤ (i 0).val ∧ (i 0).val < win0_17.index t (0 : Fin 4) * 1 + 1; omega
    | ⟨1, _⟩ => show win0_17.index t (1 : Fin 4) * 1 ≤ (i 1).val ∧ (i 1).val < win0_17.index t (1 : Fin 4) * 1 + 1; omega
    | ⟨2, _⟩ => show win0_17.index t (2 : Fin 4) * 1 ≤ (i 2).val ∧ (i 2).val < win0_17.index t (2 : Fin 4) * 1 + 1; omega
    | ⟨3, _⟩ => show win0_17.index t (3 : Fin 4) * 256 ≤ (i 3).val ∧ (i 3).val < win0_17.index t (3 : Fin 4) * 256 + 256; omega

theorem final17 (c : Dev nD) : (dats m 0 c).arrAt 17 cfg0.N = G17 m c :=
  (dats m 0 c).arrAt_eq_of_cover 17 _ (fun t hf => flushed17_eq m c t hf) (fun i => (covered_iff17 i).2 (by
    have h0 : (i 0).val < 4 := (i 0).isLt; have h1 : (i 1).val < 2 := (i 1).isLt; have h2 : (i 2).val < 1 := (i 2).isLt; have h3 : (i 3).val < 256 := (i 3).isLt; omega))

/-! ## Output window 18 -/

abbrev run18Of (i : S4x2x1x256.Idx) : ℕ := 2 * ((i 0).val / 1 - 0) + 1 * ((i 1).val / 1 - 0) + 1 * ((i 2).val / 1 - 0) + 1 * ((i 3).val / 256 - 0)
set_option backward.proofsInPublic true in
abbrev loc18Of (i : S4x2x1x256.Idx) : S1x1x1x256.Idx := fun a => match a with
  | ⟨0, _⟩ => ⟨(i 0).val % 1, Nat.mod_lt _ (by decide)⟩
  | ⟨1, _⟩ => ⟨(i 1).val % 1, Nat.mod_lt _ (by decide)⟩
  | ⟨2, _⟩ => ⟨(i 2).val % 1, Nat.mod_lt _ (by decide)⟩
  | ⟨3, _⟩ => ⟨(i 3).val % 256, Nat.mod_lt _ (by decide)⟩
abbrev pt18Of (i : S4x2x1x256.Idx) : ℕ := 15 * run18Of i + 14

def G18 (c : Dev nD) : Buf (Elt F) ((c : Thread nD τ).loc main_v4_3) := fun i =>
  if h : pt18Of i < cfg0.N then
    (outsAt0 m c (pt18Of i) h).2.2.2.1 (loc18Of i)
  else V m c (Pipeline.arrRef spec0 18) i

theorem idx_facts18 : ∀ t : Fin cfg0.N, 0 ≤ win0_18.index t (0 : Fin 4) ∧ win0_18.index t (0 : Fin 4) ≤ 3
    ∧ 0 ≤ win0_18.index t (1 : Fin 4) ∧ win0_18.index t (1 : Fin 4) ≤ 1
    ∧ 0 ≤ win0_18.index t (2 : Fin 4) ∧ win0_18.index t (2 : Fin 4) ≤ 0
    ∧ 0 ≤ win0_18.index t (3 : Fin 4) ∧ win0_18.index t (3 : Fin 4) ≤ 0
    ∧ 2 * (win0_18.index t (0 : Fin 4) - 0) + 1 * (win0_18.index t (1 : Fin 4) - 0) + 1 * (win0_18.index t (2 : Fin 4) - 0) + 1 * (win0_18.index t (3 : Fin 4) - 0) = t.val / 15 :=
  (by decide +kernel : ∀ t : Fin grid0.N, _)

abbrev onto18Pt (q0 : Fin 4) (q1 : Fin 2) (q2 : Fin 1) (q3 : Fin 1) : Fin grid0.N :=
  ⟨15 * (2 * q0.val + 1 * q1.val + 1 * q2.val + 1 * q3.val) + 14, lt_of_lt_of_eq (by omega) N_0.symm⟩
theorem idx_onto18 : ∀ (q0 : Fin 4) (q1 : Fin 2) (q2 : Fin 1) (q3 : Fin 1), ∃ t : Fin cfg0.N, (cfg0.win 18).flush t = true ∧ win0_18.index t = ![q0.val + 0, q1.val + 0, q2.val + 0, q3.val + 0] :=
  fun q0 q1 q2 q3 => ⟨onto18Pt q0 q1 q2 q3, (by decide +kernel : ∀ (q0 : Fin 4) (q1 : Fin 2) (q2 : Fin 1) (q3 : Fin 1), win0_18.flush (onto18Pt q0 q1 q2 q3) = true ∧ win0_18.index (onto18Pt q0 q1 q2 q3) = ![q0.val + 0, q1.val + 0, q2.val + 0, q3.val + 0]) q0 q1 q2 q3⟩

theorem flushed18_eq (c : Dev nD) (t : Fin cfg0.N) (hf : (cfg0.win 18).flush t = true) :
    (dats m 0 c).flushed 18 t = ((cfg0.win 18).blk t).view.read (Elt F) (G18 m c) := by
  show (cfg0.win 18).cut (grid0.coords t) ((dats m 0 c).after 18 t) = _
  rw [after0_18]
  have hm : t.val % 15 = 14 := (flush0_18 t).mp hf
  obtain ⟨e0, e1, e2, e3, e4⟩ := idx_facts18 t
  funext y
  have hy0 : (y 0).val < 1 := (y 0).isLt
  have hy1 : (y 1).val < 1 := (y 1).isLt
  have hy2 : (y 2).val < 1 := (y 2).isLt
  have hy3 : (y 3).val < 256 := (y 3).isLt
  have hb0 : (((cfg0.win 18).blk t).view.emb y 0).val = win0_18.index t (0 : Fin 4) * 1 + 1 * (y 0).val := rfl
  have hb1 : (((cfg0.win 18).blk t).view.emb y 1).val = win0_18.index t (1 : Fin 4) * 1 + 1 * (y 1).val := rfl
  have hb2 : (((cfg0.win 18).blk t).view.emb y 2).val = win0_18.index t (2 : Fin 4) * 1 + 1 * (y 2).val := rfl
  have hb3 : (((cfg0.win 18).blk t).view.emb y 3).val = win0_18.index t (3 : Fin 4) * 256 + 1 * (y 3).val := rfl
  have hr : run18Of (((cfg0.win 18).blk t).view.emb y) = t.val / 15 := by
    show 2 * ((((cfg0.win 18).blk t).view.emb y 0).val / 1 - 0) + 1 * ((((cfg0.win 18).blk t).view.emb y 1).val / 1 - 0) + 1 * ((((cfg0.win 18).blk t).view.emb y 2).val / 1 - 0) + 1 * ((((cfg0.win 18).blk t).view.emb y 3).val / 256 - 0) = _
    rw [hb0, hb1, hb2, hb3]
    rw [show (win0_18.index t (0 : Fin 4) * 1 + 1 * (y 0).val) / 1 = win0_18.index t (0 : Fin 4) from by omega]; rw [show (win0_18.index t (1 : Fin 4) * 1 + 1 * (y 1).val) / 1 = win0_18.index t (1 : Fin 4) from by omega]; rw [show (win0_18.index t (2 : Fin 4) * 1 + 1 * (y 2).val) / 1 = win0_18.index t (2 : Fin 4) from by omega]; rw [show (win0_18.index t (3 : Fin 4) * 256 + 1 * (y 3).val) / 256 = win0_18.index t (3 : Fin 4) from by omega]
    omega
  have hl : loc18Of (((cfg0.win 18).blk t).view.emb y) = (cfg0.win 18).xinj (grid0.coords t) y := by
    funext a; apply Fin.ext
    match a with
    | ⟨0, _⟩ => show (((cfg0.win 18).blk t).view.emb y 0).val % 1 = (y 0).val; rw [hb0]; omega
    | ⟨1, _⟩ => show (((cfg0.win 18).blk t).view.emb y 1).val % 1 = (y 1).val; rw [hb1]; omega
    | ⟨2, _⟩ => show (((cfg0.win 18).blk t).view.emb y 2).val % 1 = (y 2).val; rw [hb2]; omega
    | ⟨3, _⟩ => show (((cfg0.win 18).blk t).view.emb y 3).val % 256 = (y 3).val; rw [hb3]; omega
  have hp : pt18Of (((cfg0.win 18).blk t).view.emb y) = t.val := by
    show 15 * run18Of (((cfg0.win 18).blk t).view.emb y) + 14 = _
    rw [hr]; have := Nat.div_add_mod t.val 15; omega
  show (outsAt0 m c t.val t.isLt).2.2.2.1 ((cfg0.win 18).xinj (grid0.coords t) y) = G18 m c (((cfg0.win 18).blk t).view.emb y)
  unfold G18
  rw [dif_pos (by rw [hp]; exact t.isLt), hl, outsAt0_congr m c _ _ _ _ hp]

theorem mem_blk18 (t : Fin cfg0.N) (i : S4x2x1x256.Idx) :
    i ∈ ((cfg0.win 18).blk t).view.set ↔ ∀ a : Fin 4, win0_18.index t a * S1x1x1x256.size a ≤ (i a).val ∧ (i a).val < win0_18.index t a * S1x1x1x256.size a + S1x1x1x256.size a := by
  show i ∈ ((View.whole main_v4_3).slice (win0_18.rect t)).set ↔ _
  rw [View.set_slice_whole, Rect.mem_set_unit]
  exact Iff.rfl

theorem covered_iff18 (i : S4x2x1x256.Idx) :
    (∃ t : Fin cfg0.N, (cfg0.win 18).flush t = true ∧ i ∈ ((cfg0.win 18).blk t).view.set) ↔ 0 ≤ (i 0).val ∧ (i 0).val < 4 ∧ 0 ≤ (i 1).val ∧ (i 1).val < 2 ∧ 0 ≤ (i 2).val ∧ (i 2).val < 1 ∧ 0 ≤ (i 3).val ∧ (i 3).val < 256 := by
  constructor
  · rintro ⟨t, -, hi⟩
    rw [mem_blk18] at hi
    have b0 : win0_18.index t (0 : Fin 4) * 1 ≤ (i 0).val ∧ (i 0).val < win0_18.index t (0 : Fin 4) * 1 + 1 := hi 0
    have b1 : win0_18.index t (1 : Fin 4) * 1 ≤ (i 1).val ∧ (i 1).val < win0_18.index t (1 : Fin 4) * 1 + 1 := hi 1
    have b2 : win0_18.index t (2 : Fin 4) * 1 ≤ (i 2).val ∧ (i 2).val < win0_18.index t (2 : Fin 4) * 1 + 1 := hi 2
    have b3 : win0_18.index t (3 : Fin 4) * 256 ≤ (i 3).val ∧ (i 3).val < win0_18.index t (3 : Fin 4) * 256 + 256 := hi 3
    obtain ⟨e0, e1, e2, e3, e4⟩ := idx_facts18 t
    omega
  · intro h
    have hi0 : (i 0).val < 4 := (i 0).isLt
    have hi1 : (i 1).val < 2 := (i 1).isLt
    have hi2 : (i 2).val < 1 := (i 2).isLt
    have hi3 : (i 3).val < 256 := (i 3).isLt
    obtain ⟨t, hft, ht⟩ := idx_onto18 ⟨(i 0).val / 1 - 0, by omega⟩ ⟨(i 1).val / 1 - 0, by omega⟩ ⟨(i 2).val / 1 - 0, by omega⟩ ⟨(i 3).val / 256 - 0, by omega⟩
    have q0 : win0_18.index t (0 : Fin 4) = (i 0).val / 1 - 0 + 0 := congrFun ht 0
    have q1 : win0_18.index t (1 : Fin 4) = (i 1).val / 1 - 0 + 0 := congrFun ht 1
    have q2 : win0_18.index t (2 : Fin 4) = (i 2).val / 1 - 0 + 0 := congrFun ht 2
    have q3 : win0_18.index t (3 : Fin 4) = (i 3).val / 256 - 0 + 0 := congrFun ht 3
    refine ⟨t, hft, ?_⟩
    rw [mem_blk18]
    intro a
    match a with
    | ⟨0, _⟩ => show win0_18.index t (0 : Fin 4) * 1 ≤ (i 0).val ∧ (i 0).val < win0_18.index t (0 : Fin 4) * 1 + 1; omega
    | ⟨1, _⟩ => show win0_18.index t (1 : Fin 4) * 1 ≤ (i 1).val ∧ (i 1).val < win0_18.index t (1 : Fin 4) * 1 + 1; omega
    | ⟨2, _⟩ => show win0_18.index t (2 : Fin 4) * 1 ≤ (i 2).val ∧ (i 2).val < win0_18.index t (2 : Fin 4) * 1 + 1; omega
    | ⟨3, _⟩ => show win0_18.index t (3 : Fin 4) * 256 ≤ (i 3).val ∧ (i 3).val < win0_18.index t (3 : Fin 4) * 256 + 256; omega

theorem final18 (c : Dev nD) : (dats m 0 c).arrAt 18 cfg0.N = G18 m c :=
  (dats m 0 c).arrAt_eq_of_cover 18 _ (fun t hf => flushed18_eq m c t hf) (fun i => (covered_iff18 i).2 (by
    have h0 : (i 0).val < 4 := (i 0).isLt; have h1 : (i 1).val < 2 := (i 1).isLt; have h2 : (i 2).val < 1 := (i 2).isLt; have h3 : (i 3).val < 256 := (i 3).isLt; omega))

/-! ## Output window 19 -/

abbrev run19Of (i : S4x2x1x128.Idx) : ℕ := 2 * ((i 0).val / 1 - 0) + 1 * ((i 1).val / 1 - 0) + 1 * ((i 2).val / 1 - 0) + 1 * ((i 3).val / 128 - 0)
set_option backward.proofsInPublic true in
abbrev loc19Of (i : S4x2x1x128.Idx) : S1x1x1x128.Idx := fun a => match a with
  | ⟨0, _⟩ => ⟨(i 0).val % 1, Nat.mod_lt _ (by decide)⟩
  | ⟨1, _⟩ => ⟨(i 1).val % 1, Nat.mod_lt _ (by decide)⟩
  | ⟨2, _⟩ => ⟨(i 2).val % 1, Nat.mod_lt _ (by decide)⟩
  | ⟨3, _⟩ => ⟨(i 3).val % 128, Nat.mod_lt _ (by decide)⟩
abbrev pt19Of (i : S4x2x1x128.Idx) : ℕ := 15 * run19Of i + 14

def G19 (c : Dev nD) : Buf (Elt F) ((c : Thread nD τ).loc main_v4_4) := fun i =>
  if h : pt19Of i < cfg0.N then
    (outsAt0 m c (pt19Of i) h).2.2.2.2.1 (loc19Of i)
  else V m c (Pipeline.arrRef spec0 19) i

theorem idx_facts19 : ∀ t : Fin cfg0.N, 0 ≤ win0_19.index t (0 : Fin 4) ∧ win0_19.index t (0 : Fin 4) ≤ 3
    ∧ 0 ≤ win0_19.index t (1 : Fin 4) ∧ win0_19.index t (1 : Fin 4) ≤ 1
    ∧ 0 ≤ win0_19.index t (2 : Fin 4) ∧ win0_19.index t (2 : Fin 4) ≤ 0
    ∧ 0 ≤ win0_19.index t (3 : Fin 4) ∧ win0_19.index t (3 : Fin 4) ≤ 0
    ∧ 2 * (win0_19.index t (0 : Fin 4) - 0) + 1 * (win0_19.index t (1 : Fin 4) - 0) + 1 * (win0_19.index t (2 : Fin 4) - 0) + 1 * (win0_19.index t (3 : Fin 4) - 0) = t.val / 15 :=
  (by decide +kernel : ∀ t : Fin grid0.N, _)

abbrev onto19Pt (q0 : Fin 4) (q1 : Fin 2) (q2 : Fin 1) (q3 : Fin 1) : Fin grid0.N :=
  ⟨15 * (2 * q0.val + 1 * q1.val + 1 * q2.val + 1 * q3.val) + 14, lt_of_lt_of_eq (by omega) N_0.symm⟩
theorem idx_onto19 : ∀ (q0 : Fin 4) (q1 : Fin 2) (q2 : Fin 1) (q3 : Fin 1), ∃ t : Fin cfg0.N, (cfg0.win 19).flush t = true ∧ win0_19.index t = ![q0.val + 0, q1.val + 0, q2.val + 0, q3.val + 0] :=
  fun q0 q1 q2 q3 => ⟨onto19Pt q0 q1 q2 q3, (by decide +kernel : ∀ (q0 : Fin 4) (q1 : Fin 2) (q2 : Fin 1) (q3 : Fin 1), win0_19.flush (onto19Pt q0 q1 q2 q3) = true ∧ win0_19.index (onto19Pt q0 q1 q2 q3) = ![q0.val + 0, q1.val + 0, q2.val + 0, q3.val + 0]) q0 q1 q2 q3⟩

theorem flushed19_eq (c : Dev nD) (t : Fin cfg0.N) (hf : (cfg0.win 19).flush t = true) :
    (dats m 0 c).flushed 19 t = ((cfg0.win 19).blk t).view.read (Elt F) (G19 m c) := by
  show (cfg0.win 19).cut (grid0.coords t) ((dats m 0 c).after 19 t) = _
  rw [after0_19]
  have hm : t.val % 15 = 14 := (flush0_19 t).mp hf
  obtain ⟨e0, e1, e2, e3, e4⟩ := idx_facts19 t
  funext y
  have hy0 : (y 0).val < 1 := (y 0).isLt
  have hy1 : (y 1).val < 1 := (y 1).isLt
  have hy2 : (y 2).val < 1 := (y 2).isLt
  have hy3 : (y 3).val < 128 := (y 3).isLt
  have hb0 : (((cfg0.win 19).blk t).view.emb y 0).val = win0_19.index t (0 : Fin 4) * 1 + 1 * (y 0).val := rfl
  have hb1 : (((cfg0.win 19).blk t).view.emb y 1).val = win0_19.index t (1 : Fin 4) * 1 + 1 * (y 1).val := rfl
  have hb2 : (((cfg0.win 19).blk t).view.emb y 2).val = win0_19.index t (2 : Fin 4) * 1 + 1 * (y 2).val := rfl
  have hb3 : (((cfg0.win 19).blk t).view.emb y 3).val = win0_19.index t (3 : Fin 4) * 128 + 1 * (y 3).val := rfl
  have hr : run19Of (((cfg0.win 19).blk t).view.emb y) = t.val / 15 := by
    show 2 * ((((cfg0.win 19).blk t).view.emb y 0).val / 1 - 0) + 1 * ((((cfg0.win 19).blk t).view.emb y 1).val / 1 - 0) + 1 * ((((cfg0.win 19).blk t).view.emb y 2).val / 1 - 0) + 1 * ((((cfg0.win 19).blk t).view.emb y 3).val / 128 - 0) = _
    rw [hb0, hb1, hb2, hb3]
    rw [show (win0_19.index t (0 : Fin 4) * 1 + 1 * (y 0).val) / 1 = win0_19.index t (0 : Fin 4) from by omega]; rw [show (win0_19.index t (1 : Fin 4) * 1 + 1 * (y 1).val) / 1 = win0_19.index t (1 : Fin 4) from by omega]; rw [show (win0_19.index t (2 : Fin 4) * 1 + 1 * (y 2).val) / 1 = win0_19.index t (2 : Fin 4) from by omega]; rw [show (win0_19.index t (3 : Fin 4) * 128 + 1 * (y 3).val) / 128 = win0_19.index t (3 : Fin 4) from by omega]
    omega
  have hl : loc19Of (((cfg0.win 19).blk t).view.emb y) = (cfg0.win 19).xinj (grid0.coords t) y := by
    funext a; apply Fin.ext
    match a with
    | ⟨0, _⟩ => show (((cfg0.win 19).blk t).view.emb y 0).val % 1 = (y 0).val; rw [hb0]; omega
    | ⟨1, _⟩ => show (((cfg0.win 19).blk t).view.emb y 1).val % 1 = (y 1).val; rw [hb1]; omega
    | ⟨2, _⟩ => show (((cfg0.win 19).blk t).view.emb y 2).val % 1 = (y 2).val; rw [hb2]; omega
    | ⟨3, _⟩ => show (((cfg0.win 19).blk t).view.emb y 3).val % 128 = (y 3).val; rw [hb3]; omega
  have hp : pt19Of (((cfg0.win 19).blk t).view.emb y) = t.val := by
    show 15 * run19Of (((cfg0.win 19).blk t).view.emb y) + 14 = _
    rw [hr]; have := Nat.div_add_mod t.val 15; omega
  show (outsAt0 m c t.val t.isLt).2.2.2.2.1 ((cfg0.win 19).xinj (grid0.coords t) y) = G19 m c (((cfg0.win 19).blk t).view.emb y)
  unfold G19
  rw [dif_pos (by rw [hp]; exact t.isLt), hl, outsAt0_congr m c _ _ _ _ hp]

theorem mem_blk19 (t : Fin cfg0.N) (i : S4x2x1x128.Idx) :
    i ∈ ((cfg0.win 19).blk t).view.set ↔ ∀ a : Fin 4, win0_19.index t a * S1x1x1x128.size a ≤ (i a).val ∧ (i a).val < win0_19.index t a * S1x1x1x128.size a + S1x1x1x128.size a := by
  show i ∈ ((View.whole main_v4_4).slice (win0_19.rect t)).set ↔ _
  rw [View.set_slice_whole, Rect.mem_set_unit]
  exact Iff.rfl

theorem covered_iff19 (i : S4x2x1x128.Idx) :
    (∃ t : Fin cfg0.N, (cfg0.win 19).flush t = true ∧ i ∈ ((cfg0.win 19).blk t).view.set) ↔ 0 ≤ (i 0).val ∧ (i 0).val < 4 ∧ 0 ≤ (i 1).val ∧ (i 1).val < 2 ∧ 0 ≤ (i 2).val ∧ (i 2).val < 1 ∧ 0 ≤ (i 3).val ∧ (i 3).val < 128 := by
  constructor
  · rintro ⟨t, -, hi⟩
    rw [mem_blk19] at hi
    have b0 : win0_19.index t (0 : Fin 4) * 1 ≤ (i 0).val ∧ (i 0).val < win0_19.index t (0 : Fin 4) * 1 + 1 := hi 0
    have b1 : win0_19.index t (1 : Fin 4) * 1 ≤ (i 1).val ∧ (i 1).val < win0_19.index t (1 : Fin 4) * 1 + 1 := hi 1
    have b2 : win0_19.index t (2 : Fin 4) * 1 ≤ (i 2).val ∧ (i 2).val < win0_19.index t (2 : Fin 4) * 1 + 1 := hi 2
    have b3 : win0_19.index t (3 : Fin 4) * 128 ≤ (i 3).val ∧ (i 3).val < win0_19.index t (3 : Fin 4) * 128 + 128 := hi 3
    obtain ⟨e0, e1, e2, e3, e4⟩ := idx_facts19 t
    omega
  · intro h
    have hi0 : (i 0).val < 4 := (i 0).isLt
    have hi1 : (i 1).val < 2 := (i 1).isLt
    have hi2 : (i 2).val < 1 := (i 2).isLt
    have hi3 : (i 3).val < 128 := (i 3).isLt
    obtain ⟨t, hft, ht⟩ := idx_onto19 ⟨(i 0).val / 1 - 0, by omega⟩ ⟨(i 1).val / 1 - 0, by omega⟩ ⟨(i 2).val / 1 - 0, by omega⟩ ⟨(i 3).val / 128 - 0, by omega⟩
    have q0 : win0_19.index t (0 : Fin 4) = (i 0).val / 1 - 0 + 0 := congrFun ht 0
    have q1 : win0_19.index t (1 : Fin 4) = (i 1).val / 1 - 0 + 0 := congrFun ht 1
    have q2 : win0_19.index t (2 : Fin 4) = (i 2).val / 1 - 0 + 0 := congrFun ht 2
    have q3 : win0_19.index t (3 : Fin 4) = (i 3).val / 128 - 0 + 0 := congrFun ht 3
    refine ⟨t, hft, ?_⟩
    rw [mem_blk19]
    intro a
    match a with
    | ⟨0, _⟩ => show win0_19.index t (0 : Fin 4) * 1 ≤ (i 0).val ∧ (i 0).val < win0_19.index t (0 : Fin 4) * 1 + 1; omega
    | ⟨1, _⟩ => show win0_19.index t (1 : Fin 4) * 1 ≤ (i 1).val ∧ (i 1).val < win0_19.index t (1 : Fin 4) * 1 + 1; omega
    | ⟨2, _⟩ => show win0_19.index t (2 : Fin 4) * 1 ≤ (i 2).val ∧ (i 2).val < win0_19.index t (2 : Fin 4) * 1 + 1; omega
    | ⟨3, _⟩ => show win0_19.index t (3 : Fin 4) * 128 ≤ (i 3).val ∧ (i 3).val < win0_19.index t (3 : Fin 4) * 128 + 128; omega

theorem final19 (c : Dev nD) : (dats m 0 c).arrAt 19 cfg0.N = G19 m c :=
  (dats m 0 c).arrAt_eq_of_cover 19 _ (fun t hf => flushed19_eq m c t hf) (fun i => (covered_iff19 i).2 (by
    have h0 : (i 0).val < 4 := (i 0).isLt; have h1 : (i 1).val < 2 := (i 1).isLt; have h2 : (i 2).val < 1 := (i 2).isLt; have h3 : (i 3).val < 128 := (i 3).isLt; omega))

/-! ## Output window 20 -/

abbrev run20Of (i : S4x2x1x8.Idx) : ℕ := 2 * ((i 0).val / 1 - 0) + 1 * ((i 1).val / 1 - 0) + 1 * ((i 2).val / 1 - 0) + 1 * ((i 3).val / 8 - 0)
set_option backward.proofsInPublic true in
abbrev loc20Of (i : S4x2x1x8.Idx) : S1x1x1x8.Idx := fun a => match a with
  | ⟨0, _⟩ => ⟨(i 0).val % 1, Nat.mod_lt _ (by decide)⟩
  | ⟨1, _⟩ => ⟨(i 1).val % 1, Nat.mod_lt _ (by decide)⟩
  | ⟨2, _⟩ => ⟨(i 2).val % 1, Nat.mod_lt _ (by decide)⟩
  | ⟨3, _⟩ => ⟨(i 3).val % 8, Nat.mod_lt _ (by decide)⟩
abbrev pt20Of (i : S4x2x1x8.Idx) : ℕ := 15 * run20Of i + 14

def G20 (c : Dev nD) : Buf (Elt F) ((c : Thread nD τ).loc main_v4_5) := fun i =>
  if h : pt20Of i < cfg0.N then
    (outsAt0 m c (pt20Of i) h).2.2.2.2.2.1 (loc20Of i)
  else V m c (Pipeline.arrRef spec0 20) i

theorem idx_facts20 : ∀ t : Fin cfg0.N, 0 ≤ win0_20.index t (0 : Fin 4) ∧ win0_20.index t (0 : Fin 4) ≤ 3
    ∧ 0 ≤ win0_20.index t (1 : Fin 4) ∧ win0_20.index t (1 : Fin 4) ≤ 1
    ∧ 0 ≤ win0_20.index t (2 : Fin 4) ∧ win0_20.index t (2 : Fin 4) ≤ 0
    ∧ 0 ≤ win0_20.index t (3 : Fin 4) ∧ win0_20.index t (3 : Fin 4) ≤ 0
    ∧ 2 * (win0_20.index t (0 : Fin 4) - 0) + 1 * (win0_20.index t (1 : Fin 4) - 0) + 1 * (win0_20.index t (2 : Fin 4) - 0) + 1 * (win0_20.index t (3 : Fin 4) - 0) = t.val / 15 :=
  (by decide +kernel : ∀ t : Fin grid0.N, _)

abbrev onto20Pt (q0 : Fin 4) (q1 : Fin 2) (q2 : Fin 1) (q3 : Fin 1) : Fin grid0.N :=
  ⟨15 * (2 * q0.val + 1 * q1.val + 1 * q2.val + 1 * q3.val) + 14, lt_of_lt_of_eq (by omega) N_0.symm⟩
theorem idx_onto20 : ∀ (q0 : Fin 4) (q1 : Fin 2) (q2 : Fin 1) (q3 : Fin 1), ∃ t : Fin cfg0.N, (cfg0.win 20).flush t = true ∧ win0_20.index t = ![q0.val + 0, q1.val + 0, q2.val + 0, q3.val + 0] :=
  fun q0 q1 q2 q3 => ⟨onto20Pt q0 q1 q2 q3, (by decide +kernel : ∀ (q0 : Fin 4) (q1 : Fin 2) (q2 : Fin 1) (q3 : Fin 1), win0_20.flush (onto20Pt q0 q1 q2 q3) = true ∧ win0_20.index (onto20Pt q0 q1 q2 q3) = ![q0.val + 0, q1.val + 0, q2.val + 0, q3.val + 0]) q0 q1 q2 q3⟩

theorem flushed20_eq (c : Dev nD) (t : Fin cfg0.N) (hf : (cfg0.win 20).flush t = true) :
    (dats m 0 c).flushed 20 t = ((cfg0.win 20).blk t).view.read (Elt F) (G20 m c) := by
  show (cfg0.win 20).cut (grid0.coords t) ((dats m 0 c).after 20 t) = _
  rw [after0_20]
  have hm : t.val % 15 = 14 := (flush0_20 t).mp hf
  obtain ⟨e0, e1, e2, e3, e4⟩ := idx_facts20 t
  funext y
  have hy0 : (y 0).val < 1 := (y 0).isLt
  have hy1 : (y 1).val < 1 := (y 1).isLt
  have hy2 : (y 2).val < 1 := (y 2).isLt
  have hy3 : (y 3).val < 8 := (y 3).isLt
  have hb0 : (((cfg0.win 20).blk t).view.emb y 0).val = win0_20.index t (0 : Fin 4) * 1 + 1 * (y 0).val := rfl
  have hb1 : (((cfg0.win 20).blk t).view.emb y 1).val = win0_20.index t (1 : Fin 4) * 1 + 1 * (y 1).val := rfl
  have hb2 : (((cfg0.win 20).blk t).view.emb y 2).val = win0_20.index t (2 : Fin 4) * 1 + 1 * (y 2).val := rfl
  have hb3 : (((cfg0.win 20).blk t).view.emb y 3).val = win0_20.index t (3 : Fin 4) * 8 + 1 * (y 3).val := rfl
  have hr : run20Of (((cfg0.win 20).blk t).view.emb y) = t.val / 15 := by
    show 2 * ((((cfg0.win 20).blk t).view.emb y 0).val / 1 - 0) + 1 * ((((cfg0.win 20).blk t).view.emb y 1).val / 1 - 0) + 1 * ((((cfg0.win 20).blk t).view.emb y 2).val / 1 - 0) + 1 * ((((cfg0.win 20).blk t).view.emb y 3).val / 8 - 0) = _
    rw [hb0, hb1, hb2, hb3]
    rw [show (win0_20.index t (0 : Fin 4) * 1 + 1 * (y 0).val) / 1 = win0_20.index t (0 : Fin 4) from by omega]; rw [show (win0_20.index t (1 : Fin 4) * 1 + 1 * (y 1).val) / 1 = win0_20.index t (1 : Fin 4) from by omega]; rw [show (win0_20.index t (2 : Fin 4) * 1 + 1 * (y 2).val) / 1 = win0_20.index t (2 : Fin 4) from by omega]; rw [show (win0_20.index t (3 : Fin 4) * 8 + 1 * (y 3).val) / 8 = win0_20.index t (3 : Fin 4) from by omega]
    omega
  have hl : loc20Of (((cfg0.win 20).blk t).view.emb y) = (cfg0.win 20).xinj (grid0.coords t) y := by
    funext a; apply Fin.ext
    match a with
    | ⟨0, _⟩ => show (((cfg0.win 20).blk t).view.emb y 0).val % 1 = (y 0).val; rw [hb0]; omega
    | ⟨1, _⟩ => show (((cfg0.win 20).blk t).view.emb y 1).val % 1 = (y 1).val; rw [hb1]; omega
    | ⟨2, _⟩ => show (((cfg0.win 20).blk t).view.emb y 2).val % 1 = (y 2).val; rw [hb2]; omega
    | ⟨3, _⟩ => show (((cfg0.win 20).blk t).view.emb y 3).val % 8 = (y 3).val; rw [hb3]; omega
  have hp : pt20Of (((cfg0.win 20).blk t).view.emb y) = t.val := by
    show 15 * run20Of (((cfg0.win 20).blk t).view.emb y) + 14 = _
    rw [hr]; have := Nat.div_add_mod t.val 15; omega
  show (outsAt0 m c t.val t.isLt).2.2.2.2.2.1 ((cfg0.win 20).xinj (grid0.coords t) y) = G20 m c (((cfg0.win 20).blk t).view.emb y)
  unfold G20
  rw [dif_pos (by rw [hp]; exact t.isLt), hl, outsAt0_congr m c _ _ _ _ hp]

theorem mem_blk20 (t : Fin cfg0.N) (i : S4x2x1x8.Idx) :
    i ∈ ((cfg0.win 20).blk t).view.set ↔ ∀ a : Fin 4, win0_20.index t a * S1x1x1x8.size a ≤ (i a).val ∧ (i a).val < win0_20.index t a * S1x1x1x8.size a + S1x1x1x8.size a := by
  show i ∈ ((View.whole main_v4_5).slice (win0_20.rect t)).set ↔ _
  rw [View.set_slice_whole, Rect.mem_set_unit]
  exact Iff.rfl

theorem covered_iff20 (i : S4x2x1x8.Idx) :
    (∃ t : Fin cfg0.N, (cfg0.win 20).flush t = true ∧ i ∈ ((cfg0.win 20).blk t).view.set) ↔ 0 ≤ (i 0).val ∧ (i 0).val < 4 ∧ 0 ≤ (i 1).val ∧ (i 1).val < 2 ∧ 0 ≤ (i 2).val ∧ (i 2).val < 1 ∧ 0 ≤ (i 3).val ∧ (i 3).val < 8 := by
  constructor
  · rintro ⟨t, -, hi⟩
    rw [mem_blk20] at hi
    have b0 : win0_20.index t (0 : Fin 4) * 1 ≤ (i 0).val ∧ (i 0).val < win0_20.index t (0 : Fin 4) * 1 + 1 := hi 0
    have b1 : win0_20.index t (1 : Fin 4) * 1 ≤ (i 1).val ∧ (i 1).val < win0_20.index t (1 : Fin 4) * 1 + 1 := hi 1
    have b2 : win0_20.index t (2 : Fin 4) * 1 ≤ (i 2).val ∧ (i 2).val < win0_20.index t (2 : Fin 4) * 1 + 1 := hi 2
    have b3 : win0_20.index t (3 : Fin 4) * 8 ≤ (i 3).val ∧ (i 3).val < win0_20.index t (3 : Fin 4) * 8 + 8 := hi 3
    obtain ⟨e0, e1, e2, e3, e4⟩ := idx_facts20 t
    omega
  · intro h
    have hi0 : (i 0).val < 4 := (i 0).isLt
    have hi1 : (i 1).val < 2 := (i 1).isLt
    have hi2 : (i 2).val < 1 := (i 2).isLt
    have hi3 : (i 3).val < 8 := (i 3).isLt
    obtain ⟨t, hft, ht⟩ := idx_onto20 ⟨(i 0).val / 1 - 0, by omega⟩ ⟨(i 1).val / 1 - 0, by omega⟩ ⟨(i 2).val / 1 - 0, by omega⟩ ⟨(i 3).val / 8 - 0, by omega⟩
    have q0 : win0_20.index t (0 : Fin 4) = (i 0).val / 1 - 0 + 0 := congrFun ht 0
    have q1 : win0_20.index t (1 : Fin 4) = (i 1).val / 1 - 0 + 0 := congrFun ht 1
    have q2 : win0_20.index t (2 : Fin 4) = (i 2).val / 1 - 0 + 0 := congrFun ht 2
    have q3 : win0_20.index t (3 : Fin 4) = (i 3).val / 8 - 0 + 0 := congrFun ht 3
    refine ⟨t, hft, ?_⟩
    rw [mem_blk20]
    intro a
    match a with
    | ⟨0, _⟩ => show win0_20.index t (0 : Fin 4) * 1 ≤ (i 0).val ∧ (i 0).val < win0_20.index t (0 : Fin 4) * 1 + 1; omega
    | ⟨1, _⟩ => show win0_20.index t (1 : Fin 4) * 1 ≤ (i 1).val ∧ (i 1).val < win0_20.index t (1 : Fin 4) * 1 + 1; omega
    | ⟨2, _⟩ => show win0_20.index t (2 : Fin 4) * 1 ≤ (i 2).val ∧ (i 2).val < win0_20.index t (2 : Fin 4) * 1 + 1; omega
    | ⟨3, _⟩ => show win0_20.index t (3 : Fin 4) * 8 ≤ (i 3).val ∧ (i 3).val < win0_20.index t (3 : Fin 4) * 8 + 8; omega

theorem final20 (c : Dev nD) : (dats m 0 c).arrAt 20 cfg0.N = G20 m c :=
  (dats m 0 c).arrAt_eq_of_cover 20 _ (fun t hf => flushed20_eq m c t hf) (fun i => (covered_iff20 i).2 (by
    have h0 : (i 0).val < 4 := (i 0).isLt; have h1 : (i 1).val < 2 := (i 1).isLt; have h2 : (i 2).val < 1 := (i 2).isLt; have h3 : (i 3).val < 8 := (i 3).isLt; omega))

/-! ## Output window 21 -/

abbrev run21Of (i : S4x2x1x8.Idx) : ℕ := 2 * ((i 0).val / 1 - 0) + 1 * ((i 1).val / 1 - 0) + 1 * ((i 2).val / 1 - 0) + 1 * ((i 3).val / 8 - 0)
set_option backward.proofsInPublic true in
abbrev loc21Of (i : S4x2x1x8.Idx) : S1x1x1x8.Idx := fun a => match a with
  | ⟨0, _⟩ => ⟨(i 0).val % 1, Nat.mod_lt _ (by decide)⟩
  | ⟨1, _⟩ => ⟨(i 1).val % 1, Nat.mod_lt _ (by decide)⟩
  | ⟨2, _⟩ => ⟨(i 2).val % 1, Nat.mod_lt _ (by decide)⟩
  | ⟨3, _⟩ => ⟨(i 3).val % 8, Nat.mod_lt _ (by decide)⟩
abbrev pt21Of (i : S4x2x1x8.Idx) : ℕ := 15 * run21Of i + 14

def G21 (c : Dev nD) : Buf (Elt F) ((c : Thread nD τ).loc main_v4_6) := fun i =>
  if h : pt21Of i < cfg0.N then
    (outsAt0 m c (pt21Of i) h).2.2.2.2.2.2.1 (loc21Of i)
  else V m c (Pipeline.arrRef spec0 21) i

theorem idx_facts21 : ∀ t : Fin cfg0.N, 0 ≤ win0_21.index t (0 : Fin 4) ∧ win0_21.index t (0 : Fin 4) ≤ 3
    ∧ 0 ≤ win0_21.index t (1 : Fin 4) ∧ win0_21.index t (1 : Fin 4) ≤ 1
    ∧ 0 ≤ win0_21.index t (2 : Fin 4) ∧ win0_21.index t (2 : Fin 4) ≤ 0
    ∧ 0 ≤ win0_21.index t (3 : Fin 4) ∧ win0_21.index t (3 : Fin 4) ≤ 0
    ∧ 2 * (win0_21.index t (0 : Fin 4) - 0) + 1 * (win0_21.index t (1 : Fin 4) - 0) + 1 * (win0_21.index t (2 : Fin 4) - 0) + 1 * (win0_21.index t (3 : Fin 4) - 0) = t.val / 15 :=
  (by decide +kernel : ∀ t : Fin grid0.N, _)

abbrev onto21Pt (q0 : Fin 4) (q1 : Fin 2) (q2 : Fin 1) (q3 : Fin 1) : Fin grid0.N :=
  ⟨15 * (2 * q0.val + 1 * q1.val + 1 * q2.val + 1 * q3.val) + 14, lt_of_lt_of_eq (by omega) N_0.symm⟩
theorem idx_onto21 : ∀ (q0 : Fin 4) (q1 : Fin 2) (q2 : Fin 1) (q3 : Fin 1), ∃ t : Fin cfg0.N, (cfg0.win 21).flush t = true ∧ win0_21.index t = ![q0.val + 0, q1.val + 0, q2.val + 0, q3.val + 0] :=
  fun q0 q1 q2 q3 => ⟨onto21Pt q0 q1 q2 q3, (by decide +kernel : ∀ (q0 : Fin 4) (q1 : Fin 2) (q2 : Fin 1) (q3 : Fin 1), win0_21.flush (onto21Pt q0 q1 q2 q3) = true ∧ win0_21.index (onto21Pt q0 q1 q2 q3) = ![q0.val + 0, q1.val + 0, q2.val + 0, q3.val + 0]) q0 q1 q2 q3⟩

theorem flushed21_eq (c : Dev nD) (t : Fin cfg0.N) (hf : (cfg0.win 21).flush t = true) :
    (dats m 0 c).flushed 21 t = ((cfg0.win 21).blk t).view.read (Elt F) (G21 m c) := by
  show (cfg0.win 21).cut (grid0.coords t) ((dats m 0 c).after 21 t) = _
  rw [after0_21]
  have hm : t.val % 15 = 14 := (flush0_21 t).mp hf
  obtain ⟨e0, e1, e2, e3, e4⟩ := idx_facts21 t
  funext y
  have hy0 : (y 0).val < 1 := (y 0).isLt
  have hy1 : (y 1).val < 1 := (y 1).isLt
  have hy2 : (y 2).val < 1 := (y 2).isLt
  have hy3 : (y 3).val < 8 := (y 3).isLt
  have hb0 : (((cfg0.win 21).blk t).view.emb y 0).val = win0_21.index t (0 : Fin 4) * 1 + 1 * (y 0).val := rfl
  have hb1 : (((cfg0.win 21).blk t).view.emb y 1).val = win0_21.index t (1 : Fin 4) * 1 + 1 * (y 1).val := rfl
  have hb2 : (((cfg0.win 21).blk t).view.emb y 2).val = win0_21.index t (2 : Fin 4) * 1 + 1 * (y 2).val := rfl
  have hb3 : (((cfg0.win 21).blk t).view.emb y 3).val = win0_21.index t (3 : Fin 4) * 8 + 1 * (y 3).val := rfl
  have hr : run21Of (((cfg0.win 21).blk t).view.emb y) = t.val / 15 := by
    show 2 * ((((cfg0.win 21).blk t).view.emb y 0).val / 1 - 0) + 1 * ((((cfg0.win 21).blk t).view.emb y 1).val / 1 - 0) + 1 * ((((cfg0.win 21).blk t).view.emb y 2).val / 1 - 0) + 1 * ((((cfg0.win 21).blk t).view.emb y 3).val / 8 - 0) = _
    rw [hb0, hb1, hb2, hb3]
    rw [show (win0_21.index t (0 : Fin 4) * 1 + 1 * (y 0).val) / 1 = win0_21.index t (0 : Fin 4) from by omega]; rw [show (win0_21.index t (1 : Fin 4) * 1 + 1 * (y 1).val) / 1 = win0_21.index t (1 : Fin 4) from by omega]; rw [show (win0_21.index t (2 : Fin 4) * 1 + 1 * (y 2).val) / 1 = win0_21.index t (2 : Fin 4) from by omega]; rw [show (win0_21.index t (3 : Fin 4) * 8 + 1 * (y 3).val) / 8 = win0_21.index t (3 : Fin 4) from by omega]
    omega
  have hl : loc21Of (((cfg0.win 21).blk t).view.emb y) = (cfg0.win 21).xinj (grid0.coords t) y := by
    funext a; apply Fin.ext
    match a with
    | ⟨0, _⟩ => show (((cfg0.win 21).blk t).view.emb y 0).val % 1 = (y 0).val; rw [hb0]; omega
    | ⟨1, _⟩ => show (((cfg0.win 21).blk t).view.emb y 1).val % 1 = (y 1).val; rw [hb1]; omega
    | ⟨2, _⟩ => show (((cfg0.win 21).blk t).view.emb y 2).val % 1 = (y 2).val; rw [hb2]; omega
    | ⟨3, _⟩ => show (((cfg0.win 21).blk t).view.emb y 3).val % 8 = (y 3).val; rw [hb3]; omega
  have hp : pt21Of (((cfg0.win 21).blk t).view.emb y) = t.val := by
    show 15 * run21Of (((cfg0.win 21).blk t).view.emb y) + 14 = _
    rw [hr]; have := Nat.div_add_mod t.val 15; omega
  show (outsAt0 m c t.val t.isLt).2.2.2.2.2.2.1 ((cfg0.win 21).xinj (grid0.coords t) y) = G21 m c (((cfg0.win 21).blk t).view.emb y)
  unfold G21
  rw [dif_pos (by rw [hp]; exact t.isLt), hl, outsAt0_congr m c _ _ _ _ hp]

theorem mem_blk21 (t : Fin cfg0.N) (i : S4x2x1x8.Idx) :
    i ∈ ((cfg0.win 21).blk t).view.set ↔ ∀ a : Fin 4, win0_21.index t a * S1x1x1x8.size a ≤ (i a).val ∧ (i a).val < win0_21.index t a * S1x1x1x8.size a + S1x1x1x8.size a := by
  show i ∈ ((View.whole main_v4_6).slice (win0_21.rect t)).set ↔ _
  rw [View.set_slice_whole, Rect.mem_set_unit]
  exact Iff.rfl

theorem covered_iff21 (i : S4x2x1x8.Idx) :
    (∃ t : Fin cfg0.N, (cfg0.win 21).flush t = true ∧ i ∈ ((cfg0.win 21).blk t).view.set) ↔ 0 ≤ (i 0).val ∧ (i 0).val < 4 ∧ 0 ≤ (i 1).val ∧ (i 1).val < 2 ∧ 0 ≤ (i 2).val ∧ (i 2).val < 1 ∧ 0 ≤ (i 3).val ∧ (i 3).val < 8 := by
  constructor
  · rintro ⟨t, -, hi⟩
    rw [mem_blk21] at hi
    have b0 : win0_21.index t (0 : Fin 4) * 1 ≤ (i 0).val ∧ (i 0).val < win0_21.index t (0 : Fin 4) * 1 + 1 := hi 0
    have b1 : win0_21.index t (1 : Fin 4) * 1 ≤ (i 1).val ∧ (i 1).val < win0_21.index t (1 : Fin 4) * 1 + 1 := hi 1
    have b2 : win0_21.index t (2 : Fin 4) * 1 ≤ (i 2).val ∧ (i 2).val < win0_21.index t (2 : Fin 4) * 1 + 1 := hi 2
    have b3 : win0_21.index t (3 : Fin 4) * 8 ≤ (i 3).val ∧ (i 3).val < win0_21.index t (3 : Fin 4) * 8 + 8 := hi 3
    obtain ⟨e0, e1, e2, e3, e4⟩ := idx_facts21 t
    omega
  · intro h
    have hi0 : (i 0).val < 4 := (i 0).isLt
    have hi1 : (i 1).val < 2 := (i 1).isLt
    have hi2 : (i 2).val < 1 := (i 2).isLt
    have hi3 : (i 3).val < 8 := (i 3).isLt
    obtain ⟨t, hft, ht⟩ := idx_onto21 ⟨(i 0).val / 1 - 0, by omega⟩ ⟨(i 1).val / 1 - 0, by omega⟩ ⟨(i 2).val / 1 - 0, by omega⟩ ⟨(i 3).val / 8 - 0, by omega⟩
    have q0 : win0_21.index t (0 : Fin 4) = (i 0).val / 1 - 0 + 0 := congrFun ht 0
    have q1 : win0_21.index t (1 : Fin 4) = (i 1).val / 1 - 0 + 0 := congrFun ht 1
    have q2 : win0_21.index t (2 : Fin 4) = (i 2).val / 1 - 0 + 0 := congrFun ht 2
    have q3 : win0_21.index t (3 : Fin 4) = (i 3).val / 8 - 0 + 0 := congrFun ht 3
    refine ⟨t, hft, ?_⟩
    rw [mem_blk21]
    intro a
    match a with
    | ⟨0, _⟩ => show win0_21.index t (0 : Fin 4) * 1 ≤ (i 0).val ∧ (i 0).val < win0_21.index t (0 : Fin 4) * 1 + 1; omega
    | ⟨1, _⟩ => show win0_21.index t (1 : Fin 4) * 1 ≤ (i 1).val ∧ (i 1).val < win0_21.index t (1 : Fin 4) * 1 + 1; omega
    | ⟨2, _⟩ => show win0_21.index t (2 : Fin 4) * 1 ≤ (i 2).val ∧ (i 2).val < win0_21.index t (2 : Fin 4) * 1 + 1; omega
    | ⟨3, _⟩ => show win0_21.index t (3 : Fin 4) * 8 ≤ (i 3).val ∧ (i 3).val < win0_21.index t (3 : Fin 4) * 8 + 8; omega

theorem final21 (c : Dev nD) : (dats m 0 c).arrAt 21 cfg0.N = G21 m c :=
  (dats m 0 c).arrAt_eq_of_cover 21 _ (fun t hf => flushed21_eq m c t hf) (fun i => (covered_iff21 i).2 (by
    have h0 : (i 0).val < 4 := (i 0).isLt; have h1 : (i 1).val < 2 := (i 1).isLt; have h2 : (i 2).val < 1 := (i 2).isLt; have h3 : (i 3).val < 8 := (i 3).isLt; omega))

/-! ## The run, read -/

theorem run : θ_run defs (onTc (τ := τ) (main (F := F))) ⟨m, fun _ => 0, ρ⟩ fun r => ∀ c : Dev nD,
      r.2.mem ((c : Thread nD τ).loc main_v4_0) = G15 m c
      ∧ r.2.mem ((c : Thread nD τ).loc main_v4_1) = G16 m c
      ∧ r.2.mem ((c : Thread nD τ).loc main_v4_2) = G17 m c
      ∧ r.2.mem ((c : Thread nD τ).loc main_v4_3) = G18 m c
      ∧ r.2.mem ((c : Thread nD τ).loc main_v4_4) = G19 m c
      ∧ r.2.mem ((c : Thread nD τ).loc main_v4_5) = G20 m c
      ∧ r.2.mem ((c : Thread nD τ).loc main_v4_6) = G21 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(post15 m r h c).trans (final15 m c),
      (post16 m r h c).trans (final16 m c),
      (post17 m r h c).trans (final17 m c),
      (post18 m r h c).trans (final18 m c),
      (post19 m r h c).trans (final19 m c),
      (post20 m r h c).trans (final20 m c),
      (post21 m r h c).trans (final21 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.KernelIdeal.Hand

end
-- ==== Proof.IDefs.lean ====
/- What the scores and the values of one block are, in terms of the block's arrays: the 68 key groups as ONE matrix whose
   group `r` is the dequantised codes `32 r … 32 r + 31`. -/
module

public import proofs.«01_k».proof.Proof.IRuns
public import Idealize.ShloMosaic.Lib.Pipeline.Value
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL.Sem

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A word of the carried scales (or zeros) repeated over the 32 tokens of its group. -/
def rep (w : Vec F S1x2x256 .bf16) : FVec F S32x256 .bf16 :=
  interleaveRows S32x256
    (concatenate S16x256 0 [⟨S1x256, shapeCast S1x256 (rowsOfParity 0 S1x1x256 w bitcasts_S1x2x256_w16_S1x1x256_w32) shapeCasts_S1x1x256_S1x256⟩, ⟨S1x256, shapeCast S1x256 (rowsOfParity 0 S1x1x256 w bitcasts_S1x2x256_w16_S1x1x256_w32) shapeCasts_S1x1x256_S1x256⟩, ⟨S1x256, shapeCast S1x256 (rowsOfParity 0 S1x1x256 w bitcasts_S1x2x256_w16_S1x1x256_w32) shapeCasts_S1x1x256_S1x256⟩, ⟨S1x256, shapeCast S1x256 (rowsOfParity 0 S1x1x256 w bitcasts_S1x2x256_w16_S1x1x256_w32) shapeCasts_S1x1x256_S1x256⟩, ⟨S1x256, shapeCast S1x256 (rowsOfParity 0 S1x1x256 w bitcasts_S1x2x256_w16_S1x1x256_w32) shapeCasts_S1x1x256_S1x256⟩, ⟨S1x256, shapeCast S1x256 (rowsOfParity 0 S1x1x256 w bitcasts_S1x2x256_w16_S1x1x256_w32) shapeCasts_S1x1x256_S1x256⟩, ⟨S1x256, shapeCast S1x256 (rowsOfParity 0 S1x1x256 w bitcasts_S1x2x256_w16_S1x1x256_w32) shapeCasts_S1x1x256_S1x256⟩, ⟨S1x256, shapeCast S1x256 (rowsOfParity 0 S1x1x256 w bitcasts_S1x2x256_w16_S1x1x256_w32) shapeCasts_S1x1x256_S1x256⟩, ⟨S1x256, shapeCast S1x256 (rowsOfParity 0 S1x1x256 w bitcasts_S1x2x256_w16_S1x1x256_w32) shapeCasts_S1x1x256_S1x256⟩, ⟨S1x256, shapeCast S1x256 (rowsOfParity 0 S1x1x256 w bitcasts_S1x2x256_w16_S1x1x256_w32) shapeCasts_S1x1x256_S1x256⟩, ⟨S1x256, shapeCast S1x256 (rowsOfParity 0 S1x1x256 w bitcasts_S1x2x256_w16_S1x1x256_w32) shapeCasts_S1x1x256_S1x256⟩, ⟨S1x256, shapeCast S1x256 (rowsOfParity 0 S1x1x256 w bitcasts_S1x2x256_w16_S1x1x256_w32) shapeCasts_S1x1x256_S1x256⟩, ⟨S1x256, shapeCast S1x256 (rowsOfParity 0 S1x1x256 w bitcasts_S1x2x256_w16_S1x1x256_w32) shapeCasts_S1x1x256_S1x256⟩, ⟨S1x256, shapeCast S1x256 (rowsOfParity 0 S1x1x256 w bitcasts_S1x2x256_w16_S1x1x256_w32) shapeCasts_S1x1x256_S1x256⟩, ⟨S1x256, shapeCast S1x256 (rowsOfParity 0 S1x1x256 w bitcasts_S1x2x256_w16_S1x1x256_w32) shapeCasts_S1x1x256_S1x256⟩, ⟨S1x256, shapeCast S1x256 (rowsOfParity 0 S1x1x256 w bitcasts_S1x2x256_w16_S1x1x256_w32) shapeCasts_S1x1x256_S1x256⟩] concatenates_S1x256_S1x256_S1x256_S1x256_S1x256_S1x256_S1x256_S1x256_S1x256_S1x256_S1x256_S1x256_S1x256_S1x256_S1x256_S1x256_S16x256_d0)
    (concatenate S16x256 0 [⟨S1x256, shapeCast S1x256 (rowsOfParity 1 S1x1x256 w bitcasts_S1x2x256_w16_S1x1x256_w32) shapeCasts_S1x1x256_S1x256⟩, ⟨S1x256, shapeCast S1x256 (rowsOfParity 1 S1x1x256 w bitcasts_S1x2x256_w16_S1x1x256_w32) shapeCasts_S1x1x256_S1x256⟩, ⟨S1x256, shapeCast S1x256 (rowsOfParity 1 S1x1x256 w bitcasts_S1x2x256_w16_S1x1x256_w32) shapeCasts_S1x1x256_S1x256⟩, ⟨S1x256, shapeCast S1x256 (rowsOfParity 1 S1x1x256 w bitcasts_S1x2x256_w16_S1x1x256_w32) shapeCasts_S1x1x256_S1x256⟩, ⟨S1x256, shapeCast S1x256 (rowsOfParity 1 S1x1x256 w bitcasts_S1x2x256_w16_S1x1x256_w32) shapeCasts_S1x1x256_S1x256⟩, ⟨S1x256, shapeCast S1x256 (rowsOfParity 1 S1x1x256 w bitcasts_S1x2x256_w16_S1x1x256_w32) shapeCasts_S1x1x256_S1x256⟩, ⟨S1x256, shapeCast S1x256 (rowsOfParity 1 S1x1x256 w bitcasts_S1x2x256_w16_S1x1x256_w32) shapeCasts_S1x1x256_S1x256⟩, ⟨S1x256, shapeCast S1x256 (rowsOfParity 1 S1x1x256 w bitcasts_S1x2x256_w16_S1x1x256_w32) shapeCasts_S1x1x256_S1x256⟩, ⟨S1x256, shapeCast S1x256 (rowsOfParity 1 S1x1x256 w bitcasts_S1x2x256_w16_S1x1x256_w32) shapeCasts_S1x1x256_S1x256⟩, ⟨S1x256, shapeCast S1x256 (rowsOfParity 1 S1x1x256 w bitcasts_S1x2x256_w16_S1x1x256_w32) shapeCasts_S1x1x256_S1x256⟩, ⟨S1x256, shapeCast S1x256 (rowsOfParity 1 S1x1x256 w bitcasts_S1x2x256_w16_S1x1x256_w32) shapeCasts_S1x1x256_S1x256⟩, ⟨S1x256, shapeCast S1x256 (rowsOfParity 1 S1x1x256 w bitcasts_S1x2x256_w16_S1x1x256_w32) shapeCasts_S1x1x256_S1x256⟩, ⟨S1x256, shapeCast S1x256 (rowsOfParity 1 S1x1x256 w bitcasts_S1x2x256_w16_S1x1x256_w32) shapeCasts_S1x1x256_S1x256⟩, ⟨S1x256, shapeCast S1x256 (rowsOfParity 1 S1x1x256 w bitcasts_S1x2x256_w16_S1x1x256_w32) shapeCasts_S1x1x256_S1x256⟩, ⟨S1x256, shapeCast S1x256 (rowsOfParity 1 S1x1x256 w bitcasts_S1x2x256_w16_S1x1x256_w32) shapeCasts_S1x1x256_S1x256⟩, ⟨S1x256, shapeCast S1x256 (rowsOfParity 1 S1x1x256 w bitcasts_S1x2x256_w16_S1x1x256_w32) shapeCasts_S1x1x256_S1x256⟩] concatenates_S1x256_S1x256_S1x256_S1x256_S1x256_S1x256_S1x256_S1x256_S1x256_S1x256_S1x256_S1x256_S1x256_S1x256_S1x256_S1x256_S16x256_d0)
    bitcasts_S32x256_w16_S16x256_w32

theorem slices_grp (r : Fin 68) : S2176x128.Slices ![32 * r.val, 0] S32x128 := by revert r; decide

/-- The dequantised keys of group `r` of a block. -/
def kRow (x4 : Vec F S1x1x2176x128 .i8) (s z : Vec F S1x2x256 .bf16) (r : Fin 68) : FVec F S32x256 .bf16 :=
  addf (mulf (concatenate S32x256 1 [⟨S32x128, extractStridedSlice S32x128 ![32 * r.val, 0] (k0_pay44 x4) (slices_grp r)⟩,
    ⟨S32x128, extractStridedSlice S32x128 ![32 * r.val, 0] (k0_pay45 x4) (slices_grp r)⟩] concatenates_S32x128_S32x128_S32x256_d1) (rep s)) (rep z)

/-- The dequantised keys of a block, its groups in order. -/
def kMat (x4 : Vec F S1x1x2176x128 .i8) (s z : Fin 68 → Vec F S1x2x256 .bf16) : FVec F S2176x256 .bf16 :=
  concatenate S2176x256 0 (List.ofFn fun r : Fin 68 => ⟨S32x256, kRow x4 (s r) (z r) r⟩) concatenates_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S2176x256_d0

/-- The scaled scores of a block's tokens. -/
def scores (x4 : Vec F S1x1x2176x128 .i8) (s z : Fin 68 → Vec F S1x2x256 .bf16) (q : Vec F S8x256 .bf16) : FVec F S8x2176 .f32 :=
  mulf (matmul dot_S8x256_S2176x256_S8x2176_1_1_0_0_n_n none q (kMat x4 s z) (constant S8x2176 .f32 0x00000000#32))
    (broadcast S8x2176 (Scalar.ofBits .f32 0x3D800000#32))

theorem off1_in (i : grid0.Coords) (r : Fin 68) (a : Fin 3) :
    (![68 * (i 1).val + r.val, 0, 0] : Fin 3 → Nat) a + S1x2x256.size a ≤ S1020x2x256.size a := by
  rw [← k0_off1_eq i r]; exact k0_off1_inb i r a

/-- The word of the carried scales (or zeros) that group `r` of point `i`'s block reads. -/
def wordAt (i : grid0.Coords) (xs : Vec F S1020x2x256 .bf16) (r : Fin 68) : Vec F S1x2x256 .bf16 :=
  View.ld xs (Rect.unit (s := S1020x2x256) (k0_off1 i (BitVec.ofNat 32 r.val)) S1x2x256.size (k0_off1_inb i r))

/-- Column 0 of the carried maximum or sum. -/
def col0 (x : Vec F S8x128 .f32) : Vec F S8x1 .f32 := View.ld x (Rect.unit (s := S8x128) ![0, 0] S8x1.size inb_S8x128_S8x1_0_0)

end Cert.KernelIdeal.Hand

end
-- ==== Proof.IOpenA.lean ====
/- The stores of a head's first point, read as values of the arrays the point is handed: the new token's codes, scales
   and zeros, the carried query, scales and zeros, and the running maximum, sum and weighted values. -/
module

public import proofs.«01_k».proof.Proof.IRunA
public import proofs.«01_k».proof.Proof.IDefs
public import Idealize.ShloMosaic.Lib.Pipeline.Value
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL.Sem

variable {F : FTy → Type} [FloatOps F]

/-- The last 32 tokens of the key tail. -/
def tail32 (x10 : Vec F S1x1x128x256 .bf16) : Vec F S1x1x32x256 .bf16 :=
  View.ld x10 (Rect.unit (s := S1x1x128x256) ![0, 0, 96, 0] S1x1x32x256.size inb_S1x1x128x256_S1x1x32x256_0_0_96_0)

/-- The new token's dequantised key. -/
def newK (x10 : Vec F S1x1x128x256 .bf16) (x12 : Vec F S1x1x1x256 .bf16) : FVec F S1x256 .bf16 :=
  k0_pay14 (k0_pay8 x12 (tail32 x10)) (k0_pay9 x12 (tail32 x10)) (k0_pay10 x12 (tail32 x10))

/-- The column's channel numbers. -/
def chan : IVec S8x256 32 := iota .tc S8x256 32 [1] iota_S8x256_d1_w32

/-- The new token's value codes. -/
def vCode (x13 : Vec F S1x1x1x256 .bf16) (x14 : Vec F S1x1x8x32 .bf16) : FVec F S1x256 .f32 :=
  k0_pay24 (k0_pay15 x13) (k0_pay17 x14) (k0_pay18 x14) chan 32#32 k0_pay19 k0_pay20 1#1

/-- The new token's dequantised value. -/
def newV (x13 : Vec F S1x1x1x256 .bf16) (x14 : Vec F S1x1x8x32 .bf16) : FVec F S1x256 .bf16 :=
  k0_pay31 (k0_pay22 (k0_pay17 x14) chan 32#32 k0_pay19 k0_pay20 1#1)
    (k0_pay23 (k0_pay17 x14) (k0_pay18 x14) chan 32#32 k0_pay19 k0_pay20 1#1) (vCode x13 x14)

/-- The maximum, the sum and the weighted values over the tail and the new token. -/
def m0 (x0 : Vec F S1x1x8x256 .bf16) (x10 : Vec F S1x1x128x256 .bf16) (x12 : Vec F S1x1x1x256 .bf16) : FVec F S8x128 .f32 :=
  k0_pay40 (k0_pay39 (k0_pay2 x0) (newK x10 x12) x10)
def l0 (x0 : Vec F S1x1x8x256 .bf16) (x10 : Vec F S1x1x128x256 .bf16) (x12 : Vec F S1x1x1x256 .bf16) : FVec F S8x128 .f32 :=
  k0_pay41 (k0_pay36 (k0_pay2 x0) (newK x10 x12) x10) (k0_pay37 (k0_pay2 x0) (newK x10 x12) x10)
def a0 (x0 : Vec F S1x1x8x256 .bf16) (x1 : Vec F S256x256 .bf16) (x10 x11 : Vec F S1x1x128x256 .bf16) (x12 x13 : Vec F S1x1x1x256 .bf16)
    (x14 : Vec F S1x1x8x32 .bf16) : FVec F S8x256 .f32 :=
  k0_pay42 (k0_pay32 x1 (newV x13 x14)) (k0_pay36 (k0_pay2 x0) (newK x10 x12) x10) (k0_pay37 (k0_pay2 x0) (newK x10 x12) x10)
    (k0_pay38 x1 x11)

theorem hz3 : (![0, 0, 0] : Fin 3 → Nat) = fun _ => 0 := funext fun a => by fin_cases a <;> rfl

/-- A load of an array that one covering store has filled reads the stored value. -/
theorem readAt_one3 {κ : Kind} {sp : Space} (v : View sig κ sp S1020x2x256 .bf16) (r : Rect S1020x2x256)
    (inb : ∀ a, (![0, 0, 0] : Fin 3 → Nat) a + S1020x2x256.size a ≤ S1020x2x256.size a) (w : Vec F S1020x2x256 .bf16) :
    v.readAt (Elt F) r.toLoadRect (v.writes (Elt F) v.junk [⟨Rect.unit (s := S1020x2x256) ![0, 0, 0] S1020x2x256.size inb, w⟩]) = View.ld w r := by
  rw [View.readAt_writes_junk_eq_canon, View.canon_unit_zero (S := S1020x2x256) hz3]
theorem readAt_one3' {κ : Kind} {sp : Space} (v : View sig κ sp S1020x2x256 .bf16) (r : Rect S1020x2x256)
    (inb : ∀ a, (![0, 0, 0] : Fin 3 → Nat) a + (![1020, 2, 256] : Fin 3 → Nat) a ≤ S1020x2x256.size a) (w : Vec F S1020x2x256 .bf16) :
    v.readAt (Elt F) r.toLoadRect (v.writes (Elt F) v.junk [⟨Rect.unit (s := S1020x2x256) ![0, 0, 0] ![1020, 2, 256] inb, w⟩]) = View.ld w r :=
  readAt_one3 v r inb w

theorem readCov_one2 {κ : Kind} {sp : Space} (v : View sig κ sp S8x128 .f32) (r : Rect S8x128)
    (inb : ∀ a, (![0, 0] : Fin 2 → Nat) a + S8x128.size a ≤ S8x128.size a) (w : Vec F S8x128 .f32) :
    v.readCov (Val := Elt F) [⟨Rect.unit (s := S8x128) ![0, 0] S8x128.size inb, w⟩] r.toLoadRect = View.ld w r := by
  rw [View.readCov_eq_canon', View.canon_unit_zero (S := S8x128) hz2]
theorem readCov_one2' {κ : Kind} {sp : Space} (v : View sig κ sp S8x128 .f32) (r : Rect S8x128)
    (inb : ∀ a, (![0, 0] : Fin 2 → Nat) a + (![8, 128] : Fin 2 → Nat) a ≤ S8x128.size a) (w : Vec F S8x128 .f32) :
    v.readCov (Val := Elt F) [⟨Rect.unit (s := S8x128) ![0, 0] ![8, 128] inb, w⟩] r.toLoadRect = View.ld w r :=
  readCov_one2 v r inb w

theorem readCov_whole {κ : Kind} {sp : Space} {e : EltTy} (v : View sig κ sp S8x256 e)
    (inb inb' : ∀ a, (![0, 0] : Fin 2 → Nat) a + (![8, 256] : Fin 2 → Nat) a ≤ S8x256.size a) (w : Vec F S8x256 e) :
    v.readCov (Val := Elt F) [⟨Rect.unit (s := S8x256) ![0, 0] ![8, 256] inb, w⟩] (Rect.unit (s := S8x256) ![0, 0] ![8, 256] inb').toLoadRect = w :=
  View.readCov_unit_zero (S := S8x256) v hz2 inb w
theorem ld_whole {e : EltTy} (inb : ∀ a, (![0, 0] : Fin 2 → Nat) a + (![8, 256] : Fin 2 → Nat) a ≤ S8x256.size a) (w : Vec F S8x256 e) :
    View.ld w (Rect.unit (s := S8x256) ![0, 0] ![8, 256] inb) = w := View.ld_unit_zero (S := S8x256) hz2 inb w

section
variable (c : Dev nD) (i : grid0.Coords) (arg2 : Memref sig .tc .vmem S1x1x8x256 .bf16) (harg2 : arg2.IsWhole) (arg3 : Memref sig .tc .vmem S256x256 .bf16) (harg3 : arg3.IsWhole) (arg4 : Memref sig .tc .vmem S8x128 .bf16) (harg4 : arg4.IsWhole) (arg5 : Memref sig .tc .vmem S256x128 .bf16) (harg5 : arg5.IsWhole) (arg6 : Memref sig .tc .vmem S1x1x2176x128 .i8) (harg6 : arg6.IsWhole) (arg7 : Memref sig .tc .vmem S1x1x1020x256 .f32) (harg7 : arg7.IsWhole) (arg8 : Memref sig .tc .vmem S1x1x1020x256 .f32) (harg8 : arg8.IsWhole) (arg9 : Memref sig .tc .vmem S1x1x2176x128 .i8) (harg9 : arg9.IsWhole) (arg10 : Memref sig .tc .vmem S1x1x2176x8 .f32) (harg10 : arg10.IsWhole) (arg11 : Memref sig .tc .vmem S1x1x2176x8 .f32) (harg11 : arg11.IsWhole) (arg12 : Memref sig .tc .vmem S1x1x128x256 .bf16) (harg12 : arg12.IsWhole) (arg13 : Memref sig .tc .vmem S1x1x128x256 .bf16) (harg13 : arg13.IsWhole) (arg14 : Memref sig .tc .vmem S1x1x1x256 .bf16) (harg14 : arg14.IsWhole) (arg15 : Memref sig .tc .vmem S1x1x1x256 .bf16) (harg15 : arg15.IsWhole) (arg16 : Memref sig .tc .vmem S1x1x8x32 .bf16) (harg16 : arg16.IsWhole) (arg17 : Memref sig .tc .vmem S1x1x8x256 .bf16) (harg17 : arg17.IsWhole) (arg18 : Memref sig .tc .vmem S1x1x1x128 .i8) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x128 .i8) (harg21 : arg21.IsWhole) (arg22 : Memref sig .tc .vmem S1x1x1x8 .f32) (harg22 : arg22.IsWhole) (arg23 : Memref sig .tc .vmem S1x1x1x8 .f32) (harg23 : arg23.IsWhole) (arg24 : Memref sig .tc .vmem S8x256 .bf16) (harg24 : arg24.IsWhole) (arg25 : Memref sig .tc .vmem S1020x2x256 .bf16) (harg25 : arg25.IsWhole) (arg26 : Memref sig .tc .vmem S1020x2x256 .bf16) (harg26 : arg26.IsWhole) (arg27 : Memref sig .tc .vmem S8x128 .f32) (harg27 : arg27.IsWhole) (arg28 : Memref sig .tc .vmem S8x128 .f32) (harg28 : arg28.IsWhole) (arg29 : Memref sig .tc .vmem S8x256 .f32) (harg29 : arg29.IsWhole) (hc0 : cond0_0 i) (hc1 : ¬cond0_1 i)
    (x0 : Vec F S1x1x8x256 .bf16) (x1 : Vec F S256x256 .bf16) (x2 : Vec F S8x128 .bf16) (x3 : Vec F S256x128 .bf16) (x4 : Vec F S1x1x2176x128 .i8) (x5 : Vec F S1x1x1020x256 .f32) (x6 : Vec F S1x1x1020x256 .f32) (x7 : Vec F S1x1x2176x128 .i8) (x8 : Vec F S1x1x2176x8 .f32) (x9 : Vec F S1x1x2176x8 .f32) (x10 : Vec F S1x1x128x256 .bf16) (x11 : Vec F S1x1x128x256 .bf16) (x12 : Vec F S1x1x1x256 .bf16) (x13 : Vec F S1x1x1x256 .bf16) (x14 : Vec F S1x1x8x32 .bf16)

set_option maxHeartbeats 1000000 in
theorem runA_16 : VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.1)
    = k0_pay13 (k0_pay10 x12 (tail32 x10)) x3 := by
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x256) hz2, View.ld_unit_zero (S := S256x256) hz2, View.ld_unit_zero (S := S8x128) hz2, View.ld_unit_zero (S := S256x128) hz2, View.ld_unit_zero (S := S1x1x2176x128) hz4, View.ld_unit_zero (S := S1x1x2176x8) hz4, View.ld_unit_zero (S := S1x1x8x256) hz4, View.ld_unit_zero (S := S1x1x1020x256) hz4, View.ld_unit_zero (S := S1x1x128x256) hz4, View.ld_unit_zero (S := S1x1x1x256) hz4, View.ld_unit_zero (S := S1x1x8x32) hz4]
  all_goals rfl

set_option maxHeartbeats 1000000 in
theorem runA_17 : VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.1)
    = k0_pay11 x12 (tail32 x10) := by
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x256) hz2, View.ld_unit_zero (S := S256x256) hz2, View.ld_unit_zero (S := S8x128) hz2, View.ld_unit_zero (S := S256x128) hz2, View.ld_unit_zero (S := S1x1x2176x128) hz4, View.ld_unit_zero (S := S1x1x2176x8) hz4, View.ld_unit_zero (S := S1x1x8x256) hz4, View.ld_unit_zero (S := S1x1x1020x256) hz4, View.ld_unit_zero (S := S1x1x128x256) hz4, View.ld_unit_zero (S := S1x1x1x256) hz4, View.ld_unit_zero (S := S1x1x8x32) hz4]
  all_goals rfl

set_option maxHeartbeats 1000000 in
theorem runA_18 : VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.1)
    = k0_pay12 x12 (tail32 x10) := by
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x256) hz2, View.ld_unit_zero (S := S256x256) hz2, View.ld_unit_zero (S := S8x128) hz2, View.ld_unit_zero (S := S256x128) hz2, View.ld_unit_zero (S := S1x1x2176x128) hz4, View.ld_unit_zero (S := S1x1x2176x8) hz4, View.ld_unit_zero (S := S1x1x8x256) hz4, View.ld_unit_zero (S := S1x1x1020x256) hz4, View.ld_unit_zero (S := S1x1x128x256) hz4, View.ld_unit_zero (S := S1x1x1x256) hz4, View.ld_unit_zero (S := S1x1x8x32) hz4]
  all_goals rfl

set_option maxHeartbeats 1000000 in
theorem runA_19 : VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.1)
    = k0_pay30 x3 (vCode x13 x14) := by
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x256) hz2, View.ld_unit_zero (S := S256x256) hz2, View.ld_unit_zero (S := S8x128) hz2, View.ld_unit_zero (S := S256x128) hz2, View.ld_unit_zero (S := S1x1x2176x128) hz4, View.ld_unit_zero (S := S1x1x2176x8) hz4, View.ld_unit_zero (S := S1x1x8x256) hz4, View.ld_unit_zero (S := S1x1x1020x256) hz4, View.ld_unit_zero (S := S1x1x128x256) hz4, View.ld_unit_zero (S := S1x1x1x256) hz4, View.ld_unit_zero (S := S1x1x8x32) hz4]
  all_goals rfl

set_option maxHeartbeats 1000000 in
theorem runA_20 : VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.1)
    = k0_pay28 k0_pay25 (k0_pay26 (k0_pay17 x14) (k0_pay18 x14)) k0_pay27 := by
  rw [View.read_writes_eq_canon _ _ _ (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x256) hz2, View.ld_unit_zero (S := S256x256) hz2, View.ld_unit_zero (S := S8x128) hz2, View.ld_unit_zero (S := S256x128) hz2, View.ld_unit_zero (S := S1x1x2176x128) hz4, View.ld_unit_zero (S := S1x1x2176x8) hz4, View.ld_unit_zero (S := S1x1x8x256) hz4, View.ld_unit_zero (S := S1x1x1020x256) hz4, View.ld_unit_zero (S := S1x1x128x256) hz4, View.ld_unit_zero (S := S1x1x1x256) hz4, View.ld_unit_zero (S := S1x1x8x32) hz4]
  all_goals rfl

set_option maxHeartbeats 1000000 in
theorem runA_21 : VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.1)
    = k0_pay29 (k0_pay17 x14) k0_pay25 := by
  rw [View.read_writes_eq_canon _ _ _ (cover0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_unit_zero hz4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x256) hz2, View.ld_unit_zero (S := S256x256) hz2, View.ld_unit_zero (S := S8x128) hz2, View.ld_unit_zero (S := S256x128) hz2, View.ld_unit_zero (S := S1x1x2176x128) hz4, View.ld_unit_zero (S := S1x1x2176x8) hz4, View.ld_unit_zero (S := S1x1x8x256) hz4, View.ld_unit_zero (S := S1x1x1020x256) hz4, View.ld_unit_zero (S := S1x1x128x256) hz4, View.ld_unit_zero (S := S1x1x1x256) hz4, View.ld_unit_zero (S := S1x1x8x32) hz4]
  all_goals rfl

set_option maxHeartbeats 1000000 in
theorem runA_0 : VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.1)
    = k0_pay3 x1 x0 := by
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x256) hz2, View.ld_unit_zero (S := S256x256) hz2, View.ld_unit_zero (S := S8x128) hz2, View.ld_unit_zero (S := S256x128) hz2, View.ld_unit_zero (S := S1x1x2176x128) hz4, View.ld_unit_zero (S := S1x1x2176x8) hz4, View.ld_unit_zero (S := S1x1x8x256) hz4, View.ld_unit_zero (S := S1x1x1020x256) hz4, View.ld_unit_zero (S := S1x1x128x256) hz4, View.ld_unit_zero (S := S1x1x1x256) hz4, View.ld_unit_zero (S := S1x1x8x32) hz4]
  all_goals rfl

set_option maxHeartbeats 1000000 in
theorem runA_1 : VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.2.1)
    = k0_pay4 x1 x5 := by
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x256) hz2, View.ld_unit_zero (S := S256x256) hz2, View.ld_unit_zero (S := S8x128) hz2, View.ld_unit_zero (S := S256x128) hz2, View.ld_unit_zero (S := S1x1x2176x128) hz4, View.ld_unit_zero (S := S1x1x2176x8) hz4, View.ld_unit_zero (S := S1x1x8x256) hz4, View.ld_unit_zero (S := S1x1x1020x256) hz4, View.ld_unit_zero (S := S1x1x128x256) hz4, View.ld_unit_zero (S := S1x1x1x256) hz4, View.ld_unit_zero (S := S1x1x8x32) hz4]
  all_goals rfl

set_option maxHeartbeats 1000000 in
theorem runA_2 : VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.2.2.1)
    = k0_pay5 x1 x6 := by
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x256) hz2, View.ld_unit_zero (S := S256x256) hz2, View.ld_unit_zero (S := S8x128) hz2, View.ld_unit_zero (S := S256x128) hz2, View.ld_unit_zero (S := S1x1x2176x128) hz4, View.ld_unit_zero (S := S1x1x2176x8) hz4, View.ld_unit_zero (S := S1x1x8x256) hz4, View.ld_unit_zero (S := S1x1x1020x256) hz4, View.ld_unit_zero (S := S1x1x128x256) hz4, View.ld_unit_zero (S := S1x1x1x256) hz4, View.ld_unit_zero (S := S1x1x8x32) hz4]
  all_goals rfl

set_option maxHeartbeats 1000000 in
theorem runA_3 : VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.2.2.2.1)
    = k0_pay161 (k0_pay156 (scores x4 (wordAt i (k0_pay4 x1 x5)) (wordAt i (k0_pay5 x1 x6)) (k0_pay3 x1 x0)) (col0 (m0 x0 x10 x12))) := by
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_cons_unit_zero hz2]
  simp only [View.readCov_unit_zero (S := S8x256) _ hz2, readAt_one3, readCov_one2, readAt_one3', readCov_one2', readCov_whole]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x256) hz2, View.ld_unit_zero (S := S256x256) hz2, View.ld_unit_zero (S := S8x128) hz2, View.ld_unit_zero (S := S256x128) hz2, View.ld_unit_zero (S := S1x1x2176x128) hz4, View.ld_unit_zero (S := S1x1x2176x8) hz4, View.ld_unit_zero (S := S1x1x8x256) hz4, View.ld_unit_zero (S := S1x1x1020x256) hz4, View.ld_unit_zero (S := S1x1x128x256) hz4, View.ld_unit_zero (S := S1x1x1x256) hz4, View.ld_unit_zero (S := S1x1x8x32) hz4]
  refine congrArg k0_pay161 (congrArg₂ k0_pay156 ?_ ?_) <;> rfl

set_option maxHeartbeats 1000000 in
theorem runA_4 : VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.2.2.2.2.1)
    = k0_pay162 (k0_pay157 (scores x4 (wordAt i (k0_pay4 x1 x5)) (wordAt i (k0_pay5 x1 x6)) (k0_pay3 x1 x0)) (col0 (m0 x0 x10 x12))) (k0_pay158 (scores x4 (wordAt i (k0_pay4 x1 x5)) (wordAt i (k0_pay5 x1 x6)) (k0_pay3 x1 x0)) (col0 (m0 x0 x10 x12))) (col0 (l0 x0 x10 x12)) := by
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_cons_unit_zero hz2]
  simp only [View.readCov_unit_zero (S := S8x256) _ hz2, readAt_one3, readCov_one2, readAt_one3', readCov_one2', readCov_whole]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x256) hz2, View.ld_unit_zero (S := S256x256) hz2, View.ld_unit_zero (S := S8x128) hz2, View.ld_unit_zero (S := S256x128) hz2, View.ld_unit_zero (S := S1x1x2176x128) hz4, View.ld_unit_zero (S := S1x1x2176x8) hz4, View.ld_unit_zero (S := S1x1x8x256) hz4, View.ld_unit_zero (S := S1x1x1020x256) hz4, View.ld_unit_zero (S := S1x1x128x256) hz4, View.ld_unit_zero (S := S1x1x1x256) hz4, View.ld_unit_zero (S := S1x1x8x32) hz4]
  refine congr (congr (congrArg k0_pay162 (congrArg₂ k0_pay157 ?_ ?_)) (congrArg₂ k0_pay158 ?_ ?_)) ?_ <;> rfl

set_option maxHeartbeats 1000000 in
theorem runA_5 : VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14).2.2.2.2.2.2.2.2.2.2.2.2.1)
    = k0_pay163 (k0_pay155 x7 x2 x8 x9) (k0_pay157 (scores x4 (wordAt i (k0_pay4 x1 x5)) (wordAt i (k0_pay5 x1 x6)) (k0_pay3 x1 x0)) (col0 (m0 x0 x10 x12))) (k0_pay158 (scores x4 (wordAt i (k0_pay4 x1 x5)) (wordAt i (k0_pay5 x1 x6)) (k0_pay3 x1 x0)) (col0 (m0 x0 x10 x12))) (a0 x0 x1 x10 x11 x12 x13 x14) := by
  rw [View.read_writes_eq_canon _ _ _ (scover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14)]
  unfold kernelRun0_A
  dsimp only
  sl_unfold_words
  rw [View.canon_cons_unit_zero hz2]
  simp only [View.readCov_unit_zero (S := S8x256) _ hz2, readAt_one3, readCov_one2, readAt_one3', readCov_one2', readCov_whole]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S8x256) hz2, View.ld_unit_zero (S := S256x256) hz2, View.ld_unit_zero (S := S8x128) hz2, View.ld_unit_zero (S := S256x128) hz2, View.ld_unit_zero (S := S1x1x2176x128) hz4, View.ld_unit_zero (S := S1x1x2176x8) hz4, View.ld_unit_zero (S := S1x1x8x256) hz4, View.ld_unit_zero (S := S1x1x1020x256) hz4, View.ld_unit_zero (S := S1x1x128x256) hz4, View.ld_unit_zero (S := S1x1x1x256) hz4, View.ld_unit_zero (S := S1x1x8x32) hz4]
  refine congr (congr (congrArg (k0_pay163 (k0_pay155 x7 x2 x8 x9)) (congrArg₂ k0_pay157 ?_ ?_)) (congrArg₂ k0_pay158 ?_ ?_)) ?_ <;> rfl

end

end Cert.KernelIdeal.Hand

end
-- ==== Proof.IOpenB.lean ====
/- The stores of a point of kind B, read as values of the arrays the point is handed. -/
module

public import proofs.«01_k».proof.Proof.IRunB
public import proofs.«01_k».proof.Proof.IDefs
public import Idealize.ShloMosaic.Lib.Pipeline.Value
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL.Sem

variable {F : FTy → Type} [FloatOps F]

section
variable (c : Dev nD) (i : grid0.Coords) (arg2 : Memref sig .tc .vmem S1x1x8x256 .bf16) (harg2 : arg2.IsWhole) (arg3 : Memref sig .tc .vmem S256x256 .bf16) (harg3 : arg3.IsWhole) (arg4 : Memref sig .tc .vmem S8x128 .bf16) (harg4 : arg4.IsWhole) (arg5 : Memref sig .tc .vmem S256x128 .bf16) (harg5 : arg5.IsWhole) (arg6 : Memref sig .tc .vmem S1x1x2176x128 .i8) (harg6 : arg6.IsWhole) (arg7 : Memref sig .tc .vmem S1x1x1020x256 .f32) (harg7 : arg7.IsWhole) (arg8 : Memref sig .tc .vmem S1x1x1020x256 .f32) (harg8 : arg8.IsWhole) (arg9 : Memref sig .tc .vmem S1x1x2176x128 .i8) (harg9 : arg9.IsWhole) (arg10 : Memref sig .tc .vmem S1x1x2176x8 .f32) (harg10 : arg10.IsWhole) (arg11 : Memref sig .tc .vmem S1x1x2176x8 .f32) (harg11 : arg11.IsWhole) (arg12 : Memref sig .tc .vmem S1x1x128x256 .bf16) (harg12 : arg12.IsWhole) (arg13 : Memref sig .tc .vmem S1x1x128x256 .bf16) (harg13 : arg13.IsWhole) (arg14 : Memref sig .tc .vmem S1x1x1x256 .bf16) (harg14 : arg14.IsWhole) (arg15 : Memref sig .tc .vmem S1x1x1x256 .bf16) (harg15 : arg15.IsWhole) (arg16 : Memref sig .tc .vmem S1x1x8x32 .bf16) (harg16 : arg16.IsWhole) (arg17 : Memref sig .tc .vmem S1x1x8x256 .bf16) (harg17 : arg17.IsWhole) (arg18 : Memref sig .tc .vmem S1x1x1x128 .i8) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x128 .i8) (harg21 : arg21.IsWhole) (arg22 : Memref sig .tc .vmem S1x1x1x8 .f32) (harg22 : arg22.IsWhole) (arg23 : Memref sig .tc .vmem S1x1x1x8 .f32) (harg23 : arg23.IsWhole) (arg24 : Memref sig .tc .vmem S8x256 .bf16) (harg24 : arg24.IsWhole) (arg25 : Memref sig .tc .vmem S1020x2x256 .bf16) (harg25 : arg25.IsWhole) (arg26 : Memref sig .tc .vmem S1020x2x256 .bf16) (harg26 : arg26.IsWhole) (arg27 : Memref sig .tc .vmem S8x128 .f32) (harg27 : arg27.IsWhole) (arg28 : Memref sig .tc .vmem S8x128 .f32) (harg28 : arg28.IsWhole) (arg29 : Memref sig .tc .vmem S8x256 .f32) (harg29 : arg29.IsWhole) (hc0 : ¬cond0_0 i) (hc1 : ¬cond0_1 i)
    (x0 : Vec F S1x1x8x256 .bf16) (x1 : Vec F S256x256 .bf16) (x2 : Vec F S8x128 .bf16) (x3 : Vec F S256x128 .bf16) (x4 : Vec F S1x1x2176x128 .i8) (x5 : Vec F S1x1x1020x256 .f32) (x6 : Vec F S1x1x1020x256 .f32) (x7 : Vec F S1x1x2176x128 .i8) (x8 : Vec F S1x1x2176x8 .f32) (x9 : Vec F S1x1x2176x8 .f32) (x10 : Vec F S1x1x128x256 .bf16) (x11 : Vec F S1x1x128x256 .bf16) (x12 : Vec F S1x1x1x256 .bf16) (x13 : Vec F S1x1x1x256 .bf16) (x14 : Vec F S1x1x8x32 .bf16) (xs0 : Vec F S8x256 .bf16) (xs1 : Vec F S1020x2x256 .bf16) (xs2 : Vec F S1020x2x256 .bf16) (xs3 : Vec F S8x128 .f32) (xs4 : Vec F S8x128 .f32) (xs5 : Vec F S8x256 .f32)

set_option maxHeartbeats 4000000 in
theorem runB_3 : VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.1)
    = k0_pay161 (k0_pay156 (scores x4 (wordAt i xs1) (wordAt i xs2) xs0) (col0 xs3)) := by
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_B
  dsimp only
  sl_unfold_words
  rw [View.canon_unit_zero hz2]
  simp only [View.readAt_eq_ld, harg3.read_unread, harg4.read_unread, harg6.read_unread, harg9.read_unread, harg10.read_unread, harg11.read_unread, harg24.read_unread, harg25.read_unread, harg26.read_unread, harg27.read_unread, harg28.read_unread, harg29.read_unread, View.ld_unit_zero (S := S8x256) hz2, View.ld_unit_zero (S := S256x256) hz2, View.ld_unit_zero (S := S8x128) hz2, View.ld_unit_zero (S := S1x1x2176x128) hz4, View.ld_unit_zero (S := S1x1x2176x8) hz4]
  rfl

set_option maxHeartbeats 4000000 in
theorem runB_4 : VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.2.1)
    = k0_pay162 (k0_pay157 (scores x4 (wordAt i xs1) (wordAt i xs2) xs0) (col0 xs3)) (k0_pay158 (scores x4 (wordAt i xs1) (wordAt i xs2) xs0) (col0 xs3)) (col0 xs4) := by
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_B
  dsimp only
  sl_unfold_words
  rw [View.canon_unit_zero hz2]
  simp only [View.readAt_eq_ld, harg3.read_unread, harg4.read_unread, harg6.read_unread, harg9.read_unread, harg10.read_unread, harg11.read_unread, harg24.read_unread, harg25.read_unread, harg26.read_unread, harg27.read_unread, harg28.read_unread, harg29.read_unread, View.ld_unit_zero (S := S8x256) hz2, View.ld_unit_zero (S := S256x256) hz2, View.ld_unit_zero (S := S8x128) hz2, View.ld_unit_zero (S := S1x1x2176x128) hz4, View.ld_unit_zero (S := S1x1x2176x8) hz4]
  rfl

set_option maxHeartbeats 4000000 in
theorem runB_5 : VS0_5.read (Elt F) (VS0_5.writes (Elt F) VS0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5).2.2.2.2.2.2.2.2.2.2.2.2.1)
    = k0_pay163 (k0_pay155 x7 x2 x8 x9) (k0_pay157 (scores x4 (wordAt i xs1) (wordAt i xs2) xs0) (col0 xs3)) (k0_pay158 (scores x4 (wordAt i xs1) (wordAt i xs2) xs0) (col0 xs3)) xs5 := by
  rw [View.read_writes_eq_canon _ _ _ (scover0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xs0 xs1 xs2 xs3 xs4 xs5)]
  unfold kernelRun0_B
  dsimp only
  sl_unfold_words
  rw [View.canon_unit_zero hz2]
  simp only [View.readAt_eq_ld, harg3.read_unread, harg4.read_unread, harg6.read_unread, harg9.read_unread, harg10.read_unread, harg11.read_unread, harg24.read_unread, harg25.read_unread, harg26.read_unread, harg27.read_unread, harg28.read_unread, harg29.read_unread, View.ld_unit_zero (S := S8x256) hz2, View.ld_unit_zero (S := S256x256) hz2, View.ld_unit_zero (S := S8x128) hz2, View.ld_unit_zero (S := S1x1x2176x128) hz4, View.ld_unit_zero (S := S1x1x2176x8) hz4]
  rfl

end

end Cert.KernelIdeal.Hand

end
-- ==== Proof.IOpenC.lean ====
/- The stores of a point of kind C, read as values of the arrays the point is handed. -/
module

public import proofs.«01_k».proof.Proof.IRunC
public import proofs.«01_k».proof.Proof.IDefs
public import Idealize.ShloMosaic.Lib.Pipeline.Value
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL.Sem

variable {F : FTy → Type} [FloatOps F]

section
variable (c : Dev nD) (i : grid0.Coords) (arg2 : Memref sig .tc .vmem S1x1x8x256 .bf16) (harg2 : arg2.IsWhole) (arg3 : Memref sig .tc .vmem S256x256 .bf16) (harg3 : arg3.IsWhole) (arg4 : Memref sig .tc .vmem S8x128 .bf16) (harg4 : arg4.IsWhole) (arg5 : Memref sig .tc .vmem S256x128 .bf16) (harg5 : arg5.IsWhole) (arg6 : Memref sig .tc .vmem S1x1x2176x128 .i8) (harg6 : arg6.IsWhole) (arg7 : Memref sig .tc .vmem S1x1x1020x256 .f32) (harg7 : arg7.IsWhole) (arg8 : Memref sig .tc .vmem S1x1x1020x256 .f32) (harg8 : arg8.IsWhole) (arg9 : Memref sig .tc .vmem S1x1x2176x128 .i8) (harg9 : arg9.IsWhole) (arg10 : Memref sig .tc .vmem S1x1x2176x8 .f32) (harg10 : arg10.IsWhole) (arg11 : Memref sig .tc .vmem S1x1x2176x8 .f32) (harg11 : arg11.IsWhole) (arg12 : Memref sig .tc .vmem S1x1x128x256 .bf16) (harg12 : arg12.IsWhole) (arg13 : Memref sig .tc .vmem S1x1x128x256 .bf16) (harg13 : arg13.IsWhole) (arg14 : Memref sig .tc .vmem S1x1x1x256 .bf16) (harg14 : arg14.IsWhole) (arg15 : Memref sig .tc .vmem S1x1x1x256 .bf16) (harg15 : arg15.IsWhole) (arg16 : Memref sig .tc .vmem S1x1x8x32 .bf16) (harg16 : arg16.IsWhole) (arg17 : Memref sig .tc .vmem S1x1x8x256 .bf16) (harg17 : arg17.IsWhole) (arg18 : Memref sig .tc .vmem S1x1x1x128 .i8) (harg18 : arg18.IsWhole) (arg19 : Memref sig .tc .vmem S1x1x1x256 .f32) (harg19 : arg19.IsWhole) (arg20 : Memref sig .tc .vmem S1x1x1x256 .f32) (harg20 : arg20.IsWhole) (arg21 : Memref sig .tc .vmem S1x1x1x128 .i8) (harg21 : arg21.IsWhole) (arg22 : Memref sig .tc .vmem S1x1x1x8 .f32) (harg22 : arg22.IsWhole) (arg23 : Memref sig .tc .vmem S1x1x1x8 .f32) (harg23 : arg23.IsWhole) (arg24 : Memref sig .tc .vmem S8x256 .bf16) (harg24 : arg24.IsWhole) (arg25 : Memref sig .tc .vmem S1020x2x256 .bf16) (harg25 : arg25.IsWhole) (arg26 : Memref sig .tc .vmem S1020x2x256 .bf16) (harg26 : arg26.IsWhole) (arg27 : Memref sig .tc .vmem S8x128 .f32) (harg27 : arg27.IsWhole) (arg28 : Memref sig .tc .vmem S8x128 .f32) (harg28 : arg28.IsWhole) (arg29 : Memref sig .tc .vmem S8x256 .f32) (harg29 : arg29.IsWhole) (hc0 : ¬cond0_0 i) (hc1 : cond0_1 i)
    (x0 : Vec F S1x1x8x256 .bf16) (x1 : Vec F S256x256 .bf16) (x2 : Vec F S8x128 .bf16) (x3 : Vec F S256x128 .bf16) (x4 : Vec F S1x1x2176x128 .i8) (x5 : Vec F S1x1x1020x256 .f32) (x6 : Vec F S1x1x1020x256 .f32) (x7 : Vec F S1x1x2176x128 .i8) (x8 : Vec F S1x1x2176x8 .f32) (x9 : Vec F S1x1x2176x8 .f32) (x10 : Vec F S1x1x128x256 .bf16) (x11 : Vec F S1x1x128x256 .bf16) (x12 : Vec F S1x1x1x256 .bf16) (x13 : Vec F S1x1x1x256 .bf16) (x14 : Vec F S1x1x8x32 .bf16) (xo16 : Vec F S1x1x1x128 .i8) (xo17 : Vec F S1x1x1x256 .f32) (xo18 : Vec F S1x1x1x256 .f32) (xo19 : Vec F S1x1x1x128 .i8) (xo20 : Vec F S1x1x1x8 .f32) (xo21 : Vec F S1x1x1x8 .f32) (xs0 : Vec F S8x256 .bf16) (xs1 : Vec F S1020x2x256 .bf16) (xs2 : Vec F S1020x2x256 .bf16) (xs3 : Vec F S8x128 .f32) (xs4 : Vec F S8x128 .f32) (xs5 : Vec F S8x256 .f32)

set_option maxHeartbeats 4000000 in
theorem runC_3 : VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5).2.2.2.2.2.2.2.2.2.2.1)
    = k0_pay161 (k0_pay156 (scores x4 (wordAt i xs1) (wordAt i xs2) xs0) (col0 xs3)) := by
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5)]
  unfold kernelRun0_C
  dsimp only
  sl_unfold_words
  rw [View.canon_unit_zero hz2]
  simp only [View.readAt_eq_ld, harg3.read_unread, harg4.read_unread, harg6.read_unread, harg9.read_unread, harg10.read_unread, harg11.read_unread, harg24.read_unread, harg25.read_unread, harg26.read_unread, harg27.read_unread, harg28.read_unread, harg29.read_unread, View.ld_unit_zero (S := S8x256) hz2, View.ld_unit_zero (S := S256x256) hz2, View.ld_unit_zero (S := S8x128) hz2, View.ld_unit_zero (S := S1x1x2176x128) hz4, View.ld_unit_zero (S := S1x1x2176x8) hz4]
  rfl

set_option maxHeartbeats 4000000 in
theorem runC_4 : VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5).2.2.2.2.2.2.2.2.2.2.2.1)
    = k0_pay162 (k0_pay157 (scores x4 (wordAt i xs1) (wordAt i xs2) xs0) (col0 xs3)) (k0_pay158 (scores x4 (wordAt i xs1) (wordAt i xs2) xs0) (col0 xs3)) (col0 xs4) := by
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5)]
  unfold kernelRun0_C
  dsimp only
  sl_unfold_words
  rw [View.canon_unit_zero hz2]
  simp only [View.readAt_eq_ld, harg3.read_unread, harg4.read_unread, harg6.read_unread, harg9.read_unread, harg10.read_unread, harg11.read_unread, harg24.read_unread, harg25.read_unread, harg26.read_unread, harg27.read_unread, harg28.read_unread, harg29.read_unread, View.ld_unit_zero (S := S8x256) hz2, View.ld_unit_zero (S := S256x256) hz2, View.ld_unit_zero (S := S8x128) hz2, View.ld_unit_zero (S := S1x1x2176x128) hz4, View.ld_unit_zero (S := S1x1x2176x8) hz4]
  rfl

set_option maxHeartbeats 4000000 in
theorem runC_5 : VS0_5.read (Elt F) (VS0_5.writes (Elt F) VS0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5).2.2.2.2.2.2.2.2.2.2.2.2.1)
    = k0_pay163 (k0_pay155 x7 x2 x8 x9) (k0_pay157 (scores x4 (wordAt i xs1) (wordAt i xs2) xs0) (col0 xs3)) (k0_pay158 (scores x4 (wordAt i xs1) (wordAt i xs2) xs0) (col0 xs3)) xs5 := by
  rw [View.read_writes_eq_canon _ _ _ (scover0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5)]
  unfold kernelRun0_C
  dsimp only
  sl_unfold_words
  rw [View.canon_unit_zero hz2]
  simp only [View.readAt_eq_ld, harg3.read_unread, harg4.read_unread, harg6.read_unread, harg9.read_unread, harg10.read_unread, harg11.read_unread, harg24.read_unread, harg25.read_unread, harg26.read_unread, harg27.read_unread, harg28.read_unread, harg29.read_unread, View.ld_unit_zero (S := S8x256) hz2, View.ld_unit_zero (S := S256x256) hz2, View.ld_unit_zero (S := S8x128) hz2, View.ld_unit_zero (S := S1x1x2176x128) hz4, View.ld_unit_zero (S := S1x1x2176x8) hz4]
  rfl

set_option maxHeartbeats 4000000 in
theorem runC_15 : VO0_15.read (Elt F) (VO0_15.writes (Elt F) VO0_15.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5).1)
    = k0_pay1 x1 (k0_pay159 (k0_pay157 (scores x4 (wordAt i xs1) (wordAt i xs2) xs0) (col0 xs3)) (k0_pay158 (scores x4 (wordAt i xs1) (wordAt i xs2) xs0) (col0 xs3)) (col0 xs4)) (k0_pay160 (k0_pay155 x7 x2 x8 x9) (k0_pay157 (scores x4 (wordAt i xs1) (wordAt i xs2) xs0) (col0 xs3)) (k0_pay158 (scores x4 (wordAt i xs1) (wordAt i xs2) xs0) (col0 xs3)) xs5) := by
  rw [View.read_writes_eq_canon _ _ _ (cover0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1 x0 x1 x2 x3 x4 x5 x6 x7 x8 x9 x10 x11 x12 x13 x14 xo16 xo17 xo18 xo19 xo20 xo21 xs0 xs1 xs2 xs3 xs4 xs5)]
  unfold kernelRun0_C
  dsimp only
  sl_unfold_words
  rw [View.canon_unit_zero hz4]
  simp only [View.readAt_eq_ld, harg3.read_unread, harg4.read_unread, harg6.read_unread, harg9.read_unread, harg10.read_unread, harg11.read_unread, harg24.read_unread, harg25.read_unread, harg26.read_unread, harg27.read_unread, harg28.read_unread, harg29.read_unread, View.ld_unit_zero (S := S8x256) hz2, View.ld_unit_zero (S := S256x256) hz2, View.ld_unit_zero (S := S8x128) hz2, View.ld_unit_zero (S := S1x1x2176x128) hz4, View.ld_unit_zero (S := S1x1x2176x8) hz4]
  rfl

end

end Cert.KernelIdeal.Hand

end
-- ==== Proof.ISt.lean ====
/- What each kind of point leaves in every output block and carried array, in the kernel's named terms. -/
module

public import proofs.«01_k».proof.Proof.IValue
public import proofs.«01_k».proof.Proof.IOpenA
public import proofs.«01_k».proof.Proof.IOpenB
public import proofs.«01_k».proof.Proof.IOpenC

@[expose] public section

set_option maxRecDepth 16384

noncomputable section

namespace Cert.KernelIdeal.Hand

open Cert.KernelIdeal.Gen
open Idealize.ShloMosaic Idealize.ShloMosaic.TcCoe
open Idealize.SL.Sem

variable {F : FTy → Type} [FloatOps F] (m : (ℓ : Loc nD τ sig) → Buf (Elt F) ℓ)

theorem stA_16 (c : Dev nD) (t : Fin cfg0.N) (h0 : t.val % 15 = 0) (h1 : ¬t.val % 15 = 14) : (stA m c t h0 h1).2.1
    = k0_pay13 (k0_pay10 (iblk m c 12 t) (tail32 (iblk m c 10 t))) (iblk m c 3 t) := by
  have e : (stA m c t h0 h1).2.1 = rd16 (runA m c t h0 h1).2.1 := by
    unfold stA
    dsimp only
  exact e.trans (runA_16 ..)

theorem stA_17 (c : Dev nD) (t : Fin cfg0.N) (h0 : t.val % 15 = 0) (h1 : ¬t.val % 15 = 14) : (stA m c t h0 h1).2.2.1
    = k0_pay11 (iblk m c 12 t) (tail32 (iblk m c 10 t)) := by
  have e : (stA m c t h0 h1).2.2.1 = rd17 (runA m c t h0 h1).2.2.1 := by
    unfold stA
    dsimp only
  exact e.trans (runA_17 ..)

theorem stA_18 (c : Dev nD) (t : Fin cfg0.N) (h0 : t.val % 15 = 0) (h1 : ¬t.val % 15 = 14) : (stA m c t h0 h1).2.2.2.1
    = k0_pay12 (iblk m c 12 t) (tail32 (iblk m c 10 t)) := by
  have e : (stA m c t h0 h1).2.2.2.1 = rd18 (runA m c t h0 h1).2.2.2.1 := by
    unfold stA
    dsimp only
  exact e.trans (runA_18 ..)

theorem stA_19 (c : Dev nD) (t : Fin cfg0.N) (h0 : t.val % 15 = 0) (h1 : ¬t.val % 15 = 14) : (stA m c t h0 h1).2.2.2.2.1
    = k0_pay30 (iblk m c 3 t) (vCode (iblk m c 13 t) (iblk m c 14 t)) := by
  have e : (stA m c t h0 h1).2.2.2.2.1 = rd19 (runA m c t h0 h1).2.2.2.2.1 := by
    unfold stA
    dsimp only
  exact e.trans (runA_19 ..)

theorem stA_20 (c : Dev nD) (t : Fin cfg0.N) (h0 : t.val % 15 = 0) (h1 : ¬t.val % 15 = 14) : (stA m c t h0 h1).2.2.2.2.2.1
    = k0_pay28 k0_pay25 (k0_pay26 (k0_pay17 (iblk m c 14 t)) (k0_pay18 (iblk m c 14 t))) k0_pay27 := by
  have e : (stA m c t h0 h1).2.2.2.2.2.1 = rd20 (runA m c t h0 h1).2.2.2.2.2.1 := by
    unfold stA
    dsimp only
  exact e.trans (runA_20 ..)

theorem stA_21 (c : Dev nD) (t : Fin cfg0.N) (h0 : t.val % 15 = 0) (h1 : ¬t.val % 15 = 14) : (stA m c t h0 h1).2.2.2.2.2.2.1
    = k0_pay29 (k0_pay17 (iblk m c 14 t)) k0_pay25 := by
  have e : (stA m c t h0 h1).2.2.2.2.2.2.1 = rd21 (runA m c t h0 h1).2.2.2.2.2.2.1 := by
    unfold stA
    dsimp only
  exact e.trans (runA_21 ..)

theorem stA_0 (c : Dev nD) (t : Fin cfg0.N) (h0 : t.val % 15 = 0) (h1 : ¬t.val % 15 = 14) : (stA m c t h0 h1).2.2.2.2.2.2.2.1
    = (k0_pay3 (iblk m c 1 t) (iblk m c 0 t)) := by
  have e : (stA m c t h0 h1).2.2.2.2.2.2.2.1 = rs0 (runA m c t h0 h1).2.2.2.2.2.2.2.1 := by
    unfold stA
    dsimp only
  exact e.trans (runA_0 ..)

theorem stA_1 (c : Dev nD) (t : Fin cfg0.N) (h0 : t.val % 15 = 0) (h1 : ¬t.val % 15 = 14) : (stA m c t h0 h1).2.2.2.2.2.2.2.2.1
    = (k0_pay4 (iblk m c 1 t) (iblk m c 5 t)) := by
  have e : (stA m c t h0 h1).2.2.2.2.2.2.2.2.1 = rs1 (runA m c t h0 h1).2.2.2.2.2.2.2.2.1 := by
    unfold stA
    dsimp only
  exact e.trans (runA_1 ..)

theorem stA_2 (c : Dev nD) (t : Fin cfg0.N) (h0 : t.val % 15 = 0) (h1 : ¬t.val % 15 = 14) : (stA m c t h0 h1).2.2.2.2.2.2.2.2.2.1
    = (k0_pay5 (iblk m c 1 t) (iblk m c 6 t)) := by
  have e : (stA m c t h0 h1).2.2.2.2.2.2.2.2.2.1 = rs2 (runA m c t h0 h1).2.2.2.2.2.2.2.2.2.1 := by
    unfold stA
    dsimp only
  exact e.trans (runA_2 ..)

theorem stA_3 (c : Dev nD) (t : Fin cfg0.N) (h0 : t.val % 15 = 0) (h1 : ¬t.val % 15 = 14) : (stA m c t h0 h1).2.2.2.2.2.2.2.2.2.2.1
    = k0_pay161 (k0_pay156 (scores (iblk m c 4 t) (wordAt (grid0.coords t) (k0_pay4 (iblk m c 1 t) (iblk m c 5 t))) (wordAt (grid0.coords t) (k0_pay5 (iblk m c 1 t) (iblk m c 6 t))) (k0_pay3 (iblk m c 1 t) (iblk m c 0 t))) (col0 (m0 (iblk m c 0 t) (iblk m c 10 t) (iblk m c 12 t)))) := by
  have e : (stA m c t h0 h1).2.2.2.2.2.2.2.2.2.2.1 = rs3 (runA m c t h0 h1).2.2.2.2.2.2.2.2.2.2.1 := by
    unfold stA
    dsimp only
  exact e.trans (runA_3 ..)

theorem stA_4 (c : Dev nD) (t : Fin cfg0.N) (h0 : t.val % 15 = 0) (h1 : ¬t.val % 15 = 14) : (stA m c t h0 h1).2.2.2.2.2.2.2.2.2.2.2.1
    = k0_pay162 (k0_pay157 (scores (iblk m c 4 t) (wordAt (grid0.coords t) (k0_pay4 (iblk m c 1 t) (iblk m c 5 t))) (wordAt (grid0.coords t) (k0_pay5 (iblk m c 1 t) (iblk m c 6 t))) (k0_pay3 (iblk m c 1 t) (iblk m c 0 t))) (col0 (m0 (iblk m c 0 t) (iblk m c 10 t) (iblk m c 12 t)))) (k0_pay158 (scores (iblk m c 4 t) (wordAt (grid0.coords t) (k0_pay4 (iblk m c 1 t) (iblk m c 5 t))) (wordAt (grid0.coords t) (k0_pay5 (iblk m c 1 t) (iblk m c 6 t))) (k0_pay3 (iblk m c 1 t) (iblk m c 0 t))) (col0 (m0 (iblk m c 0 t) (iblk m c 10 t) (iblk m c 12 t)))) (col0 (l0 (iblk m c 0 t) (iblk m c 10 t) (iblk m c 12 t))) := by
  have e : (stA m c t h0 h1).2.2.2.2.2.2.2.2.2.2.2.1 = rs4 (runA m c t h0 h1).2.2.2.2.2.2.2.2.2.2.2.1 := by
    unfold stA
    dsimp only
  exact e.trans (runA_4 ..)

theorem stA_5 (c : Dev nD) (t : Fin cfg0.N) (h0 : t.val % 15 = 0) (h1 : ¬t.val % 15 = 14) : (stA m c t h0 h1).2.2.2.2.2.2.2.2.2.2.2.2
    = k0_pay163 (k0_pay155 (iblk m c 7 t) (iblk m c 2 t) (iblk m c 8 t) (iblk m c 9 t)) (k0_pay157 (scores (iblk m c 4 t) (wordAt (grid0.coords t) (k0_pay4 (iblk m c 1 t) (iblk m c 5 t))) (wordAt (grid0.coords t) (k0_pay5 (iblk m c 1 t) (iblk m c 6 t))) (k0_pay3 (iblk m c 1 t) (iblk m c 0 t))) (col0 (m0 (iblk m c 0 t) (iblk m c 10 t) (iblk m c 12 t)))) (k0_pay158 (scores (iblk m c 4 t) (wordAt (grid0.coords t) (k0_pay4 (iblk m c 1 t) (iblk m c 5 t))) (wordAt (grid0.coords t) (k0_pay5 (iblk m c 1 t) (iblk m c 6 t))) (k0_pay3 (iblk m c 1 t) (iblk m c 0 t))) (col0 (m0 (iblk m c 0 t) (iblk m c 10 t) (iblk m c 12 t)))) (a0 (iblk m c 0 t) (iblk m c 1 t) (iblk m c 10 t) (iblk m c 11 t) (iblk m c 12 t) (iblk m c 13 t) (iblk m c 14 t)) := by
  have e : (stA m c t h0 h1).2.2.2.2.2.2.2.2.2.2.2.2 = rs5 (runA m c t h0 h1).2.2.2.2.2.2.2.2.2.2.2.2.1 := by
    unfold stA
    dsimp only
  exact e.trans (runA_5 ..)

theorem stB_16 (c : Dev nD) (t : Fin cfg0.N) (h0 : ¬t.val % 15 = 0) (h1 : ¬t.val % 15 = 14) (acc : St F) : (stB m c t h0 h1 acc).2.1 = acc.2.1 := by
  unfold stB
  dsimp only

theorem stB_17 (c : Dev nD) (t : Fin cfg0.N) (h0 : ¬t.val % 15 = 0) (h1 : ¬t.val % 15 = 14) (acc : St F) : (stB m c t h0 h1 acc).2.2.1 = acc.2.2.1 := by
  unfold stB
  dsimp only

theorem stB_18 (c : Dev nD) (t : Fin cfg0.N) (h0 : ¬t.val % 15 = 0) (h1 : ¬t.val % 15 = 14) (acc : St F) : (stB m c t h0 h1 acc).2.2.2.1 = acc.2.2.2.1 := by
  unfold stB
  dsimp only

theorem stB_19 (c : Dev nD) (t : Fin cfg0.N) (h0 : ¬t.val % 15 = 0) (h1 : ¬t.val % 15 = 14) (acc : St F) : (stB m c t h0 h1 acc).2.2.2.2.1 = acc.2.2.2.2.1 := by
  unfold stB
  dsimp only

theorem stB_20 (c : Dev nD) (t : Fin cfg0.N) (h0 : ¬t.val % 15 = 0) (h1 : ¬t.val % 15 = 14) (acc : St F) : (stB m c t h0 h1 acc).2.2.2.2.2.1 = acc.2.2.2.2.2.1 := by
  unfold stB
  dsimp only

theorem stB_21 (c : Dev nD) (t : Fin cfg0.N) (h0 : ¬t.val % 15 = 0) (h1 : ¬t.val % 15 = 14) (acc : St F) : (stB m c t h0 h1 acc).2.2.2.2.2.2.1 = acc.2.2.2.2.2.2.1 := by
  unfold stB
  dsimp only

theorem stB_0 (c : Dev nD) (t : Fin cfg0.N) (h0 : ¬t.val % 15 = 0) (h1 : ¬t.val % 15 = 14) (acc : St F) : (stB m c t h0 h1 acc).2.2.2.2.2.2.2.1 = acc.2.2.2.2.2.2.2.1 := by
  unfold stB
  dsimp only

theorem stB_1 (c : Dev nD) (t : Fin cfg0.N) (h0 : ¬t.val % 15 = 0) (h1 : ¬t.val % 15 = 14) (acc : St F) : (stB m c t h0 h1 acc).2.2.2.2.2.2.2.2.1 = acc.2.2.2.2.2.2.2.2.1 := by
  unfold stB
  dsimp only

theorem stB_2 (c : Dev nD) (t : Fin cfg0.N) (h0 : ¬t.val % 15 = 0) (h1 : ¬t.val % 15 = 14) (acc : St F) : (stB m c t h0 h1 acc).2.2.2.2.2.2.2.2.2.1 = acc.2.2.2.2.2.2.2.2.2.1 := by
  unfold stB
  dsimp only

theorem stB_3 (c : Dev nD) (t : Fin cfg0.N) (h0 : ¬t.val % 15 = 0) (h1 : ¬t.val % 15 = 14) (acc : St F) : (stB m c t h0 h1 acc).2.2.2.2.2.2.2.2.2.2.1
    = k0_pay161 (k0_pay156 (scores (iblk m c 4 t) (wordAt (grid0.coords t) acc.2.2.2.2.2.2.2.2.1) (wordAt (grid0.coords t) acc.2.2.2.2.2.2.2.2.2.1) acc.2.2.2.2.2.2.2.1) (col0 acc.2.2.2.2.2.2.2.2.2.2.1)) := by
  have e : (stB m c t h0 h1 acc).2.2.2.2.2.2.2.2.2.2.1 = rs3 (runB m c t h0 h1 acc).2.2.2.2.2.2.2.2.2.2.1 := by
    unfold stB
    dsimp only
  exact e.trans (runB_3 ..)

theorem stB_4 (c : Dev nD) (t : Fin cfg0.N) (h0 : ¬t.val % 15 = 0) (h1 : ¬t.val % 15 = 14) (acc : St F) : (stB m c t h0 h1 acc).2.2.2.2.2.2.2.2.2.2.2.1
    = k0_pay162 (k0_pay157 (scores (iblk m c 4 t) (wordAt (grid0.coords t) acc.2.2.2.2.2.2.2.2.1) (wordAt (grid0.coords t) acc.2.2.2.2.2.2.2.2.2.1) acc.2.2.2.2.2.2.2.1) (col0 acc.2.2.2.2.2.2.2.2.2.2.1)) (k0_pay158 (scores (iblk m c 4 t) (wordAt (grid0.coords t) acc.2.2.2.2.2.2.2.2.1) (wordAt (grid0.coords t) acc.2.2.2.2.2.2.2.2.2.1) acc.2.2.2.2.2.2.2.1) (col0 acc.2.2.2.2.2.2.2.2.2.2.1)) (col0 acc.2.2.2.2.2.2.2.2.2.2.2.1) := by
  have e : (stB m c t h0 h1 acc).2.2.2.2.2.2.2.2.2.2.2.1 = rs4 (runB m c t h0 h1 acc).2.2.2.2.2.2.2.2.2.2.2.1 := by
    unfold stB
    dsimp only
  exact e.trans (runB_4 ..)

theorem stB_5 (c : Dev nD) (t : Fin cfg0.N) (h0 : ¬t.val % 15 = 0) (h1 : ¬t.val % 15 = 14) (acc : St F) : (stB m c t h0 h1 acc).2.2.2.2.2.2.2.2.2.2.2.2
    = k0_pay163 (k0_pay155 (iblk m c 7 t) (iblk m c 2 t) (iblk m c 8 t) (iblk m c 9 t)) (k0_pay157 (scores (iblk m c 4 t) (wordAt (grid0.coords t) acc.2.2.2.2.2.2.2.2.1) (wordAt (grid0.coords t) acc.2.2.2.2.2.2.2.2.2.1) acc.2.2.2.2.2.2.2.1) (col0 acc.2.2.2.2.2.2.2.2.2.2.1)) (k0_pay158 (scores (iblk m c 4 t) (wordAt (grid0.coords t) acc.2.2.2.2.2.2.2.2.1) (wordAt (grid0.coords t) acc.2.2.2.2.2.2.2.2.2.1) acc.2.2.2.2.2.2.2.1) (col0 acc.2.2.2.2.2.2.2.2.2.2.1)) acc.2.2.2.2.2.2.2.2.2.2.2.2 := by
  have e : (stB m c t h0 h1 acc).2.2.2.2.2.2.2.2.2.2.2.2 = rs5 (runB m c t h0 h1 acc).2.2.2.2.2.2.2.2.2.2.2.2.1 := by
    unfold stB
    dsimp only
  exact e.trans (runB_5 ..)

theorem stC_15 (c : Dev nD) (t : Fin cfg0.N) (h0 : ¬t.val % 15 = 0) (h1 : t.val % 15 = 14) (acc : St F) : (stC m c t h0 h1 acc).1
    = k0_pay1 (iblk m c 1 t) (k0_pay159 (k0_pay157 (scores (iblk m c 4 t) (wordAt (grid0.coords t) acc.2.2.2.2.2.2.2.2.1) (wordAt (grid0.coords t) acc.2.2.2.2.2.2.2.2.2.1) acc.2.2.2.2.2.2.2.1) (col0 acc.2.2.2.2.2.2.2.2.2.2.1)) (k0_pay158 (scores (iblk m c 4 t) (wordAt (grid0.coords t) acc.2.2.2.2.2.2.2.2.1) (wordAt (grid0.coords t) acc.2.2.2.2.2.2.2.2.2.1) acc.2.2.2.2.2.2.2.1) (col0 acc.2.2.2.2.2.2.2.2.2.2.1)) (col0 acc.2.2.2.2.2.2.2.2.2.2.2.1)) (k0_pay160 (k0_pay155 (iblk m c 7 t) (iblk m c 2 t) (iblk m c 8 t) (iblk m c 9 t)) (k0_pay157 (scores (iblk m c 4 t) (wordAt (grid0.coords t) acc.2.2.2.2.2.2.2.2.1) (wordAt (grid0.coords t) acc.2.2.2.2.2.2.2.2.2.1) acc.2.2.2.2.2.2.2.1) (col0 acc.2.2.2.2.2.2.2.2.2.2.1)) (k0_pay158 (scores (iblk m c 4 t) (wordAt (grid0.coords t) acc.2.2.2.2.2.2.2.2.1) (wordAt (grid0.coords t) acc.2.2.2.2.2.2.2.2.2.1) acc.2.2.2.2.2.2.2.1) (col0 acc.2.2.2.2.2.2.2.2.2.2.1)) acc.2.2.2.2.2.2.2.2.2.2.2.2) := by
  have e : (stC m c t h0 h1 acc).1 = rd15 (runC m c t h0 h1 acc).1 := by
    unfold stC
    dsimp only
  exact e.trans (runC_15 ..)

theorem stC_16 (c : Dev nD) (t : Fin cfg0.N) (h0 : ¬t.val % 15 = 0) (h1 : t.val % 15 = 14) (acc : St F) : (stC m c t h0 h1 acc).2.1 = acc.2.1 := by
  unfold stC
  dsimp only

theorem stC_17 (c : Dev nD) (t : Fin cfg0.N) (h0 : ¬t.val % 15 = 0) (h1 : t.val % 15 = 14) (acc : St F) : (stC m c t h0 h1 acc).2.2.1 = acc.2.2.1 := by
  unfold stC
  dsimp only

theorem stC_18 (c : Dev nD) (t : Fin cfg0.N) (h0 : ¬t.val % 15 = 0) (h1 : t.val % 15 = 14) (acc : St F) : (stC m c t h0 h1 acc).2.2.2.1 = acc.2.2.2.1 := by
  unfold stC
  dsimp only

theorem stC_19 (c : Dev nD) (t : Fin cfg0.N) (h0 : ¬t.val % 15 = 0) (h1 : t.val % 15 = 14) (acc : St F) : (stC m c t h0 h1 acc).2.2.2.2.1 = acc.2.2.2.2.1 := by
  unfold stC
  dsimp only

theorem stC_20 (c : Dev nD) (t : Fin cfg0.N) (h0 : ¬t.val % 15 = 0) (h1 : t.val % 15 = 14) (acc : St F) : (stC m c t h0 h1 acc).2.2.2.2.2.1 = acc.2.2.2.2.2.1 := by
  unfold stC
  dsimp only

theorem stC_21 (c : Dev nD) (t : Fin cfg0.N) (h0 : ¬t.val % 15 = 0) (h1 : t.val % 15 = 14) (acc : St F) : (stC m c t h0 h1 acc).2.2.2.2.2.2.1 = acc.2.2.2.2.2.2.1 := by
  unfold stC
  dsimp only

theorem stC_0 (c : Dev nD) (t : Fin cfg0.N) (h0 : ¬t.val % 15 = 0) (h1 : t.val % 15 = 14) (acc : St F) : (stC m c t h0 h1 acc).2.2.2.2.2.2.2.1 = acc.2.2.2.2.2.2.2.1 := by
  unfold stC
  dsimp only

theorem stC_1 (c : Dev nD) (t : Fin cfg0.N) (h0 : ¬t.val % 15 = 0) (h1 : t.val % 15 = 14) (acc : St F) : (stC m c t h0 h1 acc).2.2.2.2.2.2.2.2.1 = acc.2.2.2.2.2.2.2.2.1 := by
  unfold stC
  dsimp only

theorem stC_2 (c : Dev nD) (t : Fin cfg0.N) (h0 : ¬t.val % 15 = 0) (h1 : t.val % 15 = 14) (acc : St F) : (stC m c t h0 h1 acc).2.2.2.2.2.2.2.2.2.1 = acc.2.2.2.2.2.2.2.2.2.1 := by
  unfold stC
  dsimp only

theorem stC_3 (c : Dev nD) (t : Fin cfg0.N) (h0 : ¬t.val % 15 = 0) (h1 : t.val % 15 = 14) (acc : St F) : (stC m c t h0 h1 acc).2.2.2.2.2.2.2.2.2.2.1
    = k0_pay161 (k0_pay156 (scores (iblk m c 4 t) (wordAt (grid0.coords t) acc.2.2.2.2.2.2.2.2.1) (wordAt (grid0.coords t) acc.2.2.2.2.2.2.2.2.2.1) acc.2.2.2.2.2.2.2.1) (col0 acc.2.2.2.2.2.2.2.2.2.2.1)) := by
  have e : (stC m c t h0 h1 acc).2.2.2.2.2.2.2.2.2.2.1 = rs3 (runC m c t h0 h1 acc).2.2.2.2.2.2.2.2.2.2.1 := by
    unfold stC
    dsimp only
  exact e.trans (runC_3 ..)

theorem stC_4 (c : Dev nD) (t : Fin cfg0.N) (h0 : ¬t.val % 15 = 0) (h1 : t.val % 15 = 14) (acc : St F) : (stC m c t h0 h1 acc).2.2.2.2.2.2.2.2.2.2.2.1
    = k0_pay162 (k0_pay157 (scores (iblk m c 4 t) (wordAt (grid0.coords t) acc.2.2.2.2.2.2.2.2.1) (wordAt (grid0.coords t) acc.2.2.2.2.2.2.2.2.2.1) acc.2.2.2.2.2.2.2.1) (col0 acc.2.2.2.2.2.2.2.2.2.2.1)) (k0_pay158 (scores (iblk m c 4 t) (wordAt (grid0.coords t) acc.2.2.2.2.2.2.2.2.1) (wordAt (grid0.coords t) acc.2.2.2.2.2.2.2.2.2.1) acc.2.2.2.2.2.2.2.1) (col0 acc.2.2.2.2.2.2.2.2.2.2.1)) (col0 acc.2.2.2.2.2.2.2.2.2.2.2.1) := by
  have e : (stC m c t h0 h1 acc).2.2.2.2.2.2.2.2.2.2.2.1 = rs4 (runC m c t h0 h1 acc).2.2.2.2.2.2.2.2.2.2.2.1 := by
    unfold stC
    dsimp only
  exact e.trans (runC_4 ..)

theorem stC_5 (c : Dev nD) (t : Fin cfg0.N) (h0 : ¬t.val % 15 = 0) (h1 : t.val % 15 = 14) (acc : St F) : (stC m c t h0 h1 acc).2.2.2.2.2.2.2.2.2.2.2.2
    = k0_pay163 (k0_pay155 (iblk m c 7 t) (iblk m c 2 t) (iblk m c 8 t) (iblk m c 9 t)) (k0_pay157 (scores (iblk m c 4 t) (wordAt (grid0.coords t) acc.2.2.2.2.2.2.2.2.1) (wordAt (grid0.coords t) acc.2.2.2.2.2.2.2.2.2.1) acc.2.2.2.2.2.2.2.1) (col0 acc.2.2.2.2.2.2.2.2.2.2.1)) (k0_pay158 (scores (iblk m c 4 t) (wordAt (grid0.coords t) acc.2.2.2.2.2.2.2.2.1) (wordAt (grid0.coords t) acc.2.2.2.2.2.2.2.2.2.1) acc.2.2.2.2.2.2.2.1) (col0 acc.2.2.2.2.2.2.2.2.2.2.1)) acc.2.2.2.2.2.2.2.2.2.2.2.2 := by
  have e : (stC m c t h0 h1 acc).2.2.2.2.2.2.2.2.2.2.2.2 = rs5 (runC m c t h0 h1 acc).2.2.2.2.2.2.2.2.2.2.2.2.1 := by
    unfold stC
    dsimp only
  exact e.trans (runC_5 ..)

end Cert.KernelIdeal.Hand

end
-- ==== Proof.EMath.lean ====
/- The mathematics of softmax attention taken token block by token block, on the extended reals: a maximum, a sum of
   exponentials and a weighted sum over a set of tokens, and how they grow when tokens are added. -/
module

public import Idealize.ShloMosaic.Lib.Pointwise

@[expose] public section

namespace Cert.KernelIdeal.Hand

open Idealize.ShloMosaic

/-- An exponential is not negative. -/
theorem exp_nonneg (x : EReal) : 0 ≤ Ideal.exp x := by
  induction x using EReal.rec with
  | bot => simp
  | top => simp
  | coe r => rw [Ideal.exp_coe]; exact_mod_cast (Real.exp_pos r).le

/-- The exponential of a number less a bound of it is finite. -/
theorem exp_sub_ne_top {x y : EReal} (h : x ≤ y) : Ideal.exp (x - y) ≠ ⊤ := by
  induction y using EReal.rec with
  | bot => rw [le_bot_iff.1 h]; simp
  | top => rw [EReal.sub_top]; simp
  | coe r =>
    induction x using EReal.rec with
    | bot => rw [EReal.bot_sub]; simp
    | top => simp at h
    | coe q => rw [← EReal.coe_sub, Ideal.exp_coe]; exact EReal.coe_ne_top _

/-- Moving an exponential from one bound to a larger one. -/
theorem exp_mul_exp {s m m' : EReal} (h : s ≤ m) (h' : m ≤ m') :
    Ideal.exp (m - m') * Ideal.exp (s - m) = Ideal.exp (s - m') := by
  induction m using EReal.rec with
  | bot => rw [le_bot_iff.1 h]; simp [EReal.bot_sub]
  | top => rw [top_le_iff.1 h']; simp [EReal.sub_top]
  | coe r =>
    induction m' using EReal.rec with
    | bot => simp at h'
    | top => simp [EReal.sub_top]
    | coe r' =>
      induction s using EReal.rec with
      | bot => simp [EReal.bot_sub]
      | top => simp at h
      | coe q =>
        simp only [← EReal.coe_sub, Ideal.exp_coe, ← EReal.coe_mul, ← Real.exp_add]
        congr 2; ring

/-- A finite factor that is not negative goes into a sum. -/
theorem mul_sum_nonneg {ι : Type} (a : EReal) (h0 : 0 ≤ a) (ht : a ≠ ⊤) (s : Finset ι) (f : ι → EReal) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 ht, ih]

section Soft
variable {ι : Type}

/-- The greatest score of a set of tokens. -/
noncomputable def smax (S : ι → EReal) (T : Finset ι) : EReal := T.sup S
/-- The sum of the exponentials of the scores less the greatest. -/
noncomputable def ssum (S : ι → EReal) (T : Finset ι) : EReal := ∑ t ∈ T, Ideal.exp (S t - smax S T)
/-- The values weighted by those exponentials. -/
noncomputable def sval (S V : ι → EReal) (T : Finset ι) : EReal := ∑ t ∈ T, Ideal.exp (S t - smax S T) * V t

theorem smax_union [DecidableEq ι] (S : ι → EReal) (T U : Finset ι) : smax S (T ∪ U) = max (smax S T) (smax S U) :=
  Finset.sup_union

theorem ssum_union [DecidableEq ι] (S : ι → EReal) (T U : Finset ι) (hd : Disjoint T U) :
    ssum S (T ∪ U) = Ideal.exp (smax S T - smax S (T ∪ U)) * ssum S T + ∑ t ∈ U, Ideal.exp (S t - smax S (T ∪ U)) := by
  have hm : smax S T ≤ smax S (T ∪ U) := by rw [smax_union]; exact le_max_left _ _
  unfold ssum
  rw [Finset.sum_union hd, mul_sum_nonneg _ (exp_nonneg _) (exp_sub_ne_top hm)]
  congr 1
  exact Finset.sum_congr rfl fun t ht => (exp_mul_exp (Finset.le_sup (f := S) ht) hm).symm

theorem sval_union [DecidableEq ι] (S V : ι → EReal) (T U : Finset ι) (hd : Disjoint T U) :
    sval S V (T ∪ U) = Ideal.exp (smax S T - smax S (T ∪ U)) * sval S V T + ∑ t ∈ U, Ideal.exp (S t - smax S (T ∪ U)) * V t := by
  have hm : smax S T ≤ smax S (T ∪ U) := by rw [smax_union]; exact le_max_left _ _
  unfold sval
  rw [Finset.sum_union hd, mul_sum_nonneg _ (exp_nonneg _) (exp_sub_ne_top hm)]
  congr 1
  refine Finset.sum_congr rfl fun t ht => ?_
  rw [← mul_assoc, exp_mul_exp (show S t ≤ smax S T from Finset.le_sup (f := S) ht) hm]

end Soft

/-- An exponential of a score less a bound of it, less itself, is zero. -/
theorem exp_sub_self {x y : EReal} (h : x ≤ y) : Ideal.exp (x - y) - Ideal.exp (x - y) = 0 :=
  EReal.sub_self (exp_sub_ne_top h) (ne_of_gt (lt_of_lt_of_le EReal.bot_lt_zero (exp_nonneg _)))

/-- A sum against an indicator of one index. -/
theorem sum_mul_ite {n : ℕ} (f : Fin n → EReal) (j : Fin n) (p : Fin n → Prop) [DecidablePred p] (hp : ∀ k, p k ↔ k = j) (z : EReal) (hz : z = 0) :
    (∑ k : Fin n, f k * (if p k then 1 else z)) = f j := by
  subst hz
  rw [Finset.sum_eq_single j]
  · rw [if_pos ((hp j).2 rfl), mul_one]
  · intro k _ hk; rw [if_neg (fun h => hk ((hp k).1 h)), mul_zero]
  · intro h; exact absurd (Finset.mem_univ j) h

/-- The channel at a place of the even-first order. -/
def chOf (c : Fin 256) : Fin 256 := if h : c.val < 128 then ⟨2 * c.val, by omega⟩ else ⟨2 * (c.val - 128) + 1, by omega⟩
/-- The place of a channel in the even-first order. -/
def placeOf (c : Fin 256) : Fin 256 := ⟨c.val / 2 + (c.val % 2) * 128, by omega⟩

theorem chOf_place (c : Fin 256) : chOf (placeOf c) = c := by
  unfold chOf placeOf
  have := c.isLt
  by_cases h : c.val / 2 + (c.val % 2) * 128 < 128
  · rw [dif_pos h]; apply Fin.ext; show 2 * (c.val / 2 + (c.val % 2) * 128) = c.val; omega
  · rw [dif_neg h]; apply Fin.ext; show 2 * (c.val / 2 + (c.val % 2) * 128 - 128) + 1 = c.val; omega
theorem place_chOf (c : Fin 256) : placeOf (chOf c) = c := by
  unfold chOf placeOf
  have := c.isLt
  by_cases h : c.val < 128
  · rw [dif_pos h]; apply Fin.ext; show 2 * c.val / 2 + (2 * c.val % 2) * 128 = c.val; omega
  · rw [dif_neg h]; apply Fin.ext; show (2 * (c.val - 128) + 1) / 2 + ((2 * (c.val - 128) + 1) % 2) * 128 = c.val; omega

/-- The even-first order, as a permutation. -/
def chEquiv : Fin 256 ≃ Fin 256 := ⟨chOf, placeOf, place_chOf, chOf_place⟩

theorem sum_chOf (f : Fin 256 → EReal) : ∑ c, f (chOf c) = ∑ c, f c := Equiv.sum_comp chEquiv f

/-! ## Codes -/

/-- A whole number of four bits. -/
def IsCode (x : EReal) : Prop := ∃ n : ℕ, n ≤ 15 ∧ x = ((n : ℝ) : EReal)

theorem isCode_clip (x : EReal) : IsCode (min ((15 : ℝ) : EReal) (max 0 (Ideal.liftRound Ideal.roundHalfEven x))) := by
  induction x using EReal.rec with
  | bot => exact ⟨0, by omega, by simp⟩
  | top => exact ⟨15, by omega, by simp⟩
  | coe r =>
    rw [Ideal.liftRound_coe]
    generalize Ideal.roundHalfEven r = z
    rcases le_total z 0 with h | h
    · refine ⟨0, by omega, ?_⟩
      rw [max_eq_left (by exact_mod_cast h)]; simp
    · rcases le_total z 15 with h' | h'
      · refine ⟨z.toNat, by omega, ?_⟩
        rw [max_eq_right (by exact_mod_cast h), min_eq_right (by exact_mod_cast h')]
        have : ((z.toNat : ℕ) : ℤ) = z := Int.toNat_of_nonneg h
        congr 1
        exact_mod_cast congrArg (fun a : ℤ => (a : ℝ)) this.symm
      · refine ⟨15, by omega, ?_⟩
        rw [max_eq_right (by exact_mod_cast h), min_eq_left (by exact_mod_cast h')]; norm_num

theorem fptosi_nat (w n : ℕ) (h : n < 2 ^ (w - 1)) : Ideal.fptosi w (((n : ℕ) : ℝ) : EReal) = BitVec.ofNat w n := by
  unfold Ideal.fptosi
  have : Ideal.toIntClamped (-(2 ^ (w - 1) : ℕ)) ((2 ^ (w - 1) : ℕ) - 1) (((n : ℕ) : ℝ) : EReal) = (n : ℤ) := by
    show max _ (min _ (if (0 : ℝ) ≤ (n : ℝ) then ⌊(n : ℝ)⌋ else ⌈(n : ℝ)⌉)) = _
    rw [if_pos (Nat.cast_nonneg n), Int.floor_natCast]
    have h2 : ((n : ℕ) : ℤ) < ((2 ^ (w - 1) : ℕ) : ℤ) := by exact_mod_cast h
    omega
  rw [this, BitVec.ofInt_natCast]

theorem f15 : Ideal.ofBits .f32 0x41700000#32 = ((15 : ℝ) : EReal) := by
  have h1 : ((0x41700000#32 : BitVec 32).extractLsb' 23 8).toNat = 130 := by decide
  have h2 : ((0x41700000#32 : BitVec 32).extractLsb' 0 23).toNat = 7340032 := by decide
  have h3 : ((0x41700000#32 : BitVec 32).extractLsb' 31 1 == 1#1) = false := by decide
  simp only [Ideal.ofBits, Ideal.ieee, h1, h2, h3]
  norm_num

theorem fninf : Ideal.ofBits .f32 0xFF800000#32 = ⊥ := by
  have h1 : ((0xFF800000#32 : BitVec 32).extractLsb' 23 8).toNat = 255 := by decide
  have h2 : ((0xFF800000#32 : BitVec 32).extractLsb' 0 23).toNat = 0 := by decide
  have h3 : ((0xFF800000#32 : BitVec 32).extractLsb' 31 1 == 1#1) = true := by decide
  simp only [Ideal.ofBits, Ideal.ieee, h1, h2, h3]
  norm_num

theorem fpinf : Ideal.ofBits .f32 0x7F800000#32 = ⊤ := by
  have h1 : ((0x7F800000#32 : BitVec 32).extractLsb' 23 8).toNat = 255 := by decide
  have h2 : ((0x7F800000#32 : BitVec 32).extractLsb' 0 23).toNat = 0 := by decide
  have h3 : ((0x7F800000#32 : BitVec 32).extractLsb' 31 1 == 1#1) = false := by decide
  simp only [Ideal.ofBits, Ideal.ieee, h1, h2, h3]
  norm_num

theorem b16 : Ideal.ofBits .bf16 0x4180#16 = ((16 : ℝ) : EReal) := by
  have h1 : ((0x4180#16 : BitVec 16).extractLsb' 7 8).toNat = 131 := by decide
  have h2 : ((0x4180#16 : BitVec 16).extractLsb' 0 7).toNat = 0 := by decide
  have h3 : ((0x4180#16 : BitVec 16).extractLsb' 15 1 == 1#1) = false := by decide
  simp only [Ideal.ofBits, Ideal.ieee, h1, h2, h3]
  norm_num

end Cert.KernelIdeal.Hand

end
-- ==== Proof.Model.lean ====
/- What the programs compute, in plain terms: four-bit quantisation of the new token against its group, the dequantised
   keys and values of every token, the scores, and where the tokens of a block lie. -/
module

public import proofs.«01_k».proof.Proof.EMath

@[expose] public section

noncomputable section

namespace Cert.KernelIdeal.Hand

open Idealize.ShloMosaic

/-- The step of a four-bit code between two bounds. -/
def qscale (lo hi : EReal) : EReal := if 0 < hi - lo then Ideal.div (hi - lo) (Ideal.ofBits .f32 0x41700000#32) else 1

/-- The four-bit code of a number between two bounds. -/
def qcode (x lo hi : EReal) : EReal :=
  min (Ideal.ofBits .f32 0x41700000#32) (max 0 (Ideal.liftRound Ideal.roundHalfEven (Ideal.div (x - lo) (qscale lo hi))))

theorem isCode_qcode (x lo hi : EReal) : IsCode (qcode x lo hi) := by
  unfold qcode; rw [f15]; exact isCode_clip _

/-- The 32 newest keys of a channel: the tail's last 31 and the new one. -/
def kgrp (kn : Fin 256 → EReal) (kt : Fin 128 → Fin 256 → EReal) (ch : Fin 256) (r : Fin 32) : EReal :=
  if h : r.val < 31 then kt ⟨97 + r.val, by omega⟩ ch else kn ch
/-- The least of them. -/
def klo (kn : Fin 256 → EReal) (kt : Fin 128 → Fin 256 → EReal) (ch : Fin 256) : EReal := Finset.univ.fold min ⊤ (kgrp kn kt ch)
/-- The greatest of them. -/
def khi (kn : Fin 256 → EReal) (kt : Fin 128 → Fin 256 → EReal) (ch : Fin 256) : EReal := Finset.univ.fold max ⊥ (kgrp kn kt ch)
/-- The new key's code. -/
def kcd (kn : Fin 256 → EReal) (kt : Fin 128 → Fin 256 → EReal) (ch : Fin 256) : EReal := qcode (kn ch) (klo kn kt ch) (khi kn kt ch)
/-- The new key as its code gives it back. -/
def knd (kn : Fin 256 → EReal) (kt : Fin 128 → Fin 256 → EReal) (ch : Fin 256) : EReal :=
  kcd kn kt ch * qscale (klo kn kt ch) (khi kn kt ch) + klo kn kt ch

/-- Value group `g` of the new value. -/
def vgrp (vn : Fin 256 → EReal) (g : Fin 8) (r : Fin 32) : EReal := vn ⟨32 * g.val + r.val, by omega⟩
/-- The least of a group. -/
def vlo (vn : Fin 256 → EReal) (g : Fin 8) : EReal := Finset.univ.fold min ⊤ (vgrp vn g)
/-- The greatest of a group. -/
def vhi (vn : Fin 256 → EReal) (g : Fin 8) : EReal := Finset.univ.fold max ⊥ (vgrp vn g)
/-- A channel's group. -/
def gof (ch : Fin 256) : Fin 8 := ⟨ch.val / 32, by omega⟩
/-- The new value's code. -/
def vcd (vn : Fin 256 → EReal) (ch : Fin 256) : EReal := qcode (vn ch) (vlo vn (gof ch)) (vhi vn (gof ch))
/-- The new value as its code gives it back. -/
def vnd (vn : Fin 256 → EReal) (ch : Fin 256) : EReal :=
  vcd vn ch * qscale (vlo vn (gof ch)) (vhi vn (gof ch)) + vlo vn (gof ch)

/-- The number in the low half of a byte. -/
def loN (b : BitVec 8) : EReal := (((b &&& 15#8).toInt : ℝ) : EReal)
/-- The number in the high half of a byte. -/
def hiN (b : BitVec 8) : EReal := (((b >>> 4).toInt : ℝ) : EReal)
/-- A channel's code in a row of bytes: the even channel in the low half. -/
def nib (x : Fin 128 → BitVec 8) (ch : Fin 256) : EReal :=
  if ch.val % 2 = 0 then loN (x ⟨ch.val / 2, by omega⟩) else hiN (x ⟨ch.val / 2, by omega⟩)

/-- The byte of two codes. -/
def packb (f : Fin 256 → EReal) (j : Fin 128) : BitVec 8 :=
  (Ideal.fptosi 32 (f ⟨2 * j.val, by omega⟩) ||| Ideal.fptosi 32 (f ⟨2 * j.val + 1, by omega⟩) <<< 4).setWidth 8

theorem pack_nat : ∀ a b : Fin 16, ((BitVec.ofNat 32 a.val) ||| (BitVec.ofNat 32 b.val) <<< 4).setWidth 8
    = (BitVec.ofNat 32 (a.val + b.val * 16)).setWidth 8 := by decide

/-- Two codes joined as a number are the byte of the two. -/
theorem packb_eq (f : Fin 256 → EReal) (hf : ∀ c, IsCode (f c)) (j : Fin 128) :
    (Ideal.fptosi 32 (f ⟨2 * j.val, by omega⟩ + f ⟨2 * j.val + 1, by omega⟩ * ((16 : ℝ) : EReal))).setWidth 8 = packb f j := by
  unfold packb
  obtain ⟨a, ha, ea⟩ := hf ⟨2 * j.val, by omega⟩
  obtain ⟨b, hb, eb⟩ := hf ⟨2 * j.val + 1, by omega⟩
  rw [ea, eb]
  have e : (((a : ℕ) : ℝ) : EReal) + (((b : ℕ) : ℝ) : EReal) * ((16 : ℝ) : EReal) = (((a + b * 16 : ℕ) : ℝ) : EReal) := by
    rw [← EReal.coe_mul, ← EReal.coe_add]; push_cast; rfl
  rw [e, fptosi_nat 32 _ (by norm_num; omega), fptosi_nat 32 _ (by norm_num; omega), fptosi_nat 32 _ (by norm_num; omega)]
  exact (pack_nat ⟨a, by omega⟩ ⟨b, by omega⟩).symm

/-- The arrays of one head. -/
structure Head where
  q : Fin 8 → Fin 256 → EReal
  kn : Fin 256 → EReal
  vn : Fin 256 → EReal
  kc : Fin 32640 → Fin 128 → BitVec 8
  ks : Fin 1020 → Fin 256 → EReal
  kz : Fin 1020 → Fin 256 → EReal
  vc : Fin 32640 → Fin 128 → BitVec 8
  vs : Fin 32640 → Fin 8 → EReal
  vz : Fin 32640 → Fin 8 → EReal
  kt : Fin 128 → Fin 256 → EReal
  vt : Fin 128 → Fin 256 → EReal

namespace Head
variable (H : Head)

/-- The key of a cached token. -/
def kCache (t : Fin 32640) (ch : Fin 256) : EReal :=
  nib (H.kc t) ch * H.ks ⟨t.val / 32, by omega⟩ ch + H.kz ⟨t.val / 32, by omega⟩ ch
/-- The value of a cached token. -/
def vCache (t : Fin 32640) (ch : Fin 256) : EReal := nib (H.vc t) ch * H.vs t (gof ch) + H.vz t (gof ch)

/-- The key of a token: cached, in the tail, or new. -/
def key (t : Fin 32769) (ch : Fin 256) : EReal :=
  if h : t.val < 32640 then H.kCache ⟨t.val, h⟩ ch
  else if h' : t.val - 32640 < 128 then H.kt ⟨t.val - 32640, h'⟩ ch else knd H.kn H.kt ch
/-- The value of a token. -/
def val (t : Fin 32769) (ch : Fin 256) : EReal :=
  if h : t.val < 32640 then H.vCache ⟨t.val, h⟩ ch
  else if h' : t.val - 32640 < 128 then H.vt ⟨t.val - 32640, h'⟩ ch else vnd H.vn ch

/-- The scaled score of a token. -/
def score (g : Fin 8) (t : Fin 32769) : EReal := (∑ ch, H.q g ch * H.key t ch) * Ideal.ofBits .f32 0x3D800000#32

/-- The attention's result. -/
def out (g : Fin 8) (ch : Fin 256) : EReal :=
  Ideal.div (sval (H.score g) (fun t => H.val t ch) Finset.univ) (ssum (H.score g) Finset.univ)

end Head

/-! ## The tokens, block by block -/

/-- Token `x` of block `n`. -/
def blkTok (n : Fin 15) : Fin 2176 ↪ Fin 32769 :=
  ⟨fun x => ⟨2176 * n.val + x.val, by omega⟩, fun x y h => by
    have : 2176 * n.val + x.val = 2176 * n.val + y.val := congrArg Fin.val h
    exact Fin.ext (by omega)⟩
/-- Token `x` of the tail. -/
def tailTok : Fin 128 ↪ Fin 32769 :=
  ⟨fun x => ⟨32640 + x.val, by omega⟩, fun x y h => by
    have : 32640 + x.val = 32640 + y.val := congrArg Fin.val h
    exact Fin.ext (by omega)⟩
/-- The new token. -/
def newTok : Fin 32769 := ⟨32768, by omega⟩

/-- The tail and the new token. -/
def T0 : Finset (Fin 32769) := Finset.univ.map tailTok ∪ {newTok}
/-- The tokens of a block. -/
def blk (n : Fin 15) : Finset (Fin 32769) := Finset.univ.map (blkTok n)
/-- The tail, the new token and the first `n` blocks. -/
def upTo (n : ℕ) : Finset (Fin 32769) := Finset.univ.filter fun t => 32640 ≤ t.val ∨ t.val < 2176 * n

theorem T0_disj : Disjoint (Finset.univ.map tailTok) ({newTok} : Finset (Fin 32769)) := by
  rw [Finset.disjoint_singleton_right, Finset.mem_map]
  rintro ⟨x, -, hx⟩
  have : 32640 + x.val = 32768 := congrArg Fin.val hx
  omega

theorem mem_blk (n : Fin 15) (t : Fin 32769) : t ∈ blk n ↔ 2176 * n.val ≤ t.val ∧ t.val < 2176 * (n.val + 1) := by
  unfold blk; rw [Finset.mem_map]
  constructor
  · rintro ⟨x, -, rfl⟩
    show 2176 * n.val ≤ 2176 * n.val + x.val ∧ 2176 * n.val + x.val < _
    omega
  · rintro ⟨h1, h2⟩
    exact ⟨⟨t.val - 2176 * n.val, by omega⟩, Finset.mem_univ _, Fin.ext (by show 2176 * n.val + (t.val - 2176 * n.val) = t.val; omega)⟩

theorem upTo_zero : upTo 0 = T0 := by
  ext t
  unfold upTo T0
  rw [Finset.mem_filter, Finset.mem_union, Finset.mem_map, Finset.mem_singleton]
  constructor
  · rintro ⟨-, h⟩
    by_cases h' : t.val = 32768
    · exact Or.inr (Fin.ext h')
    · exact Or.inl ⟨⟨t.val - 32640, by omega⟩, Finset.mem_univ _, Fin.ext (by show 32640 + (t.val - 32640) = t.val; omega)⟩
  · rintro (⟨x, -, rfl⟩ | rfl)
    · exact ⟨Finset.mem_univ _, Or.inl (by show 32640 ≤ 32640 + x.val; omega)⟩
    · exact ⟨Finset.mem_univ _, Or.inl (by show 32640 ≤ 32768; omega)⟩

theorem upTo_succ (n : Fin 15) : upTo (n.val + 1) = upTo n.val ∪ blk n := by
  ext t
  rw [Finset.mem_union, mem_blk]
  unfold upTo
  simp only [Finset.mem_filter, Finset.mem_univ, true_and]
  omega

theorem upTo_disj (n : Fin 15) : Disjoint (upTo n.val) (blk n) := by
  rw [Finset.disjoint_left]
  intro t ht hb
  rw [mem_blk] at hb
  unfold upTo at ht
  simp only [Finset.mem_filter, Finset.mem_univ, true_and] at ht
  have := n.isLt
  omega

theorem upTo_all : upTo 15 = Finset.univ := by
  ext t
  unfold upTo
  simp only [Finset.mem_filter, Finset.mem_univ, true_and, iff_true]
  omega

end Cert.KernelIdeal.Hand

end
-- ==== Proof.INib.lean ====
/- The two four-bit codes of a byte: masking and shifting four bytes joined in a word is masking and shifting each byte. -/
module

public import proofs.«01_k».proof.KernelIdeal
public import Idealize.ShloMosaic.Lib.BitcastFour
public import Idealize.ShloMosaic.Lib.Pointwise

@[expose] public section

namespace Cert.KernelIdeal.Hand

open Cert.KernelIdeal Idealize.ShloMosaic

theorem mask_bit (q : Nat) (hq : q < 32) : (252645135#32 : BitVec 32).getLsbD q = decide (q % 8 < 4) := by
  interval_cases q <;> rfl
theorem mask8_bit (q : Nat) (hq : q < 8) : (15#8 : BitVec 8).getLsbD q = decide (q < 4) := by
  interval_cases q <;> rfl

/-- The row of an index of a block of bytes. -/
theorem row2 {n c : Nat} (j : (⟨2, ![n, c]⟩ : Shape).Idx) : (⟨2, ![n, c]⟩ : Shape).row j = (j 0).val := rfl

/-- Going from a byte to its word and back to one of the word's bytes of the same row is going nowhere. -/
theorem src_src (h : S2176x128.Bitcasts 8 S544x128 32) (h' : S544x128.Bitcasts 32 S2176x128 8) (j : S2176x128.Idx) (p q : Nat) (hp) (hq)
    (he : q = (j 0).val) :
    h.srcIdx (h'.srcIdx j p hp) q hq = j := by
  funext a; apply Fin.ext
  match a with
  | ⟨0, _⟩ => exact (h.srcIdx_row _ _ _ ⟨0, Nat.zero_lt_two⟩ rfl).trans he
  | ⟨1, _⟩ =>
    refine (h.srcIdx_other _ _ _ ⟨1, Nat.one_lt_two⟩ (by show ¬ 1 + 2 = 2; omega)).trans ?_
    exact (h'.srcIdx_other _ _ _ ⟨1, Nat.one_lt_two⟩ (by show ¬ 1 + 2 = 2; omega))

theorem nib_lo (x : S2176x128.Idx → BitVec 8) (h : S2176x128.Bitcasts 8 S544x128 32) (h' : S544x128.Bitcasts 32 S2176x128 8) (j : S2176x128.Idx) :
    bitcast S2176x128 8 (andi (bitcast S544x128 32 x h) (broadcast S544x128 252645135#32)) h' j = x j &&& 15#8 := by
  apply BitVec.eq_of_getLsbD_eq
  intro i hi
  rw [bitcast_getLsbD _ h' j i hi (by decide)]
  have hq : (S2176x128.row j * 8 + i) % 32 < 32 := Nat.mod_lt _ (by decide)
  show (IntOp.andi (bitcast S544x128 32 x h (h'.srcIdx j ((S2176x128.row j * 8 + i) / 32) _)) 252645135#32).getLsbD _ = _
  rw [IntOp.andi, BitVec.getLsbD_and, bitcast_8_32_getLsbD x h _ _ hq, mask_bit _ hq, BitVec.getLsbD_and, mask8_bit i hi]
  have e0 : S2176x128.row j = (j 0).val := rfl
  rw [src_src h h' j _ _ _ _ (by
    rw [show S544x128.row (h'.srcIdx j ((S2176x128.row j * 8 + i) / 32) _) = (S2176x128.row j * 8 + i) / 32 from h'.srcIdx_row _ _ _ ⟨0, Nat.zero_lt_two⟩ rfl]
    omega)]
  rw [show (S2176x128.row j * 8 + i) % 32 % 8 = i by omega]

theorem nib_hi (x : S2176x128.Idx → BitVec 8) (h : S2176x128.Bitcasts 8 S544x128 32) (h' : S544x128.Bitcasts 32 S2176x128 8) (j : S2176x128.Idx) :
    bitcast S2176x128 8 (andi (shrui (bitcast S544x128 32 x h) (broadcast S544x128 4#32)) (broadcast S544x128 252645135#32)) h' j = x j >>> 4 := by
  apply BitVec.eq_of_getLsbD_eq
  intro i hi
  rw [bitcast_getLsbD _ h' j i hi (by decide)]
  have hq : (S2176x128.row j * 8 + i) % 32 < 32 := Nat.mod_lt _ (by decide)
  show (IntOp.andi (IntOp.shrui .vector (bitcast S544x128 32 x h (h'.srcIdx j ((S2176x128.row j * 8 + i) / 32) _)) 4#32) 252645135#32).getLsbD _ = _
  rw [IntOp.andi, BitVec.getLsbD_and, IntOp.shrui, if_pos (by decide), mask_bit _ hq, BitVec.getLsbD_ushiftRight]
  have e0 : S2176x128.row j = (j 0).val := rfl
  rw [BitVec.ushiftRight_eq', BitVec.getLsbD_ushiftRight, show (4#32 : BitVec 32).toNat = 4 from rfl]
  rw [show (S2176x128.row j * 8 + i) % 32 % 8 = i by omega]
  by_cases h4 : i < 4
  · have hq' : 4 + (S2176x128.row j * 8 + i) % 32 < 32 := by omega
    rw [bitcast_8_32_getLsbD x h _ _ hq', src_src h h' j _ _ _ _ (by
      rw [show S544x128.row (h'.srcIdx j ((S2176x128.row j * 8 + i) / 32) _) = (S2176x128.row j * 8 + i) / 32 from h'.srcIdx_row _ _ _ ⟨0, Nat.zero_lt_two⟩ rfl]
      omega)]
    rw [show (4 + (S2176x128.row j * 8 + i) % 32) % 8 = 4 + i by omega]
    simp [h4]
  · rw [BitVec.getLsbD_of_ge _ (4 + i) (by omega)]; simp [h4]

theorem lo32 : ∀ b : BitVec 8, (b.setWidth 32 &&& 15#32).toInt = (b &&& 15#8).toInt := by decide
theorem hi32 : ∀ b : BitVec 8, ((b.setWidth 32).sshiftRight' 4#32).toInt = (b >>> 4).toInt := by decide

end Cert.KernelIdeal.Hand

end
-- ==== Proof.IPay.lean ====
/- What the kernel's values are at one index: each is read off the arrays it is computed from, in the terms of the model. -/
module

public import proofs.«01_k».proof.Proof.IOpenA
public import proofs.«01_k».proof.Proof.Model
public import proofs.«01_k».proof.Proof.INib

@[expose] public section

set_option maxRecDepth 16384

noncomputable section

namespace Cert.KernelIdeal.Hand

open Cert.KernelIdeal.Gen
open Idealize.ShloMosaic Idealize.ShloMosaic.TcCoe
open Idealize.SL.Sem

/-- The table that puts the even channels first. -/
def IsPerm (x1 : Vec Ideal S256x256 .bf16) : Prop := ∀ r c : Fin 256, x1 (ix2 r c) = if r = chOf c then (1 : EReal) else 0
/-- The table that repeats a group's number over its sixteen bytes. -/
def IsExpand (x2 : Vec Ideal S8x128 .bf16) : Prop := ∀ (g : Fin 8) (c : Fin 128), x2 (ix2 g c) = if c.val / 16 = g.val then (1 : EReal) else 0
/-- The table that joins two codes. -/
def IsPack (x3 : Vec Ideal S256x128 .bf16) : Prop :=
  ∀ (r : Fin 256) (c : Fin 128), x3 (ix2 r c) = if c.val = r.val / 2 then (if r.val % 2 = 0 then (1 : EReal) else ((16 : ℝ) : EReal)) else 0

theorem sum_perm {x1 : Vec Ideal S256x256 .bf16} (h : IsPerm x1) (f : Fin 256 → EReal) (c : Fin 256) :
    ∑ x, f x * x1 (ix2 x c) = f (chOf c) := by
  simp only [h _ _]
  exact sum_mul_ite f (chOf c) _ (fun _ => Iff.rfl) 0 rfl

theorem sum_perm_row {x1 : Vec Ideal S256x256 .bf16} (h : IsPerm x1) (f : Fin 256 → EReal) (c : Fin 256) :
    ∑ x, f x * x1 (ix2 c x) = f (placeOf c) := by
  simp only [h _ _]
  refine sum_mul_ite f (placeOf c) _ (fun k => ⟨fun e => ?_, fun e => ?_⟩) 0 rfl
  · rw [e, place_chOf]
  · rw [e, chOf_place]

theorem sum_expand {x2 : Vec Ideal S8x128 .bf16} (h : IsExpand x2) (f : Fin 8 → EReal) (c : Fin 128) :
    ∑ x, f x * x2 (ix2 x c) = f ⟨c.val / 16, by omega⟩ := by
  simp only [h _ _]
  exact sum_mul_ite f ⟨c.val / 16, by omega⟩ _ (fun k => ⟨fun e => Fin.ext e.symm, fun e => by rw [e]⟩) 0 rfl

theorem sum_pack {x3 : Vec Ideal S256x128 .bf16} (h : IsPack x3) (f : Fin 256 → EReal) (c : Fin 128) :
    ∑ x, f x * x3 (ix2 x c) = f ⟨2 * c.val, by omega⟩ + f ⟨2 * c.val + 1, by omega⟩ * ((16 : ℝ) : EReal) := by
  simp only [h _ _]
  have hne : (⟨2 * c.val, by omega⟩ : Fin 256) ≠ ⟨2 * c.val + 1, by omega⟩ := fun e => by have := congrArg Fin.val e; simp at this
  rw [← Finset.sum_subset (Finset.subset_univ {(⟨2 * c.val, by omega⟩ : Fin 256), ⟨2 * c.val + 1, by omega⟩}), Finset.sum_pair hne]
  · rw [if_pos (by show c.val = 2 * c.val / 2; omega), if_pos (by show 2 * c.val % 2 = 0; omega), mul_one,
      if_pos (by show c.val = (2 * c.val + 1) / 2; omega), if_neg (by show ¬ (2 * c.val + 1) % 2 = 0; omega)]
  · intro x _ hx
    rw [Finset.mem_insert, Finset.mem_singleton, not_or] at hx
    rw [if_neg, mul_zero]
    intro e
    have h1 : x.val ≠ 2 * c.val := fun e' => hx.1 (Fin.ext e')
    have h2 : x.val ≠ 2 * c.val + 1 := fun e' => hx.2 (Fin.ext e')
    omega

/-! ## The carried query, scales and zeros -/

theorem pay2_at (x0 : Vec Ideal S1x1x8x256 .bf16) (g : Fin 8) (c : Fin 256) : k0_pay2 x0 (ix2 g c) = x0 (ix4 0 0 g c) := by
  pointwise [k0_pay2]

theorem pay3_at (x1 : Vec Ideal S256x256 .bf16) (x0 : Vec Ideal S1x1x8x256 .bf16) (h : IsPerm x1) (g : Fin 8) (c : Fin 256) :
    k0_pay3 x1 x0 (ix2 g c) = x0 (ix4 0 0 g (chOf c)) := by
  pointwise [k0_pay3, k0_pay2]
  exact sum_perm h (fun x => x0 (ix4 0 0 g x)) c

theorem pay4_at (x1 : Vec Ideal S256x256 .bf16) (x5 : Vec Ideal S1x1x1020x256 .f32) (h : IsPerm x1) (r : Fin 1020) (p : Fin 2) (c : Fin 256) :
    k0_pay4 x1 x5 (ix3 r p c) = x5 (ix4 0 0 r (chOf c)) := by
  pointwise [k0_pay4]
  rw [ite_self]
  exact sum_perm h (fun x => x5 (ix4 0 0 r x)) c

theorem pay5_at (x1 : Vec Ideal S256x256 .bf16) (x5 : Vec Ideal S1x1x1020x256 .f32) (h : IsPerm x1) (r : Fin 1020) (p : Fin 2) (c : Fin 256) :
    k0_pay5 x1 x5 (ix3 r p c) = x5 (ix4 0 0 r (chOf c)) := by
  pointwise [k0_pay5]
  rw [ite_self]
  exact sum_perm h (fun x => x5 (ix4 0 0 r x)) c

theorem pay38_at (x1 : Vec Ideal S256x256 .bf16) (x11 : Vec Ideal S1x1x128x256 .bf16) (h : IsPerm x1) (r : Fin 128) (c : Fin 256) :
    k0_pay38 x1 x11 (ix2 r c) = x11 (ix4 0 0 r (chOf c)) := by
  pointwise [k0_pay38]
  exact sum_perm h (fun x => x11 (ix4 0 0 r x)) c

theorem pay32_at (x1 : Vec Ideal S256x256 .bf16) (v : FVec Ideal S1x256 .bf16) (h : IsPerm x1) (c : Fin 256) :
    k0_pay32 x1 v (ix2 0 c) = v (ix2 0 (chOf c)) := by
  pointwise [k0_pay32]
  exact sum_perm h (fun x => v (ix2 0 x)) c

/-! ## The new token's key -/

theorem tail32_at (x10 : Vec Ideal S1x1x128x256 .bf16) (r : Fin 32) (c : Fin 256) :
    tail32 x10 (ix4 0 0 r c) = x10 (ix4 0 0 ⟨96 + r.val, by omega⟩ c) := by
  pointwise [tail32]

theorem select_first (r : Fin 32) (a b : EReal) :
    Scalar.select (IntOp.cmpi CmpIPredicate.eq (BitVec.ofNat 32 r.val) 0#32) a b = if r.val = 0 then a else b := by
  have h : ∀ r : Fin 32, IntOp.cmpi CmpIPredicate.eq (BitVec.ofNat 32 r.val) 0#32 = BitVec.ofBool (decide (r.val = 0)) := by decide
  rw [h, WordCmp.select_ofBool]
  by_cases e : r.val = 0 <;> simp [e]

/-- The kernel's order of the 32 newest keys: the new one first. -/
def turn : Fin 32 ≃ Fin 32 := Equiv.addRight 31

theorem kgrp_turn (kn : Fin 256 → EReal) (kt : Fin 128 → Fin 256 → EReal) (ch : Fin 256) (r : Fin 32) :
    kgrp kn kt ch (turn r) = if r.val = 0 then kn ch else kt ⟨96 + r.val, by omega⟩ ch := by
  have hv : (turn r).val = (r.val + 31) % 32 := rfl
  unfold kgrp
  by_cases e : r.val = 0
  · rw [if_pos e, dif_neg (by rw [hv, e]; decide)]
  · rw [if_neg e, dif_pos (by rw [hv]; omega)]
    congr 1; apply Fin.ext; show 97 + (turn r).val = 96 + r.val; rw [hv]; omega

theorem fold_turn (op : EReal → EReal → EReal) [Std.Commutative op] [Std.Associative op] (z : EReal) (kn : Fin 256 → EReal)
    (kt : Fin 128 → Fin 256 → EReal) (ch : Fin 256) :
    Finset.univ.fold op z (kgrp kn kt ch)
      = Finset.univ.fold op z (fun r : Fin 32 => if r.val = 0 then kn ch else kt ⟨96 + r.val, by omega⟩ ch) := by
  conv_lhs => rw [← Finset.map_univ_equiv turn, Finset.fold_map]
  have e : (fun r => kgrp kn kt ch (turn r)) = fun r : Fin 32 => if r.val = 0 then kn ch else kt ⟨96 + r.val, by omega⟩ ch :=
    funext (kgrp_turn kn kt ch)
  exact congrArg (fun f => Finset.univ.fold op z f) e

section newkey
variable (x10 : Vec Ideal S1x1x128x256 .bf16) (x12 : Vec Ideal S1x1x1x256 .bf16) (kn : Fin 256 → EReal) (kt : Fin 128 → Fin 256 → EReal)
  (hn : ∀ c, x12 (ix4 0 0 0 c) = kn c) (ht : ∀ r c, x10 (ix4 0 0 r c) = kt r c)
include hn ht

theorem pay8_at (c : Fin 256) : k0_pay8 x12 (tail32 x10) (ix2 0 c) = klo kn kt c := by
  pointwise [k0_pay8, k0_pay7, k0_pay6]
  simp only [select_first, tail32_at, hn, ht, fpinf]
  exact (fold_turn min ⊤ kn kt c).symm

theorem pay9_at (c : Fin 256) : k0_pay9 x12 (tail32 x10) (ix2 0 c) = qscale (klo kn kt c) (khi kn kt c) := by
  have h8 := pay8_at x10 x12 kn kt hn ht c
  pointwise [k0_pay9, k0_pay7, k0_pay6]
  rw [h8]
  simp only [select_first, tail32_at, hn, ht, fninf]
  rw [← fold_turn max ⊥ kn kt c]
  rfl

theorem pay10_at (c : Fin 256) : k0_pay10 x12 (tail32 x10) (ix2 0 c) = kcd kn kt c := by
  have h8 := pay8_at x10 x12 kn kt hn ht c
  have h9 := pay9_at x10 x12 kn kt hn ht c
  pointwise [k0_pay10, k0_pay6]
  rw [h8, h9, hn]
  rfl

theorem newK_at (c : Fin 256) : newK x10 x12 (ix2 0 c) = knd kn kt c := by
  have h8 := pay8_at x10 x12 kn kt hn ht c
  have h9 := pay9_at x10 x12 kn kt hn ht c
  have h10 := pay10_at x10 x12 kn kt hn ht c
  pointwise [newK, k0_pay14]
  rw [h8, h9, h10]
  rfl

theorem pay11_at (c : Fin 256) : k0_pay11 x12 (tail32 x10) (ix4 0 0 0 c) = qscale (klo kn kt c) (khi kn kt c) := by
  pointwise [k0_pay11]
  exact pay9_at x10 x12 kn kt hn ht c

theorem pay12_at (c : Fin 256) : k0_pay12 x12 (tail32 x10) (ix4 0 0 0 c) = klo kn kt c := by
  pointwise [k0_pay12]
  exact pay8_at x10 x12 kn kt hn ht c

theorem pay13_at (x3 : Vec Ideal S256x128 .bf16) (h3 : IsPack x3) (c : Fin 128) :
    k0_pay13 (k0_pay10 x12 (tail32 x10)) x3 (ix4 0 0 0 c) = packb (kcd kn kt) c := by
  have h10 := pay10_at x10 x12 kn kt hn ht
  generalize k0_pay10 x12 (tail32 x10) = a at h10
  pointwise [k0_pay13]
  simp only [h10]
  rw [sum_pack h3 (kcd kn kt) c]
  exact packb_eq _ (fun _ => isCode_qcode _ _ _) c

end newkey

/-! ## The new token's value -/

theorem pay21_at (r : Fin 8) (c : Fin 256) :
    k0_pay21 chan 32#32 k0_pay19 k0_pay20 1#1 (ix2 r c) = BitVec.ofBool (decide (r = gof c)) := by
  pointwise [k0_pay21, k0_pay19, k0_pay20, chan]
  revert r c
  decide +kernel

theorem sum_sel {n : ℕ} (f : Fin n → EReal) (j : Fin n) :
    (∑ x, Scalar.select (BitVec.ofBool (decide (x = j))) (f x) 0) = f j := by
  simp only [WordCmp.select_ofBool, decide_eq_true_eq]
  rw [Finset.sum_ite_eq' Finset.univ j f, if_pos (Finset.mem_univ j)]

theorem pay22_at (a : FVec Ideal S8x1 .f32) (c : Fin 256) :
    k0_pay22 a chan 32#32 k0_pay19 k0_pay20 1#1 (ix2 0 c) = a (ix2 (gof c) 0) := by
  pointwise [k0_pay22]
  simp only [pay21_at]
  exact sum_sel (fun x => a (ix2 x 0)) (gof c)

theorem pay23_at (a b : FVec Ideal S8x1 .f32) (c : Fin 256) :
    k0_pay23 a b chan 32#32 k0_pay19 k0_pay20 1#1 (ix2 0 c) = qscale (a (ix2 (gof c) 0)) (b (ix2 (gof c) 0)) := by
  have h22 := pay22_at a c
  pointwise [k0_pay23]
  rw [h22]
  simp only [pay21_at]
  rw [sum_sel (fun x => b (ix2 x 0)) (gof c)]
  rfl

theorem pay30_at (x3 : Vec Ideal S256x128 .bf16) (h3 : IsPack x3) (a : FVec Ideal S1x256 .f32) (f : Fin 256 → EReal)
    (hf : ∀ c, IsCode (f c)) (ha : ∀ c, a (ix2 0 c) = f c) (c : Fin 128) : k0_pay30 x3 a (ix4 0 0 0 c) = packb f c := by
  pointwise [k0_pay30]
  simp only [ha]
  rw [sum_pack h3 f c]
  exact packb_eq _ hf c

section newvalue
variable (x13 : Vec Ideal S1x1x1x256 .bf16) (x14 : Vec Ideal S1x1x8x32 .bf16) (vn : Fin 256 → EReal)
  (hn : ∀ c, x13 (ix4 0 0 0 c) = vn c) (hg : ∀ g r, x14 (ix4 0 0 g r) = vgrp vn g r)

include hg in
theorem pay17_at (g : Fin 8) : k0_pay17 x14 (ix2 g 0) = vlo vn g := by
  pointwise [k0_pay17, k0_pay16]
  simp only [hg, fpinf]
  rfl

include hg in
theorem pay18_at (g : Fin 8) : k0_pay18 x14 (ix2 g 0) = vhi vn g := by
  pointwise [k0_pay18, k0_pay16]
  simp only [hg, fninf]
  rfl

include hn hg in
theorem vCode_at (c : Fin 256) : vCode x13 x14 (ix2 0 c) = vcd vn c := by
  have h22 := pay22_at (k0_pay17 x14) c
  have h23 := pay23_at (k0_pay17 x14) (k0_pay18 x14) c
  rw [pay17_at x14 vn hg] at h22
  rw [pay17_at x14 vn hg, pay18_at x14 vn hg] at h23
  pointwise [vCode, k0_pay24, k0_pay15]
  rw [h22, h23, hn]
  rfl

include hn hg in
theorem newV_at (c : Fin 256) : newV x13 x14 (ix2 0 c) = vnd vn c := by
  have h22 := pay22_at (k0_pay17 x14) c
  have h23 := pay23_at (k0_pay17 x14) (k0_pay18 x14) c
  have hc := vCode_at x13 x14 vn hn hg c
  rw [pay17_at x14 vn hg] at h22
  rw [pay17_at x14 vn hg, pay18_at x14 vn hg] at h23
  pointwise [newV, k0_pay31]
  rw [h22, h23, hc]
  rfl

theorem pay25_at (r c : Fin 8) : k0_pay25 (ix2 r c) = BitVec.ofBool (decide (r = c)) := by
  pointwise [k0_pay25]
  revert r c
  decide

include hg in
theorem pay28_at (g : Fin 8) :
    k0_pay28 k0_pay25 (k0_pay26 (k0_pay17 x14) (k0_pay18 x14)) k0_pay27 (ix4 0 0 0 g) = qscale (vlo vn g) (vhi vn g) := by
  pointwise [k0_pay28, k0_pay26, k0_pay27]
  simp only [pay25_at, pay17_at x14 vn hg, pay18_at x14 vn hg]
  exact sum_sel (fun g => qscale (vlo vn g) (vhi vn g)) g

include hg in
theorem pay29_at (g : Fin 8) : k0_pay29 (k0_pay17 x14) k0_pay25 (ix4 0 0 0 g) = vlo vn g := by
  pointwise [k0_pay29]
  simp only [pay25_at, pay17_at x14 vn hg]
  exact sum_sel (fun g => vlo vn g) g

end newvalue

end Cert.KernelIdeal.Hand

end
-- ==== Proof.IStep.lean ====
/- What the first point of a head leaves in the running maximum, sum and values, and what every block adds. -/
module

public import proofs.«01_k».proof.Proof.IPay

@[expose] public section

set_option maxRecDepth 16384

noncomputable section

namespace Cert.KernelIdeal.Hand

open Cert.KernelIdeal.Gen
open Idealize.ShloMosaic Idealize.ShloMosaic.TcCoe
open Idealize.SL.Sem

/-! ## The tail and the new token -/

theorem key_tail (H : Head) (x : Fin 128) (ch : Fin 256) : H.key (tailTok x) ch = H.kt x ch := by
  unfold Head.key
  have hv : (tailTok x).val = 32640 + x.val := rfl
  rw [dif_neg (by omega), dif_pos (by omega)]
  exact congrArg (fun i => H.kt i ch) (Fin.ext (by show (tailTok x).val - 32640 = x.val; omega))

theorem key_new (H : Head) (ch : Fin 256) : H.key newTok ch = knd H.kn H.kt ch := by
  unfold Head.key
  have hv : newTok.val = 32768 := rfl
  rw [dif_neg (by omega), dif_neg (by omega)]

theorem val_tail (H : Head) (x : Fin 128) (ch : Fin 256) : H.val (tailTok x) ch = H.vt x ch := by
  unfold Head.val
  have hv : (tailTok x).val = 32640 + x.val := rfl
  rw [dif_neg (by omega), dif_pos (by omega)]
  exact congrArg (fun i => H.vt i ch) (Fin.ext (by show (tailTok x).val - 32640 = x.val; omega))

theorem val_new (H : Head) (ch : Fin 256) : H.val newTok ch = vnd H.vn ch := by
  unfold Head.val
  have hv : newTok.val = 32768 := rfl
  rw [dif_neg (by omega), dif_neg (by omega)]

theorem key_blk (H : Head) (n : Fin 15) (x : Fin 2176) (ch : Fin 256) :
    H.key (blkTok n x) ch = H.kCache ⟨2176 * n.val + x.val, by omega⟩ ch := by
  unfold Head.key
  have hv : (blkTok n x).val = 2176 * n.val + x.val := rfl
  rw [dif_pos (by omega)]
  rfl

theorem val_blk (H : Head) (n : Fin 15) (x : Fin 2176) (ch : Fin 256) :
    H.val (blkTok n x) ch = H.vCache ⟨2176 * n.val + x.val, by omega⟩ ch := by
  unfold Head.val
  have hv : (blkTok n x).val = 2176 * n.val + x.val := rfl
  rw [dif_pos (by omega)]
  rfl

theorem fold_max_sup {n : ℕ} (f : Fin n → EReal) : Finset.univ.fold max ⊥ f = Finset.univ.sup f := rfl

theorem smax_T0 (S : Fin 32769 → EReal) :
    smax S T0 = max (Finset.univ.fold max ⊥ fun x => S (tailTok x)) (S newTok) := by
  unfold T0
  rw [smax_union]
  unfold smax
  rw [Finset.sup_map, Finset.sup_singleton]
  rfl

theorem sum_T0 (f : Fin 32769 → EReal) : ∑ t ∈ T0, f t = ∑ x, f (tailTok x) + f newTok := by
  unfold T0
  rw [Finset.sum_union T0_disj, Finset.sum_map, Finset.sum_singleton]

theorem smax_blk (S : Fin 32769 → EReal) (n : Fin 15) : smax S (blk n) = Finset.univ.fold max ⊥ fun x => S (blkTok n x) := by
  unfold smax blk
  rw [Finset.sup_map]
  rfl

theorem sum_blk (f : Fin 32769 → EReal) (n : Fin 15) : ∑ t ∈ blk n, f t = ∑ x, f (blkTok n x) := by
  unfold blk
  rw [Finset.sum_map]

theorem tail_in (c : Fin 128) : IntOp.cmpi CmpIPredicate.sle (IntOp.addi (BitVec.ofNat 32 c.val) 32640#32) 32768#32 = BitVec.ofBool true := by
  revert c; decide

section first
variable (H : Head) (x0 : Vec Ideal S1x1x8x256 .bf16) (x1 : Vec Ideal S256x256 .bf16) (x10 x11 : Vec Ideal S1x1x128x256 .bf16)
  (x12 x13 : Vec Ideal S1x1x1x256 .bf16) (x14 : Vec Ideal S1x1x8x32 .bf16)
  (h0 : ∀ g c, x0 (ix4 0 0 g c) = H.q g c) (h1 : IsPerm x1)
  (h10 : ∀ r c, x10 (ix4 0 0 r c) = H.kt r c) (h11 : ∀ r c, x11 (ix4 0 0 r c) = H.vt r c)
  (h12 : ∀ c, x12 (ix4 0 0 0 c) = H.kn c) (h13 : ∀ c, x13 (ix4 0 0 0 c) = H.vn c) (h14 : ∀ g r, x14 (ix4 0 0 g r) = vgrp H.vn g r)

include h0 h10 in
theorem pay34_at (g : Fin 8) (c : Fin 128) : k0_pay34 (k0_pay2 x0) x10 (ix2 g c) = H.score g (tailTok c) := by
  have h2 := pay2_at x0
  generalize k0_pay2 x0 = q at h2
  pointwise [k0_pay34]
  rw [tail_in, WordCmp.select_ofBool, if_pos rfl]
  unfold Head.score
  simp only [h2, h0, h10, key_tail]

include h0 in
theorem pay33_at (k : FVec Ideal S1x256 .bf16) (hk : ∀ c, k (ix2 0 c) = knd H.kn H.kt c) (g : Fin 8) :
    k0_pay33 (k0_pay2 x0) k (ix2 g 0) = H.score g newTok := by
  have h2 := pay2_at x0
  generalize k0_pay2 x0 = q at h2
  pointwise [k0_pay33]
  unfold Head.score
  simp only [h2, h0, hk, key_new]

include h0 h10 in
theorem pay35_at (k : FVec Ideal S1x256 .bf16) (hk : ∀ c, k (ix2 0 c) = knd H.kn H.kt c) (g : Fin 8) :
    k0_pay35 (k0_pay2 x0) k x10 (ix2 g 0) = smax (H.score g) T0 := by
  have h33 := pay33_at H x0 h0 k hk g
  have h34 := pay34_at H x0 x10 h0 h10 g
  pointwise [k0_pay35]
  simp only [h33, h34, fninf]
  exact (smax_T0 _).symm

include h0 h10 in
theorem pay36_at (k : FVec Ideal S1x256 .bf16) (hk : ∀ c, k (ix2 0 c) = knd H.kn H.kt c) (g : Fin 8) (x : Fin 128) :
    k0_pay36 (k0_pay2 x0) k x10 (ix2 g x) = Ideal.exp (H.score g (tailTok x) - smax (H.score g) T0) := by
  have h35 := pay35_at H x0 x10 h0 h10 k hk g
  have h34 := pay34_at H x0 x10 h0 h10 g x
  pointwise [k0_pay36]
  rw [h35, h34]

include h0 h10 in
theorem pay37_at (k : FVec Ideal S1x256 .bf16) (hk : ∀ c, k (ix2 0 c) = knd H.kn H.kt c) (g : Fin 8) :
    k0_pay37 (k0_pay2 x0) k x10 (ix2 g 0) = Ideal.exp (H.score g newTok - smax (H.score g) T0) := by
  have h35 := pay35_at H x0 x10 h0 h10 k hk g
  have h33 := pay33_at H x0 h0 k hk g
  pointwise [k0_pay37]
  rw [h35, h33]

include h0 h10 h12 in
theorem m0_at (g : Fin 8) (c : Fin 128) : m0 x0 x10 x12 (ix2 g c) = smax (H.score g) (upTo 0) := by
  have h35 := pay35_at H x0 x10 h0 h10 (newK x10 x12) (newK_at x10 x12 H.kn H.kt h12 h10) g
  pointwise [m0, k0_pay40, k0_pay39]
  rw [h35, upTo_zero]

include h0 h10 h12 in
theorem l0_at (g : Fin 8) (c : Fin 128) : l0 x0 x10 x12 (ix2 g c) = ssum (H.score g) (upTo 0) := by
  have hk := newK_at x10 x12 H.kn H.kt h12 h10
  have h36 := pay36_at H x0 x10 h0 h10 (newK x10 x12) hk g
  have h37 := pay37_at H x0 x10 h0 h10 (newK x10 x12) hk g
  pointwise [l0, k0_pay41]
  simp only [h36, h37]
  rw [upTo_zero]
  unfold ssum
  rw [sum_T0]

end first

/-- The values' sum over the tail: the probabilities are split into three parts of which the last two are nothing. -/
theorem pay42_at (v : FVec Ideal S1x256 .f32) (p : FVec Ideal S8x128 .f32) (pn : FVec Ideal S8x1 .f32) (xt : FVec Ideal S128x256 .bf16)
    (hp : ∀ g x, p (ix2 g x) - p (ix2 g x) = 0) (g : Fin 8) (c : Fin 256) :
    k0_pay42 v p pn xt (ix2 g c) = ∑ x, p (ix2 g x) * xt (ix2 x c) + pn (ix2 g 0) * v (ix2 0 c) := by
  have a1 : ¬ (16 + g.val < 8) := by omega
  have a2 : ¬ (16 + g.val - 8 < 8) := by omega
  pointwise [k0_pay42]
  simp only [a1, a2, dif_neg, not_false_eq_true, hp, sub_zero, zero_mul, Finset.sum_const_zero, add_zero, dite_eq_ite, ite_self]

section first
variable (H : Head) (x0 : Vec Ideal S1x1x8x256 .bf16) (x1 : Vec Ideal S256x256 .bf16) (x10 x11 : Vec Ideal S1x1x128x256 .bf16)
  (x12 x13 : Vec Ideal S1x1x1x256 .bf16) (x14 : Vec Ideal S1x1x8x32 .bf16)
  (h0 : ∀ g c, x0 (ix4 0 0 g c) = H.q g c) (h1 : IsPerm x1)
  (h10 : ∀ r c, x10 (ix4 0 0 r c) = H.kt r c) (h11 : ∀ r c, x11 (ix4 0 0 r c) = H.vt r c)
  (h12 : ∀ c, x12 (ix4 0 0 0 c) = H.kn c) (h13 : ∀ c, x13 (ix4 0 0 0 c) = H.vn c) (h14 : ∀ g r, x14 (ix4 0 0 g r) = vgrp H.vn g r)
include h0 h1 h10 h11 h12 h13 h14

theorem a0_at (g : Fin 8) (c : Fin 256) :
    a0 x0 x1 x10 x11 x12 x13 x14 (ix2 g c) = sval (H.score g) (fun t => H.val t (chOf c)) (upTo 0) := by
  have hk := newK_at x10 x12 H.kn H.kt h12 h10
  have h36 := pay36_at H x0 x10 h0 h10 (newK x10 x12) hk
  have h37 := pay37_at H x0 x10 h0 h10 (newK x10 x12) hk g
  have hv := pay32_at x1 (newV x13 x14) h1 c
  rw [newV_at x13 x14 H.vn h13 h14] at hv
  have ht : ∀ r, k0_pay38 x1 x11 (ix2 r c) = H.vt r (chOf c) := fun r => by rw [pay38_at x1 x11 h1, h11]
  unfold a0
  rw [pay42_at _ _ _ _ (fun g x => by rw [h36]; exact exp_sub_self (Finset.le_sup (f := H.score g) (by
    unfold T0; exact Finset.mem_union_left _ (Finset.mem_map_of_mem _ (Finset.mem_univ x)))))]
  simp only [h36, h37, hv, ht]
  rw [upTo_zero]
  unfold sval
  rw [sum_T0]
  simp only [val_tail, val_new]

end first

/-! ## A block's keys and values -/

theorem rep_at (w : Vec Ideal S1x2x256 .bf16) (f : Fin 256 → EReal) (hw : ∀ p c, w (ix3 0 p c) = f c) (r : Fin 32) (c : Fin 256) :
    rep w (ix2 r c) = f c := by
  pointwise [rep]
  simp only [hw, ite_self, dite_eq_ite]

theorem nib_chOf_lo (x : Fin 128 → BitVec 8) (c : Fin 256) (h : c.val < 128) : nib x (chOf c) = loN (x ⟨c.val, h⟩) := by
  have hv : (chOf c).val = 2 * c.val := by unfold chOf; rw [dif_pos h]
  unfold nib
  rw [if_pos (by omega)]
  exact congrArg (fun i => loN (x i)) (Fin.ext (by show (chOf c).val / 2 = c.val; omega))

theorem nib_chOf_hi (x : Fin 128 → BitVec 8) (c : Fin 256) (h : ¬ c.val < 128) :
    nib x (chOf c) = hiN (x ⟨c.val - 128, by omega⟩) := by
  have hv : (chOf c).val = 2 * (c.val - 128) + 1 := by unfold chOf; rw [dif_neg h]
  unfold nib
  rw [if_neg (by omega)]
  exact congrArg (fun i => hiN (x i)) (Fin.ext (by show (chOf c).val / 2 = c.val - 128; omega))

theorem gof_lo (c : Fin 256) (h : c.val < 128) : gof (chOf c) = ⟨c.val / 16, by omega⟩ := by
  have hv : (chOf c).val = 2 * c.val := by unfold chOf; rw [dif_pos h]
  exact Fin.ext (by show (chOf c).val / 32 = c.val / 16; omega)

theorem gof_hi (c : Fin 256) (h : ¬ c.val < 128) : gof (chOf c) = ⟨(c.val - 128) / 16, by omega⟩ := by
  have hv : (chOf c).val = 2 * (c.val - 128) + 1 := by unfold chOf; rw [dif_neg h]
  exact Fin.ext (by show (chOf c).val / 32 = (c.val - 128) / 16; omega)

theorem flat_at (x : Vec Ideal S1x1x2176x128 .i8) (t : Fin 2176) (j : Fin 128) :
    shapeCast S2176x128 x shapeCasts_S1x1x2176x128_S2176x128 (ix2 t j) = x (ix4 0 0 t j) := by
  pointwise

theorem pay44_at (x : Vec Ideal S1x1x2176x128 .i8) (t : Fin 2176) (j : Fin 128) : k0_pay44 x (ix2 t j) = loN (x (ix4 0 0 t j)) := by
  rw [← flat_at x t j]
  unfold loN
  rw [← nib_lo (shapeCast S2176x128 x shapeCasts_S1x1x2176x128_S2176x128) bitcasts_S2176x128_w8_S544x128_w32 bitcasts_S544x128_w32_S2176x128_w8]
  rfl

theorem pay45_at (x : Vec Ideal S1x1x2176x128 .i8) (t : Fin 2176) (j : Fin 128) : k0_pay45 x (ix2 t j) = hiN (x (ix4 0 0 t j)) := by
  rw [← flat_at x t j]
  unfold hiN
  rw [← nib_hi (shapeCast S2176x128 x shapeCasts_S1x1x2176x128_S2176x128) bitcasts_S2176x128_w8_S544x128_w32 bitcasts_S544x128_w32_S2176x128_w8]
  rfl

/-- Row `t` of a block's keys. -/
theorem kMat_at (x4 : Vec Ideal S1x1x2176x128 .i8) (s z : Fin 68 → Vec Ideal S1x2x256 .bf16) (fs fz : Fin 68 → Fin 256 → EReal)
    (hs : ∀ r p c, s r (ix3 0 p c) = fs r (chOf c)) (hz : ∀ r p c, z r (ix3 0 p c) = fz r (chOf c)) (t : Fin 2176) (c : Fin 256) :
    kMat x4 s z (ix2 t c) = nib (fun j => x4 (ix4 0 0 t j)) (chOf c) * fs ⟨t.val / 32, by omega⟩ (chOf c) + fz ⟨t.val / 32, by omega⟩ (chOf c) := by
  have htl : t.val / 32 < 68 := by omega
  have hml : t.val % 32 < 32 := by omega
  have e : kMat x4 s z (ix2 t c) = kRow x4 (s ⟨t.val / 32, htl⟩) (z ⟨t.val / 32, htl⟩) ⟨t.val / 32, htl⟩ (ix2 ⟨t.val % 32, hml⟩ c) := by
    refine concatenate_ofFn_apply (t := S2176x256) (s₁ := S32x256) (0 : Fin 2) (fun r : Fin 68 => kRow x4 (s r) (z r) r) _ rfl 32 rfl (ix2 t c) (⟨t.val / 32, htl⟩ : Fin 68) rfl (ix2 ⟨t.val % 32, hml⟩ c) rfl ?_
    intro b hb
    match b, hb with
    | ⟨0, _⟩, hb => exact absurd rfl hb
    | ⟨1, _⟩, _ => rfl
  rw [e]
  have h1 := rep_at (s ⟨t.val / 32, by omega⟩) (fun c => fs ⟨t.val / 32, by omega⟩ (chOf c)) (hs _) ⟨t.val % 32, by omega⟩ c
  have h2 := rep_at (z ⟨t.val / 32, by omega⟩) (fun c => fz ⟨t.val / 32, by omega⟩ (chOf c)) (hz _) ⟨t.val % 32, by omega⟩ c
  have et : ∀ h, (⟨32 * (t.val / 32) + t.val % 32, h⟩ : Fin 2176) = t := fun h => Fin.ext (Nat.div_add_mod t.val 32)
  pointwise [kRow]
  simp only [et]
  rw [h1, h2]
  congr 2
  by_cases hc : c.val < 128
  · rw [dif_pos hc, pay44_at, nib_chOf_lo _ c hc]
  · rw [dif_neg hc, pay45_at, nib_chOf_hi _ c hc]

theorem pay155_at (x7 : Vec Ideal S1x1x2176x128 .i8) (x2 : Vec Ideal S8x128 .bf16) (x8 x9 : Vec Ideal S1x1x2176x8 .f32) (h2 : IsExpand x2)
    (t : Fin 2176) (c : Fin 256) :
    k0_pay155 x7 x2 x8 x9 (ix2 t c)
      = nib (fun j => x7 (ix4 0 0 t j)) (chOf c) * x8 (ix4 0 0 t (gof (chOf c))) + x9 (ix4 0 0 t (gof (chOf c))) := by
  pointwise [k0_pay155]
  simp only [sum_expand h2 (fun x => x8 (ix4 0 0 t x)), sum_expand h2 (fun x => x9 (ix4 0 0 t x))]
  by_cases hc : c.val < 128
  · rw [dif_pos hc, nib_lo, flat_at, nib_chOf_lo _ c hc, gof_lo c hc]
    rfl
  · rw [dif_neg hc, nib_hi, flat_at, nib_chOf_hi _ c hc, gof_hi c hc]
    rfl

/-! ## A block's step -/

theorem word_at (i : grid0.Coords) (xs : Vec Ideal S1020x2x256 .bf16) (f : Fin 1020 → Fin 256 → EReal)
    (hx : ∀ r p c, xs (ix3 r p c) = f r (chOf c)) (r : Fin 68) (h : 68 * (i 1).val + r.val < 1020) (p : Fin 2) (c : Fin 256) :
    wordAt i xs r (ix3 0 p c) = f ⟨68 * (i 1).val + r.val, h⟩ (chOf c) := by
  rw [← hx _ p c]
  unfold wordAt
  show xs _ = xs _
  congr 1
  funext a
  apply Fin.ext
  have e := k0_off1_eq i r
  match a with
  | ⟨0, _⟩ => show k0_off1 i (BitVec.ofNat 32 r.val) 0 + 1 * 0 = 68 * (i 1).val + r.val; rw [e]; rfl
  | ⟨1, _⟩ => show k0_off1 i (BitVec.ofNat 32 r.val) 1 + 1 * p.val = p.val; rw [e]; show 0 + 1 * p.val = p.val; omega
  | ⟨2, _⟩ => show k0_off1 i (BitVec.ofNat 32 r.val) 2 + 1 * c.val = c.val; rw [e]; show 0 + 1 * c.val = c.val; omega

section block
variable (H : Head) (n : Fin 15) (x4 x7 : Vec Ideal S1x1x2176x128 .i8) (x2 : Vec Ideal S8x128 .bf16) (x8 x9 : Vec Ideal S1x1x2176x8 .f32)
  (q : Vec Ideal S8x256 .bf16) (hq : ∀ g c, q (ix2 g c) = H.q g (chOf c))

/-- The scores of a block. -/
theorem scores_at (s z : Fin 68 → Vec Ideal S1x2x256 .bf16)
    (h4 : ∀ x j, x4 (ix4 0 0 x j) = H.kc ⟨2176 * n.val + x.val, by omega⟩ j)
    (hs : ∀ (r : Fin 68) p c, s r (ix3 0 p c) = H.ks ⟨68 * n.val + r.val, by omega⟩ (chOf c))
    (hz : ∀ (r : Fin 68) p c, z r (ix3 0 p c) = H.kz ⟨68 * n.val + r.val, by omega⟩ (chOf c)) (hq : ∀ g c, q (ix2 g c) = H.q g (chOf c))
    (g : Fin 8) (x : Fin 2176) : scores x4 s z q (ix2 g x) = H.score g (blkTok n x) := by
  have hk : ∀ c, kMat x4 s z (ix2 x c) = H.key (blkTok n x) (chOf c) := by
    intro c
    rw [kMat_at x4 s z (fun r c => H.ks ⟨68 * n.val + r.val, by omega⟩ c) (fun r c => H.kz ⟨68 * n.val + r.val, by omega⟩ c) hs hz, key_blk]
    unfold Head.kCache
    simp only [h4]
    have e : (⟨68 * n.val + x.val / 32, by omega⟩ : Fin 1020) = ⟨(2176 * n.val + x.val) / 32, by omega⟩ := Fin.ext (by show 68 * n.val + x.val / 32 = (2176 * n.val + x.val) / 32; omega)
    rw [e]
  pointwise [scores]
  unfold Head.score
  simp only [hk, hq]
  rw [sum_chOf fun c => H.q g c * H.key (blkTok n x) c]

variable (S : FVec Ideal S8x2176 .f32) (hS : ∀ g x, S (ix2 g x) = H.score g (blkTok n x))
  (mo lo : Vec Ideal S8x1 .f32) (hm : ∀ g, mo (ix2 g 0) = smax (H.score g) (upTo n.val)) (hl : ∀ g, lo (ix2 g 0) = ssum (H.score g) (upTo n.val))
  (ao : Vec Ideal S8x256 .f32) (ha : ∀ g c, ao (ix2 g c) = sval (H.score g) (fun t => H.val t (chOf c)) (upTo n.val))

include hS hm in
theorem pay156_at (g : Fin 8) : k0_pay156 S mo (ix2 g 0) = smax (H.score g) (upTo (n.val + 1)) := by
  pointwise [k0_pay156]
  simp only [hS, hm, fninf]
  rw [upTo_succ, smax_union, smax_blk]

include hS hm in
theorem pay157_at (g : Fin 8) :
    k0_pay157 S mo (ix2 g 0) = Ideal.exp (smax (H.score g) (upTo n.val) - smax (H.score g) (upTo (n.val + 1))) := by
  have h := pay156_at H n S hS mo hm g
  pointwise [k0_pay157]
  rw [h, hm]

include hS hm in
theorem pay158_at (g : Fin 8) (x : Fin 2176) :
    k0_pay158 S mo (ix2 g x) = Ideal.exp (H.score g (blkTok n x) - smax (H.score g) (upTo (n.val + 1))) := by
  have h := pay156_at H n S hS mo hm g
  pointwise [k0_pay158]
  rw [h, hS]

include hS hm hl in
theorem pay159_at (g : Fin 8) : k0_pay159 (k0_pay157 S mo) (k0_pay158 S mo) lo (ix2 g 0) = ssum (H.score g) (upTo (n.val + 1)) := by
  have h7 := pay157_at H n S hS mo hm g
  have h8 := pay158_at H n S hS mo hm g
  pointwise [k0_pay159]
  simp only [h7, h8, hl]
  rw [upTo_succ, ssum_union _ _ _ (upTo_disj n), sum_blk]

include hS hm in
theorem pay161_at (g : Fin 8) (c : Fin 128) : k0_pay161 (k0_pay156 S mo) (ix2 g c) = smax (H.score g) (upTo (n.val + 1)) := by
  have h := pay156_at H n S hS mo hm g
  pointwise [k0_pay161]
  exact h

include hS hm hl in
theorem pay162_at (g : Fin 8) (c : Fin 128) :
    k0_pay162 (k0_pay157 S mo) (k0_pay158 S mo) lo (ix2 g c) = ssum (H.score g) (upTo (n.val + 1)) := by
  have h := pay159_at H n S hS mo lo hm hl g
  pointwise [k0_pay162]
  exact h

end block

/-- The step of the values' sum: the probabilities are split into three parts of which the last two are nothing. -/
theorem pay160_sum (v : FVec Ideal S2176x256 .bf16) (a : FVec Ideal S8x1 .f32) (p : FVec Ideal S8x2176 .f32) (acc : Vec Ideal S8x256 .f32)
    (hp : ∀ g x, p (ix2 g x) - p (ix2 g x) = 0) (g : Fin 8) (c : Fin 256) :
    k0_pay160 v a p acc (ix2 g c) = a (ix2 g 0) * acc (ix2 g c) + ∑ x, p (ix2 g x) * v (ix2 x c) := by
  have a1 : ¬ (16 + g.val < 8) := by omega
  have a2 : ¬ (16 + g.val - 8 < 8) := by omega
  pointwise [k0_pay160]
  simp only [a1, a2, dif_neg, not_false_eq_true, hp, sub_zero, zero_mul, Finset.sum_const_zero, add_zero, dite_eq_ite, ite_self]

section block
variable (H : Head) (n : Fin 15) (x7 : Vec Ideal S1x1x2176x128 .i8) (x2 : Vec Ideal S8x128 .bf16) (x8 x9 : Vec Ideal S1x1x2176x8 .f32)
  (h2 : IsExpand x2) (h7 : ∀ x j, x7 (ix4 0 0 x j) = H.vc ⟨2176 * n.val + x.val, by omega⟩ j)
  (h8 : ∀ x g, x8 (ix4 0 0 x g) = H.vs ⟨2176 * n.val + x.val, by omega⟩ g) (h9 : ∀ x g, x9 (ix4 0 0 x g) = H.vz ⟨2176 * n.val + x.val, by omega⟩ g)
  (S : FVec Ideal S8x2176 .f32) (hS : ∀ g x, S (ix2 g x) = H.score g (blkTok n x))
  (mo : Vec Ideal S8x1 .f32) (hm : ∀ g, mo (ix2 g 0) = smax (H.score g) (upTo n.val))
  (ao : Vec Ideal S8x256 .f32) (ha : ∀ g c, ao (ix2 g c) = sval (H.score g) (fun t => H.val t (chOf c)) (upTo n.val))
include h2 h7 h8 h9 hS hm ha

theorem pay160_at (g : Fin 8) (c : Fin 256) :
    k0_pay160 (k0_pay155 x7 x2 x8 x9) (k0_pay157 S mo) (k0_pay158 S mo) ao (ix2 g c)
      = sval (H.score g) (fun t => H.val t (chOf c)) (upTo (n.val + 1)) := by
  have e7 := pay157_at H n S hS mo hm g
  have e8 := pay158_at H n S hS mo hm
  have ev : ∀ x, k0_pay155 x7 x2 x8 x9 (ix2 x c) = H.val (blkTok n x) (chOf c) := fun x => by
    rw [pay155_at x7 x2 x8 x9 h2, val_blk]
    unfold Head.vCache
    simp only [h7, h8, h9]
  rw [pay160_sum _ _ _ _ (fun g x => by
    rw [e8]
    exact exp_sub_self (Finset.le_sup (f := H.score g) (by
      rw [upTo_succ]; exact Finset.mem_union_right _ (Finset.mem_map_of_mem _ (Finset.mem_univ x)))))]
  simp only [e7, e8, ev, ha]
  rw [upTo_succ, sval_union _ _ _ _ (upTo_disj n), sum_blk]

theorem pay163_at (g : Fin 8) (c : Fin 256) :
    k0_pay163 (k0_pay155 x7 x2 x8 x9) (k0_pay157 S mo) (k0_pay158 S mo) ao (ix2 g c)
      = sval (H.score g) (fun t => H.val t (chOf c)) (upTo (n.val + 1)) := by
  have h := pay160_at H n x7 x2 x8 x9 h2 h7 h8 h9 S hS mo hm ao ha g c
  unfold k0_pay163
  rw [← h]
  pointwise

end block

/-- The head's result from its last sums. -/
theorem pay1_at (H : Head) (x1 : Vec Ideal S256x256 .bf16) (h1 : IsPerm x1) (l : FVec Ideal S8x1 .f32) (a : FVec Ideal S8x256 .f32)
    (hl : ∀ g, l (ix2 g 0) = ssum (H.score g) Finset.univ)
    (ha : ∀ g c, a (ix2 g c) = sval (H.score g) (fun t => H.val t (chOf c)) Finset.univ) (g : Fin 8) (c : Fin 256) :
    k0_pay1 x1 l a (ix4 0 0 g c) = H.out g c := by
  pointwise [k0_pay1]
  rw [sum_perm_row h1 (fun x => Ideal.div (a (ix2 g x)) (l (ix2 g 0))) c, ha, hl, chOf_place]
  rfl

end Cert.KernelIdeal.Hand

end
-- ==== Proof.LitDef.lean ====
/- What the lines of the three constant tables are to be. -/
module

public import proofs.«01_k».proof.KernelIdeal

@[expose] public section

set_option maxRecDepth 100000

namespace Cert.KernelIdeal.Hand

open Cert.KernelIdeal Idealize.ShloMosaic

/-- A line of the permutation table: a one at the channel's place. -/
noncomputable def permRow (r : Nat) : Bool :=
  (List.range 256).all fun j => lit0t (256 * r + j) == (if j = r / 2 + (r % 2) * 128 then 0x3F80#16 else 0x0000#16)

/-- A line of the expansion table: ones at the group's sixteen packed channels. -/
noncomputable def expandRow (g : Nat) : Bool :=
  (List.range 128).all fun j => lit1t (128 * g + j) == (if j / 16 = g then 0x3F80#16 else 0x0000#16)

/-- A line of the packing table: one for an even channel, sixteen for an odd one, at the channel's byte. -/
noncomputable def packRow (r : Nat) : Bool :=
  (List.range 128).all fun j => lit2t (128 * r + j) == (if j = r / 2 then (if r % 2 = 0 then 0x3F80#16 else 0x4180#16) else 0x0000#16)

end Cert.KernelIdeal.Hand

end
-- ==== Proof.Lit0.lean ====
/- Lines of the permutation table and of the packing table, read off by evaluation. -/
module

public import proofs.«01_k».proof.Proof.LitDef

@[expose] public section

set_option maxRecDepth 100000

namespace Cert.KernelIdeal.Hand

open Cert.KernelIdeal Idealize.ShloMosaic

theorem permRows_0 : (List.range 8).all (fun r => permRow (0 + r)) = true := by decide +kernel
theorem packRows_0 : (List.range 8).all (fun r => packRow (0 + r)) = true := by decide +kernel
theorem permRows_8 : (List.range 8).all (fun r => permRow (8 + r)) = true := by decide +kernel
theorem packRows_8 : (List.range 8).all (fun r => packRow (8 + r)) = true := by decide +kernel
theorem permRows_16 : (List.range 8).all (fun r => permRow (16 + r)) = true := by decide +kernel
theorem packRows_16 : (List.range 8).all (fun r => packRow (16 + r)) = true := by decide +kernel
theorem permRows_24 : (List.range 8).all (fun r => permRow (24 + r)) = true := by decide +kernel
theorem packRows_24 : (List.range 8).all (fun r => packRow (24 + r)) = true := by decide +kernel
theorem permRows_32 : (List.range 8).all (fun r => permRow (32 + r)) = true := by decide +kernel
theorem packRows_32 : (List.range 8).all (fun r => packRow (32 + r)) = true := by decide +kernel
theorem permRows_40 : (List.range 8).all (fun r => permRow (40 + r)) = true := by decide +kernel
theorem packRows_40 : (List.range 8).all (fun r => packRow (40 + r)) = true := by decide +kernel
theorem permRows_48 : (List.range 8).all (fun r => permRow (48 + r)) = true := by decide +kernel
theorem packRows_48 : (List.range 8).all (fun r => packRow (48 + r)) = true := by decide +kernel
theorem permRows_56 : (List.range 8).all (fun r => permRow (56 + r)) = true := by decide +kernel
theorem packRows_56 : (List.range 8).all (fun r => packRow (56 + r)) = true := by decide +kernel

end Cert.KernelIdeal.Hand

end
-- ==== Proof.Lit1.lean ====
/- Lines of the permutation table and of the packing table, read off by evaluation. -/
module

public import proofs.«01_k».proof.Proof.LitDef

@[expose] public section

set_option maxRecDepth 100000

namespace Cert.KernelIdeal.Hand

open Cert.KernelIdeal Idealize.ShloMosaic

theorem permRows_64 : (List.range 8).all (fun r => permRow (64 + r)) = true := by decide +kernel
theorem packRows_64 : (List.range 8).all (fun r => packRow (64 + r)) = true := by decide +kernel
theorem permRows_72 : (List.range 8).all (fun r => permRow (72 + r)) = true := by decide +kernel
theorem packRows_72 : (List.range 8).all (fun r => packRow (72 + r)) = true := by decide +kernel
theorem permRows_80 : (List.range 8).all (fun r => permRow (80 + r)) = true := by decide +kernel
theorem packRows_80 : (List.range 8).all (fun r => packRow (80 + r)) = true := by decide +kernel
theorem permRows_88 : (List.range 8).all (fun r => permRow (88 + r)) = true := by decide +kernel
theorem packRows_88 : (List.range 8).all (fun r => packRow (88 + r)) = true := by decide +kernel
theorem permRows_96 : (List.range 8).all (fun r => permRow (96 + r)) = true := by decide +kernel
theorem packRows_96 : (List.range 8).all (fun r => packRow (96 + r)) = true := by decide +kernel
theorem permRows_104 : (List.range 8).all (fun r => permRow (104 + r)) = true := by decide +kernel
theorem packRows_104 : (List.range 8).all (fun r => packRow (104 + r)) = true := by decide +kernel
theorem permRows_112 : (List.range 8).all (fun r => permRow (112 + r)) = true := by decide +kernel
theorem packRows_112 : (List.range 8).all (fun r => packRow (112 + r)) = true := by decide +kernel
theorem permRows_120 : (List.range 8).all (fun r => permRow (120 + r)) = true := by decide +kernel
theorem packRows_120 : (List.range 8).all (fun r => packRow (120 + r)) = true := by decide +kernel

end Cert.KernelIdeal.Hand

end
-- ==== Proof.Lit2.lean ====
/- Lines of the permutation table and of the packing table, read off by evaluation. -/
module

public import proofs.«01_k».proof.Proof.LitDef

@[expose] public section

set_option maxRecDepth 100000

namespace Cert.KernelIdeal.Hand

open Cert.KernelIdeal Idealize.ShloMosaic

theorem permRows_128 : (List.range 8).all (fun r => permRow (128 + r)) = true := by decide +kernel
theorem packRows_128 : (List.range 8).all (fun r => packRow (128 + r)) = true := by decide +kernel
theorem permRows_136 : (List.range 8).all (fun r => permRow (136 + r)) = true := by decide +kernel
theorem packRows_136 : (List.range 8).all (fun r => packRow (136 + r)) = true := by decide +kernel
theorem permRows_144 : (List.range 8).all (fun r => permRow (144 + r)) = true := by decide +kernel
theorem packRows_144 : (List.range 8).all (fun r => packRow (144 + r)) = true := by decide +kernel
theorem permRows_152 : (List.range 8).all (fun r => permRow (152 + r)) = true := by decide +kernel
theorem packRows_152 : (List.range 8).all (fun r => packRow (152 + r)) = true := by decide +kernel
theorem permRows_160 : (List.range 8).all (fun r => permRow (160 + r)) = true := by decide +kernel
theorem packRows_160 : (List.range 8).all (fun r => packRow (160 + r)) = true := by decide +kernel
theorem permRows_168 : (List.range 8).all (fun r => permRow (168 + r)) = true := by decide +kernel
theorem packRows_168 : (List.range 8).all (fun r => packRow (168 + r)) = true := by decide +kernel
theorem permRows_176 : (List.range 8).all (fun r => permRow (176 + r)) = true := by decide +kernel
theorem packRows_176 : (List.range 8).all (fun r => packRow (176 + r)) = true := by decide +kernel
theorem permRows_184 : (List.range 8).all (fun r => permRow (184 + r)) = true := by decide +kernel
theorem packRows_184 : (List.range 8).all (fun r => packRow (184 + r)) = true := by decide +kernel

end Cert.KernelIdeal.Hand

end
-- ==== Proof.Lit3.lean ====
/- Lines of the permutation table and of the packing table, read off by evaluation. -/
module

public import proofs.«01_k».proof.Proof.LitDef

@[expose] public section

set_option maxRecDepth 100000

namespace Cert.KernelIdeal.Hand

open Cert.KernelIdeal Idealize.ShloMosaic

theorem permRows_192 : (List.range 8).all (fun r => permRow (192 + r)) = true := by decide +kernel
theorem packRows_192 : (List.range 8).all (fun r => packRow (192 + r)) = true := by decide +kernel
theorem permRows_200 : (List.range 8).all (fun r => permRow (200 + r)) = true := by decide +kernel
theorem packRows_200 : (List.range 8).all (fun r => packRow (200 + r)) = true := by decide +kernel
theorem permRows_208 : (List.range 8).all (fun r => permRow (208 + r)) = true := by decide +kernel
theorem packRows_208 : (List.range 8).all (fun r => packRow (208 + r)) = true := by decide +kernel
theorem permRows_216 : (List.range 8).all (fun r => permRow (216 + r)) = true := by decide +kernel
theorem packRows_216 : (List.range 8).all (fun r => packRow (216 + r)) = true := by decide +kernel
theorem permRows_224 : (List.range 8).all (fun r => permRow (224 + r)) = true := by decide +kernel
theorem packRows_224 : (List.range 8).all (fun r => packRow (224 + r)) = true := by decide +kernel
theorem permRows_232 : (List.range 8).all (fun r => permRow (232 + r)) = true := by decide +kernel
theorem packRows_232 : (List.range 8).all (fun r => packRow (232 + r)) = true := by decide +kernel
theorem permRows_240 : (List.range 8).all (fun r => permRow (240 + r)) = true := by decide +kernel
theorem packRows_240 : (List.range 8).all (fun r => packRow (240 + r)) = true := by decide +kernel
theorem permRows_248 : (List.range 8).all (fun r => permRow (248 + r)) = true := by decide +kernel
theorem packRows_248 : (List.range 8).all (fun r => packRow (248 + r)) = true := by decide +kernel

end Cert.KernelIdeal.Hand

end
-- ==== Proof.LitA.lean ====
/- The three constant tables of the kernel, entry by entry: the permutation that puts the even channels first, the
   expansion of a value group's scale over its packed channels, and the packing of two codes into one byte. -/
module

public import proofs.«01_k».proof.Proof.Lit0
public import proofs.«01_k».proof.Proof.Lit1
public import proofs.«01_k».proof.Proof.Lit2
public import proofs.«01_k».proof.Proof.Lit3

@[expose] public section

set_option maxRecDepth 100000

namespace Cert.KernelIdeal.Hand

open Cert.KernelIdeal Idealize.ShloMosaic

theorem expandRows : (List.range 8).all expandRow = true := by decide +kernel

theorem permRow_eq (r : Nat) (hr : r < 256) : permRow r = true := by
  have key : ∀ a, (List.range 8).all (fun r => permRow (a + r)) = true → ∀ r, a ≤ r → r < a + 8 → permRow r = true := by
    intro a h r h1 h2
    have e := List.all_eq_true.1 h (r - a) (List.mem_range.2 (by omega))
    rwa [Nat.add_sub_cancel' h1] at e
  by_cases h0 : r < 8
  · exact key 0 permRows_0 r (by omega) h0
  by_cases h8 : r < 16
  · exact key 8 permRows_8 r (by omega) h8
  by_cases h16 : r < 24
  · exact key 16 permRows_16 r (by omega) h16
  by_cases h24 : r < 32
  · exact key 24 permRows_24 r (by omega) h24
  by_cases h32 : r < 40
  · exact key 32 permRows_32 r (by omega) h32
  by_cases h40 : r < 48
  · exact key 40 permRows_40 r (by omega) h40
  by_cases h48 : r < 56
  · exact key 48 permRows_48 r (by omega) h48
  by_cases h56 : r < 64
  · exact key 56 permRows_56 r (by omega) h56
  by_cases h64 : r < 72
  · exact key 64 permRows_64 r (by omega) h64
  by_cases h72 : r < 80
  · exact key 72 permRows_72 r (by omega) h72
  by_cases h80 : r < 88
  · exact key 80 permRows_80 r (by omega) h80
  by_cases h88 : r < 96
  · exact key 88 permRows_88 r (by omega) h88
  by_cases h96 : r < 104
  · exact key 96 permRows_96 r (by omega) h96
  by_cases h104 : r < 112
  · exact key 104 permRows_104 r (by omega) h104
  by_cases h112 : r < 120
  · exact key 112 permRows_112 r (by omega) h112
  by_cases h120 : r < 128
  · exact key 120 permRows_120 r (by omega) h120
  by_cases h128 : r < 136
  · exact key 128 permRows_128 r (by omega) h128
  by_cases h136 : r < 144
  · exact key 136 permRows_136 r (by omega) h136
  by_cases h144 : r < 152
  · exact key 144 permRows_144 r (by omega) h144
  by_cases h152 : r < 160
  · exact key 152 permRows_152 r (by omega) h152
  by_cases h160 : r < 168
  · exact key 160 permRows_160 r (by omega) h160
  by_cases h168 : r < 176
  · exact key 168 permRows_168 r (by omega) h168
  by_cases h176 : r < 184
  · exact key 176 permRows_176 r (by omega) h176
  by_cases h184 : r < 192
  · exact key 184 permRows_184 r (by omega) h184
  by_cases h192 : r < 200
  · exact key 192 permRows_192 r (by omega) h192
  by_cases h200 : r < 208
  · exact key 200 permRows_200 r (by omega) h200
  by_cases h208 : r < 216
  · exact key 208 permRows_208 r (by omega) h208
  by_cases h216 : r < 224
  · exact key 216 permRows_216 r (by omega) h216
  by_cases h224 : r < 232
  · exact key 224 permRows_224 r (by omega) h224
  by_cases h232 : r < 240
  · exact key 232 permRows_232 r (by omega) h232
  by_cases h240 : r < 248
  · exact key 240 permRows_240 r (by omega) h240
  by_cases h248 : r < 256
  · exact key 248 permRows_248 r (by omega) h248
  omega

theorem packRow_eq (r : Nat) (hr : r < 256) : packRow r = true := by
  have key : ∀ a, (List.range 8).all (fun r => packRow (a + r)) = true → ∀ r, a ≤ r → r < a + 8 → packRow r = true := by
    intro a h r h1 h2
    have e := List.all_eq_true.1 h (r - a) (List.mem_range.2 (by omega))
    rwa [Nat.add_sub_cancel' h1] at e
  by_cases h0 : r < 8
  · exact key 0 packRows_0 r (by omega) h0
  by_cases h8 : r < 16
  · exact key 8 packRows_8 r (by omega) h8
  by_cases h16 : r < 24
  · exact key 16 packRows_16 r (by omega) h16
  by_cases h24 : r < 32
  · exact key 24 packRows_24 r (by omega) h24
  by_cases h32 : r < 40
  · exact key 32 packRows_32 r (by omega) h32
  by_cases h40 : r < 48
  · exact key 40 packRows_40 r (by omega) h40
  by_cases h48 : r < 56
  · exact key 48 packRows_48 r (by omega) h48
  by_cases h56 : r < 64
  · exact key 56 packRows_56 r (by omega) h56
  by_cases h64 : r < 72
  · exact key 64 packRows_64 r (by omega) h64
  by_cases h72 : r < 80
  · exact key 72 packRows_72 r (by omega) h72
  by_cases h80 : r < 88
  · exact key 80 packRows_80 r (by omega) h80
  by_cases h88 : r < 96
  · exact key 88 packRows_88 r (by omega) h88
  by_cases h96 : r < 104
  · exact key 96 packRows_96 r (by omega) h96
  by_cases h104 : r < 112
  · exact key 104 packRows_104 r (by omega) h104
  by_cases h112 : r < 120
  · exact key 112 packRows_112 r (by omega) h112
  by_cases h120 : r < 128
  · exact key 120 packRows_120 r (by omega) h120
  by_cases h128 : r < 136
  · exact key 128 packRows_128 r (by omega) h128
  by_cases h136 : r < 144
  · exact key 136 packRows_136 r (by omega) h136
  by_cases h144 : r < 152
  · exact key 144 packRows_144 r (by omega) h144
  by_cases h152 : r < 160
  · exact key 152 packRows_152 r (by omega) h152
  by_cases h160 : r < 168
  · exact key 160 packRows_160 r (by omega) h160
  by_cases h168 : r < 176
  · exact key 168 packRows_168 r (by omega) h168
  by_cases h176 : r < 184
  · exact key 176 packRows_176 r (by omega) h176
  by_cases h184 : r < 192
  · exact key 184 packRows_184 r (by omega) h184
  by_cases h192 : r < 200
  · exact key 192 packRows_192 r (by omega) h192
  by_cases h200 : r < 208
  · exact key 200 packRows_200 r (by omega) h200
  by_cases h208 : r < 216
  · exact key 208 packRows_208 r (by omega) h208
  by_cases h216 : r < 224
  · exact key 216 packRows_216 r (by omega) h216
  by_cases h224 : r < 232
  · exact key 224 packRows_224 r (by omega) h224
  by_cases h232 : r < 240
  · exact key 232 packRows_232 r (by omega) h232
  by_cases h240 : r < 248
  · exact key 240 packRows_240 r (by omega) h240
  by_cases h248 : r < 256
  · exact key 248 packRows_248 r (by omega) h248
  omega

theorem lit0_eq (r j : Nat) (hr : r < 256) (hj : j < 256) :
    lit0t (256 * r + j) = (if j = r / 2 + (r % 2) * 128 then 0x3F80#16 else 0x0000#16) :=
  eq_of_beq (List.all_eq_true.1 (permRow_eq r hr) j (List.mem_range.2 hj))

theorem lit1_eq (g j : Nat) (hr : g < 8) (hj : j < 128) :
    lit1t (128 * g + j) = (if j / 16 = g then 0x3F80#16 else 0x0000#16) := by
  have h := List.all_eq_true.1 expandRows g (List.mem_range.2 hr)
  exact eq_of_beq (List.all_eq_true.1 h j (List.mem_range.2 hj))

theorem lit2_eq (r j : Nat) (hr : r < 256) (hj : j < 128) :
    lit2t (128 * r + j) = (if j = r / 2 then (if r % 2 = 0 then 0x3F80#16 else 0x4180#16) else 0x0000#16) :=
  eq_of_beq (List.all_eq_true.1 (packRow_eq r hr) j (List.mem_range.2 hj))

end Cert.KernelIdeal.Hand

end
-- ==== Proof.IWin.lean ====
/- What the windows' blocks hold at each point: entries of the arguments and of the constant tables. -/
module

public import proofs.«01_k».proof.Proof.IFrame
public import proofs.«01_k».proof.Proof.IStep
public import proofs.«01_k».proof.Proof.LitA
public import Idealize.ShloMosaic.Lib.StableHlo.ReadAt
public import Idealize.ShloMosaic.Lib.IdealHost

@[expose] public section

set_option maxRecDepth 16384

noncomputable section

namespace Cert.KernelIdeal.Hand

open Cert.KernelIdeal.Gen
open Idealize.ShloMosaic Idealize.ShloMosaic.TcCoe
open Idealize.SL.Sem

/-- The arrays of one batch and key head, out of the arguments. -/
def mkHead (a0 : Vec Ideal S4x1x4096 .bf16) (a1 a2 : Vec Ideal S4x1x2x256 .bf16) (a3 : Vec Ideal S4x2x32640x128 .i8)
    (a4 a5 : Vec Ideal S4x2x1020x256 .f32) (a6 : Vec Ideal S4x2x32640x128 .i8) (a7 a8 : Vec Ideal S4x2x32640x8 .f32)
    (a9 a10 : Vec Ideal S4x2x128x256 .bf16) (b : Fin 4) (k : Fin 2) : Head where
  q g ch := a0 (ix3 b 0 ⟨(k.val * 8 + g.val) * 256 + ch.val, by omega⟩)
  kn ch := a1 (ix4 b 0 k ch)
  vn ch := a2 (ix4 b 0 k ch)
  kc t j := a3 (ix4 b k t j)
  ks r ch := a4 (ix4 b k r ch)
  kz r ch := a5 (ix4 b k r ch)
  vc t j := a6 (ix4 b k t j)
  vs t g := a7 (ix4 b k t g)
  vz t g := a8 (ix4 b k t g)
  kt r ch := a9 (ix4 b k r ch)
  vt r ch := a10 (ix4 b k r ch)

variable (m : (ℓ : Loc nD τ sig) → Buf (Elt Ideal) ℓ)

/-- The arrays of one batch and key head, out of the memory. -/
abbrev headOf (c : Dev nD) (b : Fin 4) (k : Fin 2) : Head :=
  mkHead (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) b k

/-- Point `j` of the head of batch `b` and key head `k`. -/
def pt (b : Fin 4) (k : Fin 2) (j : Fin 15) : Fin cfg0.N := ⟨15 * (2 * b.val + k.val) + j.val, lt_of_lt_of_eq (by omega) N_0.symm⟩

theorem pt_idx : ∀ (b : Fin 4) (k : Fin 2) (j : Fin 15),
    win0_0.index (pt b k j) = ![b.val, k.val, 0, 0] ∧ win0_4.index (pt b k j) = ![b.val, k.val, j.val, 0]
    ∧ win0_5.index (pt b k j) = ![b.val, k.val, 0, 0] ∧ win0_6.index (pt b k j) = ![b.val, k.val, 0, 0]
    ∧ win0_7.index (pt b k j) = ![b.val, k.val, j.val, 0] ∧ win0_8.index (pt b k j) = ![b.val, k.val, j.val, 0]
    ∧ win0_9.index (pt b k j) = ![b.val, k.val, j.val, 0] ∧ win0_10.index (pt b k j) = ![b.val, k.val, 0, 0]
    ∧ win0_11.index (pt b k j) = ![b.val, k.val, 0, 0] ∧ win0_12.index (pt b k j) = ![b.val, k.val, 0, 0]
    ∧ win0_13.index (pt b k j) = ![b.val, k.val, 0, 0] ∧ win0_14.index (pt b k j) = ![b.val, k.val, 0, 0]
    ∧ win0_1.index (pt b k j) = ![0, 0] ∧ win0_2.index (pt b k j) = ![0, 0] ∧ win0_3.index (pt b k j) = ![0, 0]
    ∧ (grid0.coords (pt b k j) 1).val = j.val := by
  decide +kernel

theorem V_v0 (c : Dev nD) (b : Fin 4) (k : Fin 2) (g : Fin 8) (x : Fin 256) :
    V m c main_v0 (ix4 b k g x) = m ((c : Thread nD τ).loc main_arg0) (ix3 b 0 ⟨(k.val * 8 + g.val) * 256 + x.val, by omega⟩) := by
  unfold V
  after_reads_at
  exact congrArg (fun i => m ((c : Thread nD τ).loc main_arg0) (ix3 b 0 i)) (Fin.ext (by show k.val * 2048 + g.val * 256 + x.val = (k.val * 8 + g.val) * 256 + x.val; omega))

theorem V_v1 (c : Dev nD) (b : Fin 4) (k : Fin 2) (x : Fin 256) :
    V m c main_v1 (ix4 b k 0 x) = m ((c : Thread nD τ).loc main_arg1) (ix4 b 0 k x) := by
  unfold V
  after_reads_at

theorem V_v2 (c : Dev nD) (b : Fin 4) (k : Fin 2) (x : Fin 256) :
    V m c main_v2 (ix4 b k 0 x) = m ((c : Thread nD τ).loc main_arg2) (ix4 b 0 k x) := by
  unfold V
  after_reads_at

theorem V_v3 (c : Dev nD) (b : Fin 4) (k : Fin 2) (g : Fin 8) (r : Fin 32) :
    V m c main_v3 (ix4 b k g r) = m ((c : Thread nD τ).loc main_arg2) (ix4 b 0 k ⟨32 * g.val + r.val, by omega⟩) := by
  unfold V
  after_reads_at
  exact congrArg (fun i => m ((c : Thread nD τ).loc main_arg2) (ix4 b 0 k i)) (Fin.ext (by show g.val * 32 + r.val = 32 * g.val + r.val; omega))

theorem rm2 (a b : Nat) (i : Fin a) (j : Fin b) : ((⟨2, ![a, b]⟩ : Shape).rowMajor (ix2 i j)).val = b * i.val + j.val := by
  rw [Shape.rowMajor_val_two]
  show i.val * b + j.val = b * i.val + j.val
  rw [Nat.mul_comm]

theorem V_main_cst (c : Dev nD) (r : Fin 256) (j : Fin 256) : V m c main_cst (ix2 r j) = Ideal.ofBits .bf16 (lit0t (256 * r.val + j.val)) := by
  unfold V
  after_reads_simp
  have h := rm2 256 256 r j
  show Ideal.ofBits .bf16 (lit0t ((⟨2, ![256, 256]⟩ : Shape).rowMajor (ix2 r j)).val) = _
  rw [h]

theorem V_main_cst_0 (c : Dev nD) (r : Fin 8) (j : Fin 128) : V m c main_cst_0 (ix2 r j) = Ideal.ofBits .bf16 (lit1t (128 * r.val + j.val)) := by
  unfold V
  after_reads_simp
  have h := rm2 8 128 r j
  show Ideal.ofBits .bf16 (lit1t ((⟨2, ![8, 128]⟩ : Shape).rowMajor (ix2 r j)).val) = _
  rw [h]

theorem V_main_cst_1 (c : Dev nD) (r : Fin 256) (j : Fin 128) : V m c main_cst_1 (ix2 r j) = Ideal.ofBits .bf16 (lit2t (128 * r.val + j.val)) := by
  unfold V
  after_reads_simp
  have h := rm2 256 128 r j
  show Ideal.ofBits .bf16 (lit2t ((⟨2, ![256, 128]⟩ : Shape).rowMajor (ix2 r j)).val) = _
  rw [h]

theorem blk0_at (c : Dev nD) (b : Fin 4) (k : Fin 2) (j : Fin 15) (x : Fin 8) (y : Fin 256) :
    (iblk m c 0 (pt b k j) : Vec Ideal S1x1x8x256 .bf16) (ix4 0 0 x y) = (headOf m c b k).q x y := by
  have hi := (pt_idx b k j).1
  rw [show (headOf m c b k).q x y = V m c main_v0 (ix4 b k x y) from (V_v0 m c b k x y).symm]
  unfold iblk
  rw [View.read_apply]
  show V m c main_v0 _ = V m c main_v0 _
  congr 1
  funext a
  apply Fin.ext
  match a with
  | ⟨0, _⟩ => show win0_0.index (pt b k j) 0 * 1 + 1 * 0 = b.val; rw [hi]; show b.val * 1 + 1 * 0 = b.val; omega
  | ⟨1, _⟩ => show win0_0.index (pt b k j) 1 * 1 + 1 * 0 = k.val; rw [hi]; show k.val * 1 + 1 * 0 = k.val; omega
  | ⟨2, _⟩ => show win0_0.index (pt b k j) 2 * 8 + 1 * x.val = x.val; rw [hi]; show 0 * 8 + 1 * x.val = x.val; omega
  | ⟨3, _⟩ => show win0_0.index (pt b k j) 3 * 256 + 1 * y.val = y.val; rw [hi]; show 0 * 256 + 1 * y.val = y.val; omega

theorem blk4_at (c : Dev nD) (b : Fin 4) (k : Fin 2) (j : Fin 15) (x : Fin 2176) (y : Fin 128) :
    (iblk m c 4 (pt b k j) : Vec Ideal S1x1x2176x128 .i8) (ix4 0 0 x y) = (headOf m c b k).kc ⟨2176 * j.val + x.val, by omega⟩ y := by
  have hi := (pt_idx b k j).2.1
  rw [show (headOf m c b k).kc ⟨2176 * j.val + x.val, by omega⟩ y = V m c main_arg3 (ix4 b k ⟨2176 * j.val + x.val, by omega⟩ y) from by rw [V_main_arg3]; rfl]
  unfold iblk
  rw [View.read_apply]
  show V m c main_arg3 _ = V m c main_arg3 _
  congr 1
  funext a
  apply Fin.ext
  match a with
  | ⟨0, _⟩ => show win0_4.index (pt b k j) 0 * 1 + 1 * 0 = b.val; rw [hi]; show b.val * 1 + 1 * 0 = b.val; omega
  | ⟨1, _⟩ => show win0_4.index (pt b k j) 1 * 1 + 1 * 0 = k.val; rw [hi]; show k.val * 1 + 1 * 0 = k.val; omega
  | ⟨2, _⟩ => show win0_4.index (pt b k j) 2 * 2176 + 1 * x.val = 2176 * j.val + x.val; rw [hi]; show j.val * 2176 + 1 * x.val = 2176 * j.val + x.val; omega
  | ⟨3, _⟩ => show win0_4.index (pt b k j) 3 * 128 + 1 * y.val = y.val; rw [hi]; show 0 * 128 + 1 * y.val = y.val; omega

theorem blk5_at (c : Dev nD) (b : Fin 4) (k : Fin 2) (j : Fin 15) (x : Fin 1020) (y : Fin 256) :
    (iblk m c 5 (pt b k j) : Vec Ideal S1x1x1020x256 .f32) (ix4 0 0 x y) = (headOf m c b k).ks x y := by
  have hi := (pt_idx b k j).2.2.1
  rw [show (headOf m c b k).ks x y = V m c main_arg4 (ix4 b k x y) from by rw [V_main_arg4]; rfl]
  unfold iblk
  rw [View.read_apply]
  show V m c main_arg4 _ = V m c main_arg4 _
  congr 1
  funext a
  apply Fin.ext
  match a with
  | ⟨0, _⟩ => show win0_5.index (pt b k j) 0 * 1 + 1 * 0 = b.val; rw [hi]; show b.val * 1 + 1 * 0 = b.val; omega
  | ⟨1, _⟩ => show win0_5.index (pt b k j) 1 * 1 + 1 * 0 = k.val; rw [hi]; show k.val * 1 + 1 * 0 = k.val; omega
  | ⟨2, _⟩ => show win0_5.index (pt b k j) 2 * 1020 + 1 * x.val = x.val; rw [hi]; show 0 * 1020 + 1 * x.val = x.val; omega
  | ⟨3, _⟩ => show win0_5.index (pt b k j) 3 * 256 + 1 * y.val = y.val; rw [hi]; show 0 * 256 + 1 * y.val = y.val; omega

theorem blk6_at (c : Dev nD) (b : Fin 4) (k : Fin 2) (j : Fin 15) (x : Fin 1020) (y : Fin 256) :
    (iblk m c 6 (pt b k j) : Vec Ideal S1x1x1020x256 .f32) (ix4 0 0 x y) = (headOf m c b k).kz x y := by
  have hi := (pt_idx b k j).2.2.2.1
  rw [show (headOf m c b k).kz x y = V m c main_arg5 (ix4 b k x y) from by rw [V_main_arg5]; rfl]
  unfold iblk
  rw [View.read_apply]
  show V m c main_arg5 _ = V m c main_arg5 _
  congr 1
  funext a
  apply Fin.ext
  match a with
  | ⟨0, _⟩ => show win0_6.index (pt b k j) 0 * 1 + 1 * 0 = b.val; rw [hi]; show b.val * 1 + 1 * 0 = b.val; omega
  | ⟨1, _⟩ => show win0_6.index (pt b k j) 1 * 1 + 1 * 0 = k.val; rw [hi]; show k.val * 1 + 1 * 0 = k.val; omega
  | ⟨2, _⟩ => show win0_6.index (pt b k j) 2 * 1020 + 1 * x.val = x.val; rw [hi]; show 0 * 1020 + 1 * x.val = x.val; omega
  | ⟨3, _⟩ => show win0_6.index (pt b k j) 3 * 256 + 1 * y.val = y.val; rw [hi]; show 0 * 256 + 1 * y.val = y.val; omega

theorem blk7_at (c : Dev nD) (b : Fin 4) (k : Fin 2) (j : Fin 15) (x : Fin 2176) (y : Fin 128) :
    (iblk m c 7 (pt b k j) : Vec Ideal S1x1x2176x128 .i8) (ix4 0 0 x y) = (headOf m c b k).vc ⟨2176 * j.val + x.val, by omega⟩ y := by
  have hi := (pt_idx b k j).2.2.2.2.1
  rw [show (headOf m c b k).vc ⟨2176 * j.val + x.val, by omega⟩ y = V m c main_arg6 (ix4 b k ⟨2176 * j.val + x.val, by omega⟩ y) from by rw [V_main_arg6]; rfl]
  unfold iblk
  rw [View.read_apply]
  show V m c main_arg6 _ = V m c main_arg6 _
  congr 1
  funext a
  apply Fin.ext
  match a with
  | ⟨0, _⟩ => show win0_7.index (pt b k j) 0 * 1 + 1 * 0 = b.val; rw [hi]; show b.val * 1 + 1 * 0 = b.val; omega
  | ⟨1, _⟩ => show win0_7.index (pt b k j) 1 * 1 + 1 * 0 = k.val; rw [hi]; show k.val * 1 + 1 * 0 = k.val; omega
  | ⟨2, _⟩ => show win0_7.index (pt b k j) 2 * 2176 + 1 * x.val = 2176 * j.val + x.val; rw [hi]; show j.val * 2176 + 1 * x.val = 2176 * j.val + x.val; omega
  | ⟨3, _⟩ => show win0_7.index (pt b k j) 3 * 128 + 1 * y.val = y.val; rw [hi]; show 0 * 128 + 1 * y.val = y.val; omega

theorem blk8_at (c : Dev nD) (b : Fin 4) (k : Fin 2) (j : Fin 15) (x : Fin 2176) (y : Fin 8) :
    (iblk m c 8 (pt b k j) : Vec Ideal S1x1x2176x8 .f32) (ix4 0 0 x y) = (headOf m c b k).vs ⟨2176 * j.val + x.val, by omega⟩ y := by
  have hi := (pt_idx b k j).2.2.2.2.2.1
  rw [show (headOf m c b k).vs ⟨2176 * j.val + x.val, by omega⟩ y = V m c main_arg7 (ix4 b k ⟨2176 * j.val + x.val, by omega⟩ y) from by rw [V_main_arg7]; rfl]
  unfold iblk
  rw [View.read_apply]
  show V m c main_arg7 _ = V m c main_arg7 _
  congr 1
  funext a
  apply Fin.ext
  match a with
  | ⟨0, _⟩ => show win0_8.index (pt b k j) 0 * 1 + 1 * 0 = b.val; rw [hi]; show b.val * 1 + 1 * 0 = b.val; omega
  | ⟨1, _⟩ => show win0_8.index (pt b k j) 1 * 1 + 1 * 0 = k.val; rw [hi]; show k.val * 1 + 1 * 0 = k.val; omega
  | ⟨2, _⟩ => show win0_8.index (pt b k j) 2 * 2176 + 1 * x.val = 2176 * j.val + x.val; rw [hi]; show j.val * 2176 + 1 * x.val = 2176 * j.val + x.val; omega
  | ⟨3, _⟩ => show win0_8.index (pt b k j) 3 * 8 + 1 * y.val = y.val; rw [hi]; show 0 * 8 + 1 * y.val = y.val; omega

theorem blk9_at (c : Dev nD) (b : Fin 4) (k : Fin 2) (j : Fin 15) (x : Fin 2176) (y : Fin 8) :
    (iblk m c 9 (pt b k j) : Vec Ideal S1x1x2176x8 .f32) (ix4 0 0 x y) = (headOf m c b k).vz ⟨2176 * j.val + x.val, by omega⟩ y := by
  have hi := (pt_idx b k j).2.2.2.2.2.2.1
  rw [show (headOf m c b k).vz ⟨2176 * j.val + x.val, by omega⟩ y = V m c main_arg8 (ix4 b k ⟨2176 * j.val + x.val, by omega⟩ y) from by rw [V_main_arg8]; rfl]
  unfold iblk
  rw [View.read_apply]
  show V m c main_arg8 _ = V m c main_arg8 _
  congr 1
  funext a
  apply Fin.ext
  match a with
  | ⟨0, _⟩ => show win0_9.index (pt b k j) 0 * 1 + 1 * 0 = b.val; rw [hi]; show b.val * 1 + 1 * 0 = b.val; omega
  | ⟨1, _⟩ => show win0_9.index (pt b k j) 1 * 1 + 1 * 0 = k.val; rw [hi]; show k.val * 1 + 1 * 0 = k.val; omega
  | ⟨2, _⟩ => show win0_9.index (pt b k j) 2 * 2176 + 1 * x.val = 2176 * j.val + x.val; rw [hi]; show j.val * 2176 + 1 * x.val = 2176 * j.val + x.val; omega
  | ⟨3, _⟩ => show win0_9.index (pt b k j) 3 * 8 + 1 * y.val = y.val; rw [hi]; show 0 * 8 + 1 * y.val = y.val; omega

theorem blk10_at (c : Dev nD) (b : Fin 4) (k : Fin 2) (j : Fin 15) (x : Fin 128) (y : Fin 256) :
    (iblk m c 10 (pt b k j) : Vec Ideal S1x1x128x256 .bf16) (ix4 0 0 x y) = (headOf m c b k).kt x y := by
  have hi := (pt_idx b k j).2.2.2.2.2.2.2.1
  rw [show (headOf m c b k).kt x y = V m c main_arg9 (ix4 b k x y) from by rw [V_main_arg9]; rfl]
  unfold iblk
  rw [View.read_apply]
  show V m c main_arg9 _ = V m c main_arg9 _
  congr 1
  funext a
  apply Fin.ext
  match a with
  | ⟨0, _⟩ => show win0_10.index (pt b k j) 0 * 1 + 1 * 0 = b.val; rw [hi]; show b.val * 1 + 1 * 0 = b.val; omega
  | ⟨1, _⟩ => show win0_10.index (pt b k j) 1 * 1 + 1 * 0 = k.val; rw [hi]; show k.val * 1 + 1 * 0 = k.val; omega
  | ⟨2, _⟩ => show win0_10.index (pt b k j) 2 * 128 + 1 * x.val = x.val; rw [hi]; show 0 * 128 + 1 * x.val = x.val; omega
  | ⟨3, _⟩ => show win0_10.index (pt b k j) 3 * 256 + 1 * y.val = y.val; rw [hi]; show 0 * 256 + 1 * y.val = y.val; omega

theorem blk11_at (c : Dev nD) (b : Fin 4) (k : Fin 2) (j : Fin 15) (x : Fin 128) (y : Fin 256) :
    (iblk m c 11 (pt b k j) : Vec Ideal S1x1x128x256 .bf16) (ix4 0 0 x y) = (headOf m c b k).vt x y := by
  have hi := (pt_idx b k j).2.2.2.2.2.2.2.2.1
  rw [show (headOf m c b k).vt x y = V m c main_arg10 (ix4 b k x y) from by rw [V_main_arg10]; rfl]
  unfold iblk
  rw [View.read_apply]
  show V m c main_arg10 _ = V m c main_arg10 _
  congr 1
  funext a
  apply Fin.ext
  match a with
  | ⟨0, _⟩ => show win0_11.index (pt b k j) 0 * 1 + 1 * 0 = b.val; rw [hi]; show b.val * 1 + 1 * 0 = b.val; omega
  | ⟨1, _⟩ => show win0_11.index (pt b k j) 1 * 1 + 1 * 0 = k.val; rw [hi]; show k.val * 1 + 1 * 0 = k.val; omega
  | ⟨2, _⟩ => show win0_11.index (pt b k j) 2 * 128 + 1 * x.val = x.val; rw [hi]; show 0 * 128 + 1 * x.val = x.val; omega
  | ⟨3, _⟩ => show win0_11.index (pt b k j) 3 * 256 + 1 * y.val = y.val; rw [hi]; show 0 * 256 + 1 * y.val = y.val; omega

theorem blk12_at (c : Dev nD) (b : Fin 4) (k : Fin 2) (j : Fin 15) (y : Fin 256) :
    (iblk m c 12 (pt b k j) : Vec Ideal S1x1x1x256 .bf16) (ix4 0 0 0 y) = (headOf m c b k).kn y := by
  have hi := (pt_idx b k j).2.2.2.2.2.2.2.2.2.1
  rw [show (headOf m c b k).kn y = V m c main_v1 (ix4 b k 0 y) from (V_v1 m c b k y).symm]
  unfold iblk
  rw [View.read_apply]
  show V m c main_v1 _ = V m c main_v1 _
  congr 1
  funext a
  apply Fin.ext
  match a with
  | ⟨0, _⟩ => show win0_12.index (pt b k j) 0 * 1 + 1 * 0 = b.val; rw [hi]; show b.val * 1 + 1 * 0 = b.val; omega
  | ⟨1, _⟩ => show win0_12.index (pt b k j) 1 * 1 + 1 * 0 = k.val; rw [hi]; show k.val * 1 + 1 * 0 = k.val; omega
  | ⟨2, _⟩ => show win0_12.index (pt b k j) 2 * 1 + 1 * 0 = 0; rw [hi]; show 0 * 1 + 1 * 0 = 0; omega
  | ⟨3, _⟩ => show win0_12.index (pt b k j) 3 * 256 + 1 * y.val = y.val; rw [hi]; show 0 * 256 + 1 * y.val = y.val; omega

theorem blk13_at (c : Dev nD) (b : Fin 4) (k : Fin 2) (j : Fin 15) (y : Fin 256) :
    (iblk m c 13 (pt b k j) : Vec Ideal S1x1x1x256 .bf16) (ix4 0 0 0 y) = (headOf m c b k).vn y := by
  have hi := (pt_idx b k j).2.2.2.2.2.2.2.2.2.2.1
  rw [show (headOf m c b k).vn y = V m c main_v2 (ix4 b k 0 y) from (V_v2 m c b k y).symm]
  unfold iblk
  rw [View.read_apply]
  show V m c main_v2 _ = V m c main_v2 _
  congr 1
  funext a
  apply Fin.ext
  match a with
  | ⟨0, _⟩ => show win0_13.index (pt b k j) 0 * 1 + 1 * 0 = b.val; rw [hi]; show b.val * 1 + 1 * 0 = b.val; omega
  | ⟨1, _⟩ => show win0_13.index (pt b k j) 1 * 1 + 1 * 0 = k.val; rw [hi]; show k.val * 1 + 1 * 0 = k.val; omega
  | ⟨2, _⟩ => show win0_13.index (pt b k j) 2 * 1 + 1 * 0 = 0; rw [hi]; show 0 * 1 + 1 * 0 = 0; omega
  | ⟨3, _⟩ => show win0_13.index (pt b k j) 3 * 256 + 1 * y.val = y.val; rw [hi]; show 0 * 256 + 1 * y.val = y.val; omega

theorem blk14_at (c : Dev nD) (b : Fin 4) (k : Fin 2) (j : Fin 15) (x : Fin 8) (y : Fin 32) :
    (iblk m c 14 (pt b k j) : Vec Ideal S1x1x8x32 .bf16) (ix4 0 0 x y) = vgrp (headOf m c b k).vn x y := by
  have hi := (pt_idx b k j).2.2.2.2.2.2.2.2.2.2.2.1
  rw [show vgrp (headOf m c b k).vn x y = V m c main_v3 (ix4 b k x y) from (V_v3 m c b k x y).symm]
  unfold iblk
  rw [View.read_apply]
  show V m c main_v3 _ = V m c main_v3 _
  congr 1
  funext a
  apply Fin.ext
  match a with
  | ⟨0, _⟩ => show win0_14.index (pt b k j) 0 * 1 + 1 * 0 = b.val; rw [hi]; show b.val * 1 + 1 * 0 = b.val; omega
  | ⟨1, _⟩ => show win0_14.index (pt b k j) 1 * 1 + 1 * 0 = k.val; rw [hi]; show k.val * 1 + 1 * 0 = k.val; omega
  | ⟨2, _⟩ => show win0_14.index (pt b k j) 2 * 8 + 1 * x.val = x.val; rw [hi]; show 0 * 8 + 1 * x.val = x.val; omega
  | ⟨3, _⟩ => show win0_14.index (pt b k j) 3 * 32 + 1 * y.val = y.val; rw [hi]; show 0 * 32 + 1 * y.val = y.val; omega

theorem blk1_at (c : Dev nD) (b : Fin 4) (k : Fin 2) (j : Fin 15) (x : Fin 256) (y : Fin 256) :
    (iblk m c 1 (pt b k j) : Vec Ideal S256x256 .bf16) (ix2 x y) = V m c main_cst (ix2 x y) := by
  have hi := (pt_idx b k j).2.2.2.2.2.2.2.2.2.2.2.2.1
  unfold iblk
  rw [View.read_apply]
  show V m c main_cst _ = V m c main_cst _
  congr 1
  funext a
  apply Fin.ext
  match a with
  | ⟨0, _⟩ => show win0_1.index (pt b k j) 0 * 256 + 1 * x.val = x.val; rw [hi]; show 0 * 256 + 1 * x.val = x.val; omega
  | ⟨1, _⟩ => show win0_1.index (pt b k j) 1 * 256 + 1 * y.val = y.val; rw [hi]; show 0 * 256 + 1 * y.val = y.val; omega

theorem blk2_at (c : Dev nD) (b : Fin 4) (k : Fin 2) (j : Fin 15) (x : Fin 8) (y : Fin 128) :
    (iblk m c 2 (pt b k j) : Vec Ideal S8x128 .bf16) (ix2 x y) = V m c main_cst_0 (ix2 x y) := by
  have hi := (pt_idx b k j).2.2.2.2.2.2.2.2.2.2.2.2.2.1
  unfold iblk
  rw [View.read_apply]
  show V m c main_cst_0 _ = V m c main_cst_0 _
  congr 1
  funext a
  apply Fin.ext
  match a with
  | ⟨0, _⟩ => show win0_2.index (pt b k j) 0 * 8 + 1 * x.val = x.val; rw [hi]; show 0 * 8 + 1 * x.val = x.val; omega
  | ⟨1, _⟩ => show win0_2.index (pt b k j) 1 * 128 + 1 * y.val = y.val; rw [hi]; show 0 * 128 + 1 * y.val = y.val; omega

theorem blk3_at (c : Dev nD) (b : Fin 4) (k : Fin 2) (j : Fin 15) (x : Fin 256) (y : Fin 128) :
    (iblk m c 3 (pt b k j) : Vec Ideal S256x128 .bf16) (ix2 x y) = V m c main_cst_1 (ix2 x y) := by
  have hi := (pt_idx b k j).2.2.2.2.2.2.2.2.2.2.2.2.2.2.1
  unfold iblk
  rw [View.read_apply]
  show V m c main_cst_1 _ = V m c main_cst_1 _
  congr 1
  funext a
  apply Fin.ext
  match a with
  | ⟨0, _⟩ => show win0_3.index (pt b k j) 0 * 256 + 1 * x.val = x.val; rw [hi]; show 0 * 256 + 1 * x.val = x.val; omega
  | ⟨1, _⟩ => show win0_3.index (pt b k j) 1 * 128 + 1 * y.val = y.val; rw [hi]; show 0 * 128 + 1 * y.val = y.val; omega

theorem isPerm_at (c : Dev nD) (b : Fin 4) (k : Fin 2) (j : Fin 15) : IsPerm (iblk m c 1 (pt b k j)) := by
  intro r x
  rw [blk1_at, V_main_cst, lit0_eq r.val x.val r.isLt x.isLt]
  have e : (x.val = r.val / 2 + r.val % 2 * 128) ↔ r = chOf x := by
    constructor
    · intro h
      have : x = placeOf r := Fin.ext h
      rw [this, chOf_place]
    · intro h
      rw [h]
      exact congrArg Fin.val (place_chOf x).symm
  by_cases h : r = chOf x
  · rw [if_pos h, if_pos (e.2 h), Ideal.ofBits_one_bf16]
  · rw [if_neg h, if_neg (fun h' => h (e.1 h')), Ideal.ofBits_zero_bf16]

theorem isExpand_at (c : Dev nD) (b : Fin 4) (k : Fin 2) (j : Fin 15) : IsExpand (iblk m c 2 (pt b k j)) := by
  intro g x
  rw [blk2_at, V_main_cst_0, lit1_eq g.val x.val g.isLt x.isLt]
  by_cases h : x.val / 16 = g.val
  · rw [if_pos h, if_pos h, Ideal.ofBits_one_bf16]
  · rw [if_neg h, if_neg h, Ideal.ofBits_zero_bf16]

theorem isPack_at (c : Dev nD) (b : Fin 4) (k : Fin 2) (j : Fin 15) : IsPack (iblk m c 3 (pt b k j)) := by
  intro r x
  rw [blk3_at, V_main_cst_1, lit2_eq r.val x.val r.isLt x.isLt]
  by_cases h : x.val = r.val / 2
  · rw [if_pos h, if_pos h]
    by_cases h' : r.val % 2 = 0
    · rw [if_pos h', if_pos h', Ideal.ofBits_one_bf16]
    · rw [if_neg h', if_neg h', b16]
  · rw [if_neg h, if_neg h, Ideal.ofBits_zero_bf16]

end Cert.KernelIdeal.Hand

end
-- ==== Proof.IInv.lean ====
/- What the outputs and the carried arrays hold after each point, and so what the results are at one index. -/
module

public import proofs.«01_k».proof.Proof.ISt
public import proofs.«01_k».proof.Proof.IWin
public import proofs.«01_k».proof.Proof.IStep

@[expose] public section

set_option maxRecDepth 16384

noncomputable section

namespace Cert.KernelIdeal.Hand

open Cert.KernelIdeal.Gen
open Idealize.ShloMosaic Idealize.ShloMosaic.TcCoe
open Idealize.SL.Sem

variable (m : (ℓ : Loc nD τ sig) → Buf (Elt Ideal) ℓ)

/-- What a head's points keep, after `n` blocks. -/
structure Inv (H : Head) (n : ℕ) (s : St Ideal) : Prop where
  o16 : ∀ x : Fin 128, s.2.1 (ix4 0 0 0 x) = packb (kcd H.kn H.kt) x
  o17 : ∀ x : Fin 256, s.2.2.1 (ix4 0 0 0 x) = qscale (klo H.kn H.kt x) (khi H.kn H.kt x)
  o18 : ∀ x : Fin 256, s.2.2.2.1 (ix4 0 0 0 x) = klo H.kn H.kt x
  o19 : ∀ x : Fin 128, s.2.2.2.2.1 (ix4 0 0 0 x) = packb (vcd H.vn) x
  o20 : ∀ g : Fin 8, s.2.2.2.2.2.1 (ix4 0 0 0 g) = qscale (vlo H.vn g) (vhi H.vn g)
  o21 : ∀ g : Fin 8, s.2.2.2.2.2.2.1 (ix4 0 0 0 g) = vlo H.vn g
  s0 : ∀ (g : Fin 8) (x : Fin 256), s.2.2.2.2.2.2.2.1 (ix2 g x) = H.q g (chOf x)
  s1 : ∀ (r : Fin 1020) (p : Fin 2) (x : Fin 256), s.2.2.2.2.2.2.2.2.1 (ix3 r p x) = H.ks r (chOf x)
  s2 : ∀ (r : Fin 1020) (p : Fin 2) (x : Fin 256), s.2.2.2.2.2.2.2.2.2.1 (ix3 r p x) = H.kz r (chOf x)
  s3 : ∀ (g : Fin 8) (x : Fin 128), s.2.2.2.2.2.2.2.2.2.2.1 (ix2 g x) = smax (H.score g) (upTo n)
  s4 : ∀ (g : Fin 8) (x : Fin 128), s.2.2.2.2.2.2.2.2.2.2.2.1 (ix2 g x) = ssum (H.score g) (upTo n)
  s5 : ∀ (g : Fin 8) (x : Fin 256), s.2.2.2.2.2.2.2.2.2.2.2.2 (ix2 g x) = sval (H.score g) (fun t => H.val t (chOf x)) (upTo n)

theorem col0_at (x : Vec Ideal S8x128 .f32) (g : Fin 8) : col0 x (ix2 g 0) = x (ix2 g 0) := by
  pointwise [col0]

/-- The scores of the point's block. -/
theorem S_at (c : Dev nD) (b : Fin 4) (k : Fin 2) (j : Fin 15) (xs0 : Vec Ideal S8x256 .bf16) (xs1 xs2 : Vec Ideal S1020x2x256 .bf16)
    (h0 : ∀ g x, xs0 (ix2 g x) = (headOf m c b k).q g (chOf x)) (h1 : ∀ r p x, xs1 (ix3 r p x) = (headOf m c b k).ks r (chOf x))
    (h2 : ∀ r p x, xs2 (ix3 r p x) = (headOf m c b k).kz r (chOf x)) (g : Fin 8) (x : Fin 2176) :
    scores (iblk m c 4 (pt b k j)) (wordAt (grid0.coords (pt b k j)) xs1) (wordAt (grid0.coords (pt b k j)) xs2) xs0 (ix2 g x)
      = (headOf m c b k).score g (blkTok j x) := by
  have hi : (grid0.coords (pt b k j) 1).val = j.val := (pt_idx b k j).2.2.2.2.2.2.2.2.2.2.2.2.2.2.2
  refine scores_at (headOf m c b k) j _ _ _ _ (fun x y => blk4_at m c b k j x y) ?_ ?_ h0 g x
  · intro r p y
    refine (word_at _ xs1 (headOf m c b k).ks h1 r (by rw [hi]; omega) p y).trans ?_
    exact congrArg (fun z => (headOf m c b k).ks z (chOf y)) (Fin.ext (by show 68 * (grid0.coords (pt b k j) 1).val + r.val = 68 * j.val + r.val; rw [hi]))
  · intro r p y
    refine (word_at _ xs2 (headOf m c b k).kz h2 r (by rw [hi]; omega) p y).trans ?_
    exact congrArg (fun z => (headOf m c b k).kz z (chOf y)) (Fin.ext (by show 68 * (grid0.coords (pt b k j) 1).val + r.val = 68 * j.val + r.val; rw [hi]))

/-- The first point of a head. -/
theorem inv_A (c : Dev nD) (b : Fin 4) (k : Fin 2) (h0 : (pt b k 0).val % 15 = 0) (h1 : ¬ (pt b k 0).val % 15 = 14) :
    Inv (headOf m c b k) 1 (stA m c (pt b k 0) h0 h1) := by
  have P := isPerm_at m c b k 0
  have b0 := blk0_at m c b k 0
  have b10 := blk10_at m c b k 0
  have b11 := blk11_at m c b k 0
  have b12 := blk12_at m c b k 0
  have b13 := blk13_at m c b k 0
  have b14 := blk14_at m c b k 0
  have e0 : ∀ g x, k0_pay3 (iblk m c 1 (pt b k 0)) (iblk m c 0 (pt b k 0)) (ix2 g x) = (headOf m c b k).q g (chOf x) :=
    fun g x => (pay3_at _ _ P g x).trans (b0 g (chOf x))
  have e1 : ∀ r p x, k0_pay4 (iblk m c 1 (pt b k 0)) (iblk m c 5 (pt b k 0)) (ix3 r p x) = (headOf m c b k).ks r (chOf x) :=
    fun r p x => (pay4_at _ _ P r p x).trans (blk5_at m c b k 0 r (chOf x))
  have e2 : ∀ r p x, k0_pay5 (iblk m c 1 (pt b k 0)) (iblk m c 6 (pt b k 0)) (ix3 r p x) = (headOf m c b k).kz r (chOf x) :=
    fun r p x => (pay5_at _ _ P r p x).trans (blk6_at m c b k 0 r (chOf x))
  have hS := S_at m c b k 0 _ _ _ e0 e1 e2
  have hm : ∀ g, col0 (m0 (iblk m c 0 (pt b k 0)) (iblk m c 10 (pt b k 0)) (iblk m c 12 (pt b k 0))) (ix2 g 0) = smax ((headOf m c b k).score g) (upTo (0 : Fin 15).val) :=
    fun g => (col0_at _ g).trans (m0_at _ _ _ _ b0 b10 b12 g 0)
  have hl : ∀ g, col0 (l0 (iblk m c 0 (pt b k 0)) (iblk m c 10 (pt b k 0)) (iblk m c 12 (pt b k 0))) (ix2 g 0) = ssum ((headOf m c b k).score g) (upTo (0 : Fin 15).val) :=
    fun g => (col0_at _ g).trans (l0_at _ _ _ _ b0 b10 b12 g 0)
  have ha := a0_at (headOf m c b k) _ _ _ _ _ _ _ b0 P b10 b11 b12 b13 b14
  constructor
  · intro x
    exact (congrFun (stA_16 m c (pt b k 0) h0 h1) (ix4 0 0 0 x)).trans (pay13_at _ _ _ _ b12 b10 _ (isPack_at m c b k 0) x)
  · intro x
    exact (congrFun (stA_17 m c (pt b k 0) h0 h1) (ix4 0 0 0 x)).trans (pay11_at _ _ _ _ b12 b10 x)
  · intro x
    exact (congrFun (stA_18 m c (pt b k 0) h0 h1) (ix4 0 0 0 x)).trans (pay12_at _ _ _ _ b12 b10 x)
  · intro x
    exact (congrFun (stA_19 m c (pt b k 0) h0 h1) (ix4 0 0 0 x)).trans (pay30_at _ (isPack_at m c b k 0) _ _ (fun _ => isCode_qcode _ _ _) (vCode_at _ _ _ b13 b14) x)
  · intro x
    exact (congrFun (stA_20 m c (pt b k 0) h0 h1) (ix4 0 0 0 x)).trans (pay28_at _ _ b14 x)
  · intro x
    exact (congrFun (stA_21 m c (pt b k 0) h0 h1) (ix4 0 0 0 x)).trans (pay29_at _ _ b14 x)
  · intro g x
    exact (congrFun (stA_0 m c (pt b k 0) h0 h1) (ix2 g x)).trans (e0 g x)
  · intro r p x
    exact (congrFun (stA_1 m c (pt b k 0) h0 h1) (ix3 r p x)).trans (e1 r p x)
  · intro r p x
    exact (congrFun (stA_2 m c (pt b k 0) h0 h1) (ix3 r p x)).trans (e2 r p x)
  · intro g x
    exact (congrFun (stA_3 m c (pt b k 0) h0 h1) (ix2 g x)).trans (pay161_at (headOf m c b k) 0 _ hS _ hm g x)
  · intro g x
    exact (congrFun (stA_4 m c (pt b k 0) h0 h1) (ix2 g x)).trans (pay162_at (headOf m c b k) 0 _ hS _ _ hm hl g x)
  · intro g x
    exact (congrFun (stA_5 m c (pt b k 0) h0 h1) (ix2 g x)).trans (pay163_at (headOf m c b k) 0 _ _ _ _ (isExpand_at m c b k 0) (blk7_at m c b k 0) (blk8_at m c b k 0) (blk9_at m c b k 0) _ hS _ hm _ ha g x)

/-- A later point of a head. -/
theorem inv_B (c : Dev nD) (b : Fin 4) (k : Fin 2) (j : Fin 15) (h0 : ¬ (pt b k j).val % 15 = 0) (h1 : ¬ (pt b k j).val % 15 = 14) (acc : St Ideal)
    (I : Inv (headOf m c b k) j.val acc) : Inv (headOf m c b k) (j.val + 1) (stB m c (pt b k j) h0 h1 acc) := by
  have hS := S_at m c b k j _ _ _ I.s0 I.s1 I.s2
  have hm : ∀ g, col0 acc.2.2.2.2.2.2.2.2.2.2.1 (ix2 g 0) = smax ((headOf m c b k).score g) (upTo j.val) := fun g => (col0_at _ g).trans (I.s3 g 0)
  have hl : ∀ g, col0 acc.2.2.2.2.2.2.2.2.2.2.2.1 (ix2 g 0) = ssum ((headOf m c b k).score g) (upTo j.val) := fun g => (col0_at _ g).trans (I.s4 g 0)
  refine ⟨fun x => (congrFun (stB_16 m c (pt b k j) h0 h1 acc) (ix4 0 0 0 x)).trans (I.o16 x),
    fun x => (congrFun (stB_17 m c (pt b k j) h0 h1 acc) (ix4 0 0 0 x)).trans (I.o17 x),
    fun x => (congrFun (stB_18 m c (pt b k j) h0 h1 acc) (ix4 0 0 0 x)).trans (I.o18 x),
    fun x => (congrFun (stB_19 m c (pt b k j) h0 h1 acc) (ix4 0 0 0 x)).trans (I.o19 x),
    fun x => (congrFun (stB_20 m c (pt b k j) h0 h1 acc) (ix4 0 0 0 x)).trans (I.o20 x),
    fun x => (congrFun (stB_21 m c (pt b k j) h0 h1 acc) (ix4 0 0 0 x)).trans (I.o21 x),
    fun g x => (congrFun (stB_0 m c (pt b k j) h0 h1 acc) (ix2 g x)).trans (I.s0 g x),
    fun r p x => (congrFun (stB_1 m c (pt b k j) h0 h1 acc) (ix3 r p x)).trans (I.s1 r p x),
    fun r p x => (congrFun (stB_2 m c (pt b k j) h0 h1 acc) (ix3 r p x)).trans (I.s2 r p x), ?_, ?_, ?_⟩
  · intro g x
    exact (congrFun (stB_3 m c (pt b k j) h0 h1 acc) (ix2 g x)).trans (pay161_at (headOf m c b k) j _ hS _ hm g x)
  · intro g x
    exact (congrFun (stB_4 m c (pt b k j) h0 h1 acc) (ix2 g x)).trans (pay162_at (headOf m c b k) j _ hS _ _ hm hl g x)
  · intro g x
    exact (congrFun (stB_5 m c (pt b k j) h0 h1 acc) (ix2 g x)).trans (pay163_at (headOf m c b k) j _ _ _ _ (isExpand_at m c b k j) (blk7_at m c b k j) (blk8_at m c b k j) (blk9_at m c b k j) _ hS _ hm _ I.s5 g x)

/-- A later point of a head, the last. -/
theorem inv_C (c : Dev nD) (b : Fin 4) (k : Fin 2) (j : Fin 15) (h0 : ¬ (pt b k j).val % 15 = 0) (h1 : (pt b k j).val % 15 = 14) (acc : St Ideal)
    (I : Inv (headOf m c b k) j.val acc) : Inv (headOf m c b k) (j.val + 1) (stC m c (pt b k j) h0 h1 acc) := by
  have hS := S_at m c b k j _ _ _ I.s0 I.s1 I.s2
  have hm : ∀ g, col0 acc.2.2.2.2.2.2.2.2.2.2.1 (ix2 g 0) = smax ((headOf m c b k).score g) (upTo j.val) := fun g => (col0_at _ g).trans (I.s3 g 0)
  have hl : ∀ g, col0 acc.2.2.2.2.2.2.2.2.2.2.2.1 (ix2 g 0) = ssum ((headOf m c b k).score g) (upTo j.val) := fun g => (col0_at _ g).trans (I.s4 g 0)
  refine ⟨fun x => (congrFun (stC_16 m c (pt b k j) h0 h1 acc) (ix4 0 0 0 x)).trans (I.o16 x),
    fun x => (congrFun (stC_17 m c (pt b k j) h0 h1 acc) (ix4 0 0 0 x)).trans (I.o17 x),
    fun x => (congrFun (stC_18 m c (pt b k j) h0 h1 acc) (ix4 0 0 0 x)).trans (I.o18 x),
    fun x => (congrFun (stC_19 m c (pt b k j) h0 h1 acc) (ix4 0 0 0 x)).trans (I.o19 x),
    fun x => (congrFun (stC_20 m c (pt b k j) h0 h1 acc) (ix4 0 0 0 x)).trans (I.o20 x),
    fun x => (congrFun (stC_21 m c (pt b k j) h0 h1 acc) (ix4 0 0 0 x)).trans (I.o21 x),
    fun g x => (congrFun (stC_0 m c (pt b k j) h0 h1 acc) (ix2 g x)).trans (I.s0 g x),
    fun r p x => (congrFun (stC_1 m c (pt b k j) h0 h1 acc) (ix3 r p x)).trans (I.s1 r p x),
    fun r p x => (congrFun (stC_2 m c (pt b k j) h0 h1 acc) (ix3 r p x)).trans (I.s2 r p x), ?_, ?_, ?_⟩
  · intro g x
    exact (congrFun (stC_3 m c (pt b k j) h0 h1 acc) (ix2 g x)).trans (pay161_at (headOf m c b k) j _ hS _ hm g x)
  · intro g x
    exact (congrFun (stC_4 m c (pt b k j) h0 h1 acc) (ix2 g x)).trans (pay162_at (headOf m c b k) j _ hS _ _ hm hl g x)
  · intro g x
    exact (congrFun (stC_5 m c (pt b k j) h0 h1 acc) (ix2 g x)).trans (pay163_at (headOf m c b k) j _ _ _ _ (isExpand_at m c b k j) (blk7_at m c b k j) (blk8_at m c b k j) (blk9_at m c b k j) _ hS _ hm _ I.s5 g x)

/-- The head's result, which its last point writes. -/
theorem y_C (c : Dev nD) (b : Fin 4) (k : Fin 2) (h0 : ¬ (pt b k 14).val % 15 = 0) (h1 : (pt b k 14).val % 15 = 14) (acc : St Ideal)
    (I : Inv (headOf m c b k) 14 acc) (g : Fin 8) (x : Fin 256) :
    (stC m c (pt b k 14) h0 h1 acc).1 (ix4 0 0 g x) = (headOf m c b k).out g x := by
  have hS := S_at m c b k 14 _ _ _ I.s0 I.s1 I.s2
  have hm : ∀ g, col0 acc.2.2.2.2.2.2.2.2.2.2.1 (ix2 g 0) = smax ((headOf m c b k).score g) (upTo (14 : Fin 15).val) := fun g => (col0_at _ g).trans (I.s3 g 0)
  have hl : ∀ g, col0 acc.2.2.2.2.2.2.2.2.2.2.2.1 (ix2 g 0) = ssum ((headOf m c b k).score g) (upTo (14 : Fin 15).val) := fun g => (col0_at _ g).trans (I.s4 g 0)
  have e9 := pay159_at (headOf m c b k) 14 _ hS _ _ hm hl
  have e0 := pay160_at (headOf m c b k) 14 _ _ _ _ (isExpand_at m c b k 14) (blk7_at m c b k 14) (blk8_at m c b k 14) (blk9_at m c b k 14) _ hS _ hm _ I.s5
  have eu : upTo ((14 : Fin 15).val + 1) = Finset.univ := upTo_all
  rw [eu] at e9 e0
  exact (congrFun (stC_15 m c (pt b k 14) h0 h1 acc) (ix4 0 0 g x)).trans (pay1_at (headOf m c b k) _ (isPerm_at m c b k 14) _ _ e9 e0 g x)

theorem pt_lt (b : Fin 4) (k : Fin 2) (j : ℕ) (hj : j < 15) : 15 * (2 * b.val + k.val) + j < cfg0.N := lt_of_lt_of_eq (by omega) N_0.symm

/-- What every point of a head leaves. -/
theorem inv (c : Dev nD) (b : Fin 4) (k : Fin 2) : ∀ (j : ℕ) (hj : j < 15),
    Inv (headOf m c b k) (j + 1) (outsAt0 m c (15 * (2 * b.val + k.val) + j) (pt_lt b k j hj)) := by
  intro j
  induction j with
  | zero =>
    intro hj
    have h0 : (pt b k 0).val % 15 = 0 := by show (15 * (2 * b.val + k.val) + 0) % 15 = 0; omega
    have h1 : ¬ (pt b k 0).val % 15 = 14 := by rw [h0]; decide
    have e := outsAt0_A m c (pt b k 0) h0 h1
    exact (congrArg (Inv (headOf m c b k) 1) e).mpr (inv_A m c b k h0 h1)
  | succ j ih =>
    intro hj
    have hv : (pt b k ⟨j + 1, hj⟩).val = 15 * (2 * b.val + k.val) + (j + 1) := rfl
    have h0 : ¬ (pt b k ⟨j + 1, hj⟩).val % 15 = 0 := by rw [hv]; omega
    have I := ih (by omega)
    have ep : outsAt0 m c ((pt b k ⟨j + 1, hj⟩).val - 1) (Nat.lt_of_le_of_lt (Nat.sub_le _ _) (pt b k ⟨j + 1, hj⟩).isLt)
        = outsAt0 m c (15 * (2 * b.val + k.val) + j) (pt_lt b k j (by omega)) := outsAt0_congr m c _ _ _ _ (by rw [hv]; omega)
    by_cases h1 : (pt b k ⟨j + 1, hj⟩).val % 15 = 14
    · have e := outsAt0_C m c (pt b k ⟨j + 1, hj⟩) h0 h1
      rw [ep] at e
      exact (congrArg (Inv (headOf m c b k) (j + 1 + 1)) e).mpr (inv_C m c b k ⟨j + 1, hj⟩ h0 h1 _ I)
    · have e := outsAt0_B m c (pt b k ⟨j + 1, hj⟩) h0 h1
      rw [ep] at e
      exact (congrArg (Inv (headOf m c b k) (j + 1 + 1)) e).mpr (inv_B m c b k ⟨j + 1, hj⟩ h0 h1 _ I)

theorem y_at (c : Dev nD) (b : Fin 4) (k : Fin 2) (g : Fin 8) (x : Fin 256) :
    (outsAt0 m c (15 * (2 * b.val + k.val) + 14) (pt_lt b k 14 (by omega))).1 (ix4 0 0 g x) = (headOf m c b k).out g x := by
  have hv : (pt b k 14).val = 15 * (2 * b.val + k.val) + 14 := rfl
  have h0 : ¬ (pt b k 14).val % 15 = 0 := by rw [hv]; omega
  have h1 : (pt b k 14).val % 15 = 14 := by rw [hv]; omega
  have e := outsAt0_C m c (pt b k 14) h0 h1
  have ep : outsAt0 m c ((pt b k 14).val - 1) (Nat.lt_of_le_of_lt (Nat.sub_le _ _) (pt b k 14).isLt)
      = outsAt0 m c (15 * (2 * b.val + k.val) + 13) (pt_lt b k 13 (by omega)) := outsAt0_congr m c _ _ _ _ (by rw [hv]; omega)
  rw [ep] at e
  exact (congrArg (fun s : St Ideal => s.1 (ix4 0 0 g x)) e).trans (y_C m c b k h0 h1 _ (inv m c b k 13 (by omega)) g x)

/-! ## The results at an index -/

theorem G15_at (c : Dev nD) (b : Fin 4) (k : Fin 2) (g : Fin 8) (x : Fin 256) : G15 m c (ix4 b k g x) = (headOf m c b k).out g x := by
  have e : pt15Of (ix4 b k g x) = 15 * (2 * b.val + k.val) + 14 := by
    show 15 * (2 * (b.val / 1 - 0) + 1 * (k.val / 1 - 0) + 1 * (g.val / 8 - 0) + 1 * (x.val / 256 - 0)) + 14 = _
    have := x.isLt
    omega
  have hl : loc15Of (ix4 b k g x) = ix4 0 0 g x := by
    funext a
    apply Fin.ext
    match a with
    | ⟨0, _⟩ => show b.val % 1 = 0; omega
    | ⟨1, _⟩ => show k.val % 1 = 0; omega
    | ⟨2, _⟩ => show g.val % 8 = g.val; omega
    | ⟨3, _⟩ => show x.val % 256 = x.val; exact Nat.mod_eq_of_lt x.isLt
  have h : pt15Of (ix4 b k g x) < cfg0.N := by rw [e]; exact pt_lt b k 14 (by omega)
  unfold G15
  rw [dif_pos h, hl, outsAt0_congr m c _ h _ (pt_lt b k 14 (by omega)) e]
  exact y_at m c b k g x

theorem G16_at (c : Dev nD) (b : Fin 4) (k : Fin 2) (x : Fin 128) : G16 m c (ix4 b k 0 x) = packb (kcd (headOf m c b k).kn (headOf m c b k).kt) x := by
  have e : pt16Of (ix4 b k 0 x) = 15 * (2 * b.val + k.val) + 14 := by
    show 15 * (2 * (b.val / 1 - 0) + 1 * (k.val / 1 - 0) + 1 * ((0 : Fin 1).val / 1 - 0) + 1 * (x.val / 128 - 0)) + 14 = _
    have := x.isLt
    omega
  have hl : loc16Of (ix4 b k 0 x) = ix4 0 0 0 x := by
    funext a
    apply Fin.ext
    match a with
    | ⟨0, _⟩ => show b.val % 1 = 0; omega
    | ⟨1, _⟩ => show k.val % 1 = 0; omega
    | ⟨2, _⟩ => show (0 : Fin 1).val % 1 = (0 : Fin 1).val; omega
    | ⟨3, _⟩ => show x.val % 128 = x.val; exact Nat.mod_eq_of_lt x.isLt
  have h : pt16Of (ix4 b k 0 x) < cfg0.N := by rw [e]; exact pt_lt b k 14 (by omega)
  unfold G16
  rw [dif_pos h, hl, outsAt0_congr m c _ h _ (pt_lt b k 14 (by omega)) e]
  exact (inv m c b k 14 (by omega)).o16 x

theorem G17_at (c : Dev nD) (b : Fin 4) (k : Fin 2) (x : Fin 256) : G17 m c (ix4 b k 0 x) = qscale (klo (headOf m c b k).kn (headOf m c b k).kt x) (khi (headOf m c b k).kn (headOf m c b k).kt x) := by
  have e : pt17Of (ix4 b k 0 x) = 15 * (2 * b.val + k.val) + 14 := by
    show 15 * (2 * (b.val / 1 - 0) + 1 * (k.val / 1 - 0) + 1 * ((0 : Fin 1).val / 1 - 0) + 1 * (x.val / 256 - 0)) + 14 = _
    have := x.isLt
    omega
  have hl : loc17Of (ix4 b k 0 x) = ix4 0 0 0 x := by
    funext a
    apply Fin.ext
    match a with
    | ⟨0, _⟩ => show b.val % 1 = 0; omega
    | ⟨1, _⟩ => show k.val % 1 = 0; omega
    | ⟨2, _⟩ => show (0 : Fin 1).val % 1 = (0 : Fin 1).val; omega
    | ⟨3, _⟩ => show x.val % 256 = x.val; exact Nat.mod_eq_of_lt x.isLt
  have h : pt17Of (ix4 b k 0 x) < cfg0.N := by rw [e]; exact pt_lt b k 14 (by omega)
  unfold G17
  rw [dif_pos h, hl, outsAt0_congr m c _ h _ (pt_lt b k 14 (by omega)) e]
  exact (inv m c b k 14 (by omega)).o17 x

theorem G18_at (c : Dev nD) (b : Fin 4) (k : Fin 2) (x : Fin 256) : G18 m c (ix4 b k 0 x) = klo (headOf m c b k).kn (headOf m c b k).kt x := by
  have e : pt18Of (ix4 b k 0 x) = 15 * (2 * b.val + k.val) + 14 := by
    show 15 * (2 * (b.val / 1 - 0) + 1 * (k.val / 1 - 0) + 1 * ((0 : Fin 1).val / 1 - 0) + 1 * (x.val / 256 - 0)) + 14 = _
    have := x.isLt
    omega
  have hl : loc18Of (ix4 b k 0 x) = ix4 0 0 0 x := by
    funext a
    apply Fin.ext
    match a with
    | ⟨0, _⟩ => show b.val % 1 = 0; omega
    | ⟨1, _⟩ => show k.val % 1 = 0; omega
    | ⟨2, _⟩ => show (0 : Fin 1).val % 1 = (0 : Fin 1).val; omega
    | ⟨3, _⟩ => show x.val % 256 = x.val; exact Nat.mod_eq_of_lt x.isLt
  have h : pt18Of (ix4 b k 0 x) < cfg0.N := by rw [e]; exact pt_lt b k 14 (by omega)
  unfold G18
  rw [dif_pos h, hl, outsAt0_congr m c _ h _ (pt_lt b k 14 (by omega)) e]
  exact (inv m c b k 14 (by omega)).o18 x

theorem G19_at (c : Dev nD) (b : Fin 4) (k : Fin 2) (x : Fin 128) : G19 m c (ix4 b k 0 x) = packb (vcd (headOf m c b k).vn) x := by
  have e : pt19Of (ix4 b k 0 x) = 15 * (2 * b.val + k.val) + 14 := by
    show 15 * (2 * (b.val / 1 - 0) + 1 * (k.val / 1 - 0) + 1 * ((0 : Fin 1).val / 1 - 0) + 1 * (x.val / 128 - 0)) + 14 = _
    have := x.isLt
    omega
  have hl : loc19Of (ix4 b k 0 x) = ix4 0 0 0 x := by
    funext a
    apply Fin.ext
    match a with
    | ⟨0, _⟩ => show b.val % 1 = 0; omega
    | ⟨1, _⟩ => show k.val % 1 = 0; omega
    | ⟨2, _⟩ => show (0 : Fin 1).val % 1 = (0 : Fin 1).val; omega
    | ⟨3, _⟩ => show x.val % 128 = x.val; exact Nat.mod_eq_of_lt x.isLt
  have h : pt19Of (ix4 b k 0 x) < cfg0.N := by rw [e]; exact pt_lt b k 14 (by omega)
  unfold G19
  rw [dif_pos h, hl, outsAt0_congr m c _ h _ (pt_lt b k 14 (by omega)) e]
  exact (inv m c b k 14 (by omega)).o19 x

theorem G20_at (c : Dev nD) (b : Fin 4) (k : Fin 2) (x : Fin 8) : G20 m c (ix4 b k 0 x) = qscale (vlo (headOf m c b k).vn x) (vhi (headOf m c b k).vn x) := by
  have e : pt20Of (ix4 b k 0 x) = 15 * (2 * b.val + k.val) + 14 := by
    show 15 * (2 * (b.val / 1 - 0) + 1 * (k.val / 1 - 0) + 1 * ((0 : Fin 1).val / 1 - 0) + 1 * (x.val / 8 - 0)) + 14 = _
    have := x.isLt
    omega
  have hl : loc20Of (ix4 b k 0 x) = ix4 0 0 0 x := by
    funext a
    apply Fin.ext
    match a with
    | ⟨0, _⟩ => show b.val % 1 = 0; omega
    | ⟨1, _⟩ => show k.val % 1 = 0; omega
    | ⟨2, _⟩ => show (0 : Fin 1).val % 1 = (0 : Fin 1).val; omega
    | ⟨3, _⟩ => show x.val % 8 = x.val; exact Nat.mod_eq_of_lt x.isLt
  have h : pt20Of (ix4 b k 0 x) < cfg0.N := by rw [e]; exact pt_lt b k 14 (by omega)
  unfold G20
  rw [dif_pos h, hl, outsAt0_congr m c _ h _ (pt_lt b k 14 (by omega)) e]
  exact (inv m c b k 14 (by omega)).o20 x

theorem G21_at (c : Dev nD) (b : Fin 4) (k : Fin 2) (x : Fin 8) : G21 m c (ix4 b k 0 x) = vlo (headOf m c b k).vn x := by
  have e : pt21Of (ix4 b k 0 x) = 15 * (2 * b.val + k.val) + 14 := by
    show 15 * (2 * (b.val / 1 - 0) + 1 * (k.val / 1 - 0) + 1 * ((0 : Fin 1).val / 1 - 0) + 1 * (x.val / 8 - 0)) + 14 = _
    have := x.isLt
    omega
  have hl : loc21Of (ix4 b k 0 x) = ix4 0 0 0 x := by
    funext a
    apply Fin.ext
    match a with
    | ⟨0, _⟩ => show b.val % 1 = 0; omega
    | ⟨1, _⟩ => show k.val % 1 = 0; omega
    | ⟨2, _⟩ => show (0 : Fin 1).val % 1 = (0 : Fin 1).val; omega
    | ⟨3, _⟩ => show x.val % 8 = x.val; exact Nat.mod_eq_of_lt x.isLt
  have h : pt21Of (ix4 b k 0 x) < cfg0.N := by rw [e]; exact pt_lt b k 14 (by omega)
  unfold G21
  rw [dif_pos h, hl, outsAt0_congr m c _ h _ (pt_lt b k 14 (by omega)) e]
  exact (inv m c b k 14 (by omega)).o21 x

end Cert.KernelIdeal.Hand

end
-- ==== Proof.RRef.lean ====
/- What the reference's results are at one index, in the terms of the model. -/
module

public import proofs.«01_k».proof.Proof.Gen.ReferenceIdeal.Read
public import proofs.«01_k».proof.Proof.Model
public import proofs.«01_k».proof.Proof.INib
public import Idealize.ShloMosaic.Lib.WordCmp

@[expose] public section

set_option maxRecDepth 16384

noncomputable section

namespace Cert.ReferenceIdeal.Hand

open Cert.ReferenceIdeal Cert.ReferenceIdeal.Gen Cert.ReferenceIdeal.Read Cert.KernelIdeal.Hand
open Idealize.ShloMosaic Idealize.ShloMosaic.TcCoe Idealize.ShloMosaic.StableHlo
open Idealize.SL.Sem

variable (x0 : (⟨S4x1x4096, .bf16⟩ : BufTy).Contents (Elt Ideal)) (x1 x2 : (⟨S4x1x2x256, .bf16⟩ : BufTy).Contents (Elt Ideal))
  (x3 : (⟨S4x2x32640x128, .i8⟩ : BufTy).Contents (Elt Ideal)) (x4 x5 : (⟨S4x2x1020x256, .f32⟩ : BufTy).Contents (Elt Ideal))
  (x6 : (⟨S4x2x32640x128, .i8⟩ : BufTy).Contents (Elt Ideal)) (x7 x8 : (⟨S4x2x32640x8, .f32⟩ : BufTy).Contents (Elt Ideal))
  (x9 x10 : (⟨S4x2x128x256, .bf16⟩ : BufTy).Contents (Elt Ideal)) (b : Fin 4) (k : Fin 2)

/-- The arrays of the head of batch `b` and key head `k`. -/
def refHead : Head where
  q g ch := x0 (ix3 b 0 ⟨(k.val * 8 + g.val) * 256 + ch.val, by omega⟩)
  kn ch := x1 (ix4 b 0 k ch)
  vn ch := x2 (ix4 b 0 k ch)
  kc t j := x3 (ix4 b k t j)
  ks r ch := x4 (ix4 b k r ch)
  kz r ch := x5 (ix4 b k r ch)
  vc t j := x6 (ix4 b k t j)
  vs t g := x7 (ix4 b k t g)
  vz t g := x8 (ix4 b k t g)
  kt r ch := x9 (ix4 b k r ch)
  vt r ch := x10 (ix4 b k r ch)

theorem pack_at (f : Fin 256 → EReal) (j : Fin 128) :
    BitVec.setWidth 8 (IntOp.ori (FloatOps.fptosi (F := Ideal) (φ := .f32) 32 (f ⟨j.val * 2, by omega⟩)) (IntOp.shli ArithUnit.host (FloatOps.fptosi (F := Ideal) (φ := .f32) 32 (f ⟨j.val * 2 + 1, by omega⟩)) 4#32))
      = packb f j := by
  have e0 : (⟨j.val * 2, by omega⟩ : Fin 256) = ⟨2 * j.val, by omega⟩ := Fin.ext (Nat.mul_comm _ _)
  have e1 : (⟨j.val * 2 + 1, by omega⟩ : Fin 256) = ⟨2 * j.val + 1, by omega⟩ := Fin.ext (congrArg (· + 1) (Nat.mul_comm _ _))
  rw [e0, e1]
  rfl

/-! ## The new key -/

theorem grp_at (ch : Fin 256) : (fun x : Fin 32 => if h : x.val < 31 then x9 (ix4 b k ⟨97 + x.val, by omega⟩ ch) else x1 (ix4 b ⟨x.val - 31, by omega⟩ k ch))
    = kgrp (fun ch => x1 (ix4 b 0 k ch)) (fun r ch => x9 (ix4 b k r ch)) ch := by
  funext x
  unfold kgrp
  split
  · rfl
  · exact congrArg (fun z => x1 (ix4 b z k ch)) (Fin.ext (by show x.val - 31 = 0; omega))

theorem v7_at (ch : Fin 256) : val_main_v7 (F := Ideal) x1 x9 (ix4 b k 0 ch) = klo (fun ch => x1 (ix4 b 0 k ch)) (fun r ch => x9 (ix4 b k r ch)) ch := by
  pointwise [val_main_v7, val_main_v6, val_main_v5, val_main_v4, val_main_v3, val_main_v1, val_main_cst]
  rw [grp_at]
  simp only [fpinf]
  rfl

theorem v10_at (ch : Fin 256) : val_main_v10 (F := Ideal) x1 x9 (ix4 b k 0 ch) = khi (fun ch => x1 (ix4 b 0 k ch)) (fun r ch => x9 (ix4 b k r ch)) ch := by
  pointwise [val_main_v10, val_main_v9, val_main_v5, val_main_v4, val_main_v3, val_main_v1, val_main_cst_0]
  rw [grp_at]
  simp only [fninf]
  rfl

theorem v16_at (ch : Fin 256) : val_main_v16 (F := Ideal) x1 x9 (ix4 b k 0 ch)
    = qscale (klo (fun ch => x1 (ix4 b 0 k ch)) (fun r ch => x9 (ix4 b k r ch)) ch) (khi (fun ch => x1 (ix4 b 0 k ch)) (fun r ch => x9 (ix4 b k r ch)) ch) := by
  pointwise [val_main_v16, val_main_v15, val_main_v14, val_main_v13, val_main_v12, val_main_v11, val_main_call0_v1, val_main_call0_v0, id_eq, val_main_cst_1, val_main_cst_2, val_main_cst_3]
  rw [v7_at, v10_at]
  rfl

theorem v20_at (ch : Fin 256) : val_main_v20 (F := Ideal) x1 x9 (ix4 b k 0 ch) = kcd (fun ch => x1 (ix4 b 0 k ch)) (fun r ch => x9 (ix4 b k r ch)) ch := by
  pointwise [val_main_v20, val_main_call2_v4, val_main_call2_v3, id_eq, val_main_call2_v2, val_main_call2_v1, val_main_call2_v0, val_main_v19, val_main_v18, val_main_v17, val_main_v8, val_main_v1, val_main_cst_4, val_main_cst_5]
  rw [v7_at, v16_at]
  rfl

theorem v25_at (z : Fin 1) (ch : Fin 256) : val_main_v25 (F := Ideal) x1 x9 (ix4 b k z ch) = knd (fun ch => x1 (ix4 b 0 k ch)) (fun r ch => x9 (ix4 b k r ch)) ch := by
  obtain rfl : z = 0 := Subsingleton.elim _ _
  pointwise [val_main_v25, val_main_v24, val_main_v23, val_main_v22, val_main_v21]
  rw [v7_at, v16_at, v20_at]
  rfl

theorem v124_at (j : Fin 128) : val_main_v124 (F := Ideal) x1 x9 (ix4 b k 0 j) = packb (kcd (fun ch => x1 (ix4 b 0 k ch)) (fun r ch => x9 (ix4 b k r ch))) j := by
  have h := v20_at x1 x9 b k
  pointwise [val_main_v124, val_main_v123, val_main_v122, val_main_v121, val_main_v120, val_main_v119, val_main_v118, val_main_v117, val_main_v116, val_main_v115, val_main_c_21]
  simp only [h]
  exact pack_at _ j

/-! ## The new value -/

theorem v29_at (g : Fin 8) : val_main_v29 (F := Ideal) x2 (ix5 b k 0 g 0) = vlo (fun ch => x2 (ix4 b 0 k ch)) g := by
  pointwise [val_main_v29, val_main_v28, val_main_v27, val_main_v26, val_main_v2, val_main_cst_6]
  simp only [fpinf, Nat.mul_comm g.val 32]
  rfl

theorem v31_at (g : Fin 8) : val_main_v31 (F := Ideal) x2 (ix5 b k 0 g 0) = vhi (fun ch => x2 (ix4 b 0 k ch)) g := by
  pointwise [val_main_v31, val_main_v30, val_main_v27, val_main_v26, val_main_v2, val_main_cst_7]
  simp only [fninf, Nat.mul_comm g.val 32]
  rfl

theorem v37_at (g : Fin 8) : val_main_v37 (F := Ideal) x2 (ix5 b k 0 g 0) = qscale (vlo (fun ch => x2 (ix4 b 0 k ch)) g) (vhi (fun ch => x2 (ix4 b 0 k ch)) g) := by
  pointwise [val_main_v37, val_main_v36, val_main_v35, val_main_v34, val_main_v33, val_main_v32, val_main_call3_v1, val_main_call3_v0, id_eq, val_main_cst_8, val_main_cst_9, val_main_cst_10]
  rw [v29_at, v31_at]
  rfl

theorem v43_at (g : Fin 8) (r : Fin 32) : val_main_v43 (F := Ideal) x2 (ix5 b k 0 g r)
    = qcode (x2 (ix4 b 0 k ⟨g.val * 32 + r.val, by omega⟩)) (vlo (fun ch => x2 (ix4 b 0 k ch)) g) (vhi (fun ch => x2 (ix4 b 0 k ch)) g) := by
  pointwise [val_main_v43, val_main_call5_v4, val_main_call5_v3, id_eq, val_main_call5_v2, val_main_call5_v1, val_main_call5_v0, id_eq, val_main_v42, val_main_v41, val_main_v40, val_main_v39, val_main_v38, val_main_v27, val_main_v26, val_main_v2, val_main_cst_11, val_main_cst_12]
  rw [v29_at, v37_at]
  rfl

theorem chan_at (ch : Fin 256) : (⟨ch.val / 32 * 32 + ch.val % 32, by omega⟩ : Fin 256) = ch :=
  Fin.ext (by show ch.val / 32 * 32 + ch.val % 32 = ch.val; omega)

theorem v125_at (ch : Fin 256) : val_main_v125 (F := Ideal) x2 (ix4 b k 0 ch) = vcd (fun ch => x2 (ix4 b 0 k ch)) ch := by
  pointwise [val_main_v125]
  rw [v43_at]
  dsimp only
  rw [chan_at ch]
  rfl

theorem v51_at (z : Fin 1) (ch : Fin 256) : val_main_v51 (F := Ideal) x2 (ix4 b k z ch) = vnd (fun ch => x2 (ix4 b 0 k ch)) ch := by
  obtain rfl : z = 0 := Subsingleton.elim _ _
  pointwise [val_main_v51, val_main_v50, val_main_v49, val_main_v48, val_main_v47, val_main_v46, val_main_v45, val_main_v44]
  rw [v43_at, v29_at, v37_at]
  dsimp only
  rw [chan_at ch]
  rfl

theorem v135_at (j : Fin 128) : val_main_v135 (F := Ideal) x2 (ix4 b k 0 j) = packb (vcd (fun ch => x2 (ix4 b 0 k ch))) j := by
  have h := v125_at x2 b k
  pointwise [val_main_v135, val_main_v134, val_main_v133, val_main_v132, val_main_v131, val_main_v130, val_main_v129, val_main_v128, val_main_v127, val_main_v126, val_main_c_22]
  simp only [h]
  exact pack_at _ j

theorem v136_at (g : Fin 8) : val_main_v136 (F := Ideal) x2 (ix4 b k 0 g) = qscale (vlo (fun ch => x2 (ix4 b 0 k ch)) g) (vhi (fun ch => x2 (ix4 b 0 k ch)) g) := by
  pointwise [val_main_v136]
  exact v37_at x2 b k g

theorem v137_at (g : Fin 8) : val_main_v137 (F := Ideal) x2 (ix4 b k 0 g) = vlo (fun ch => x2 (ix4 b 0 k ch)) g := by
  pointwise [val_main_v137]
  exact v29_at x2 b k g

/-! ## The cached keys and values -/

theorem nibs_at (y : BitVec 8) (p : Fin 2) :
    (FloatOps.sitofp (F := Ideal) FTy.f32 (if h : p.val < 1 then IntOp.andi (BitVec.setWidth 32 y) 15#32 else IntOp.shrsi ArithUnit.host (BitVec.setWidth 32 y) 4#32) : EReal)
      = if p.val = 0 then loN y else hiN y := by
  have hl : ∀ b : BitVec 8, (b.setWidth 32 &&& 15#32).toInt = (b &&& 15#8).toInt := lo32
  have hh : ∀ b : BitVec 8, (IntOp.shrsi ArithUnit.host (BitVec.setWidth 32 b) 4#32).toInt = (b >>> 4).toInt := by decide
  by_cases hp : p.val = 0
  · rw [dif_pos (by omega), if_pos hp]
    unfold loN
    rw [← hl y]; rfl
  · rw [dif_neg (by omega), if_neg hp]
    unfold hiN
    rw [← hh y]; rfl

theorem v62_at (r : Fin 1020) (u : Fin 32) (ch : Fin 256) :
    val_main_v62 (F := Ideal) x3 (ix5 b k r u ch) = nib (fun j => x3 (ix4 b k ⟨r.val * 32 + u.val, by omega⟩ j)) ch := by
  pointwise [val_main_v62, val_main_v61, val_main_v60, val_main_v59, val_main_v58, val_main_v57, val_main_v56, val_main_v55, val_main_v54, val_main_v53, val_main_v52, val_main_c, val_main_c_13]
  have e := nibs_at (x3 (ix4 b k ⟨r.val * 32 + u.val, by omega⟩ ⟨ch.val / 2, by omega⟩)) ⟨ch.val % 2, by omega⟩
  unfold nib
  exact e

theorem v72_at (t : Fin 32640) (ch : Fin 256) : val_main_v72 (F := Ideal) x3 x4 x5 (ix4 b k t ch)
    = nib (fun j => x3 (ix4 b k t j)) ch * x4 (ix4 b k ⟨t.val / 32, by omega⟩ ch) + x5 (ix4 b k ⟨t.val / 32, by omega⟩ ch) := by
  pointwise [val_main_v72, val_main_v71, val_main_v70, val_main_v69, val_main_v68, val_main_v67, val_main_v66, val_main_v65, val_main_v64, val_main_v63]
  rw [v62_at]
  have e : (⟨t.val / 32 * 32 + t.val % 32, by omega⟩ : Fin 32640) = t := Fin.ext (by show t.val / 32 * 32 + t.val % 32 = t.val; omega)
  rw [e]

theorem v83_at (t : Fin 32640) (g : Fin 8) (r : Fin 32) :
    val_main_v83 (F := Ideal) x6 (ix5 b k t g r) = nib (fun j => x6 (ix4 b k t j)) ⟨g.val * 32 + r.val, by omega⟩ := by
  pointwise [val_main_v83, val_main_v82, val_main_v81, val_main_v80, val_main_v79, val_main_v78, val_main_v77, val_main_v76, val_main_v75, val_main_v74, val_main_v73, val_main_c_14, val_main_c_15]
  have e := nibs_at (x6 (ix4 b k t ⟨(g.val * 32 + r.val) / 2, by omega⟩)) ⟨(g.val * 32 + r.val) % 2, by omega⟩
  unfold nib
  exact e

theorem v93_at (t : Fin 32640) (ch : Fin 256) : val_main_v93 (F := Ideal) x6 x7 x8 (ix4 b k t ch)
    = nib (fun j => x6 (ix4 b k t j)) ch * x7 (ix4 b k t (gof ch)) + x8 (ix4 b k t (gof ch)) := by
  pointwise [val_main_v93, val_main_v92, val_main_v91, val_main_v90, val_main_v89, val_main_v88, val_main_v87, val_main_v86, val_main_v85, val_main_v84]
  rw [v83_at]
  have e : (⟨ch.val / 32 * 32 + ch.val % 32, by omega⟩ : Fin 256) = ch := Fin.ext (by show ch.val / 32 * 32 + ch.val % 32 = ch.val; omega)
  rw [e]
  rfl

theorem v94_at (t : Fin 32769) (ch : Fin 256) : val_main_v94 (F := Ideal) x1 x3 x4 x5 x9 (ix4 b k t ch) = (refHead x0 x1 x2 x3 x4 x5 x6 x7 x8 x9 x10 b k).key t ch := by
  pointwise [val_main_v94]
  simp only [v72_at, v25_at]
  rfl

theorem v95_at (t : Fin 32769) (ch : Fin 256) : val_main_v95 (F := Ideal) x2 x6 x7 x8 x10 (ix4 b k t ch) = (refHead x0 x1 x2 x3 x4 x5 x6 x7 x8 x9 x10 b k).val t ch := by
  pointwise [val_main_v95]
  simp only [v93_at, v51_at]
  rfl

/-! ## The attention -/

theorem v0_at (g : Fin 8) (ch : Fin 256) : val_main_v0 (F := Ideal) x0 (ix4 b k g ch) = (refHead x0 x1 x2 x3 x4 x5 x6 x7 x8 x9 x10 b k).q g ch := by
  pointwise [val_main_v0]
  exact congrArg (fun z => x0 (ix3 b 0 z)) (Fin.ext (by show k.val * 2048 + g.val * 256 + ch.val = (k.val * 8 + g.val) * 256 + ch.val; omega))

theorem v98_at (g : Fin 8) (t : Fin 32769) : val_main_v98 (F := Ideal) x0 x1 x3 x4 x5 x9 (ix4 b k g t) = (refHead x0 x1 x2 x3 x4 x5 x6 x7 x8 x9 x10 b k).score g t := by
  pointwise [val_main_v98, val_main_v97, val_main_v96, val_main_cst_16]
  simp only [v0_at x0 x1 x2 x3 x4 x5 x6 x7 x8 x9 x10 b k, v94_at x0 x1 x2 x3 x4 x5 x6 x7 x8 x9 x10 b k]
  rfl

theorem mask_at (t : Fin 32769) : IntOp.cmpi CmpIPredicate.sle (BitVec.ofNat 32 t.val) 32768#32 = BitVec.ofBool true := by
  have e : (BitVec.ofNat 32 t.val).sle 32768#32 = true := by
    have h1 : (BitVec.ofNat 32 t.val).toInt = t.val := by
      have := t.isLt
      have e : (BitVec.ofNat 32 t.val).toNat = t.val := by rw [BitVec.toNat_ofNat]; omega
      rw [BitVec.toInt_eq_toNat_of_lt (by rw [e]; omega), e]
    rw [BitVec.sle_eq_decide, h1]
    have h2 : (32768#32).toInt = 32768 := by decide
    rw [h2]
    have := t.isLt
    exact decide_eq_true (by omega)
  exact congrArg BitVec.ofBool e

theorem v102_at (g : Fin 8) (t : Fin 32769) : val_main_v102 (F := Ideal) x0 x1 x3 x4 x5 x9 (ix4 b k g t) = (refHead x0 x1 x2 x3 x4 x5 x6 x7 x8 x9 x10 b k).score g t := by
  pointwise [val_main_v102, val_main_call6_v1, val_main_v101, val_main_v100, val_main_v99, val_main_c_17]
  rw [v98_at x0 x1 x2 x3 x4 x5 x6 x7 x8 x9 x10 b k, mask_at t]
  exact WordCmp.select_ofBool _ _ _

theorem v103_at (g : Fin 8) : val_main_v103 (F := Ideal) x0 x1 x3 x4 x5 x9 (ix3 b k g) = smax ((refHead x0 x1 x2 x3 x4 x5 x6 x7 x8 x9 x10 b k).score g) Finset.univ := by
  have h := v102_at x0 x1 x2 x3 x4 x5 x6 x7 x8 x9 x10 b k
  pointwise [val_main_v103, val_main_cst_19]
  simp only [h, fninf]
  rfl

theorem v107_at (g : Fin 8) (t : Fin 32769) : val_main_v107 (F := Ideal) x0 x1 x3 x4 x5 x9 (ix4 b k g t)
    = Ideal.exp ((refHead x0 x1 x2 x3 x4 x5 x6 x7 x8 x9 x10 b k).score g t - smax ((refHead x0 x1 x2 x3 x4 x5 x6 x7 x8 x9 x10 b k).score g) Finset.univ) := by
  have h := v102_at x0 x1 x2 x3 x4 x5 x6 x7 x8 x9 x10 b k
  have h' := v103_at x0 x1 x2 x3 x4 x5 x6 x7 x8 x9 x10 b k
  pointwise [val_main_v107, val_main_v106, val_main_v105, val_main_v104]
  rw [h, h']

theorem v114_at (g : Fin 8) (ch : Fin 256) : val_main_v114 (F := Ideal) x0 x1 x2 x3 x4 x5 x6 x7 x8 x9 x10 (ix4 b k g ch) = (refHead x0 x1 x2 x3 x4 x5 x6 x7 x8 x9 x10 b k).out g ch := by
  have h := v107_at x0 x1 x2 x3 x4 x5 x6 x7 x8 x9 x10 b k
  have h' := v95_at x0 x1 x2 x3 x4 x5 x6 x7 x8 x9 x10 b k
  pointwise [val_main_v114, val_main_v113, val_main_v112, val_main_v111, val_main_v110, val_main_v109, val_main_v108, val_main_cst_20]
  simp only [h, h']
  rfl

end Cert.ReferenceIdeal.Hand

end
-- ==== Proof.IAlg.lean ====
/- The kernel's ideal reading and the reference's give the same results from the same arguments. -/
module

public import proofs.«01_k».proof.Defs
public import proofs.«01_k».proof.Proof.IInv
public import proofs.«01_k».proof.Proof.RRef

@[expose] public section

set_option maxRecDepth 16384

noncomputable section

namespace Cert.KernelIdeal.Hand

open Cert.KernelIdeal.Gen
open Idealize.ShloMosaic Idealize.ShloMosaic.TcCoe
open Idealize.SL.Sem

/-- Two arrays of four axes are equal when they are at every index. -/
theorem ext4 {n0 n1 n2 n3 : ℕ} {α : Type} (f g : (⟨4, ![n0, n1, n2, n3]⟩ : Shape).Idx → α)
    (h : ∀ (a : Fin n0) (b : Fin n1) (c : Fin n2) (d : Fin n3), f (ix4 a b c d) = g (ix4 a b c d)) : f = g := by
  funext i
  have e : i = ix4 (i 0) (i 1) (i 2) (i 3) := funext fun a => match a with
    | ⟨0, _⟩ => rfl
    | ⟨1, _⟩ => rfl
    | ⟨2, _⟩ => rfl
    | ⟨3, _⟩ => rfl
  rw [e]
  exact h _ _ _ _

variable (m : (ℓ : Loc nD τ sig) → Buf (Elt Ideal) ℓ)

/-- The reference's head is the kernel's. -/
theorem refHead_eq (c : Dev nD) (b : Fin 4) (k : Fin 2) :
    Cert.ReferenceIdeal.Hand.refHead (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) b k = headOf m c b k := rfl

theorem res15 (c : Dev nD) : Cert.ReferenceIdeal.Read.val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = G15 m c := by
  refine ext4 (n0 := 4) (n1 := 2) (n2 := 8) (n3 := 256) _ _ fun b k g x => ?_
  exact (Cert.ReferenceIdeal.Hand.v114_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) b k g x).trans (G15_at m c b k g x).symm

theorem res16 (c : Dev nD) : Cert.ReferenceIdeal.Read.val_main_v124 (F := Ideal) (m ((c.tc : Thread nD τ).loc main_arg1)) (m ((c.tc : Thread nD τ).loc main_arg9)) = G16 m c := by
  refine ext4 (n0 := 4) (n1 := 2) (n2 := 1) (n3 := 128) _ _ fun b k g x => ?_
  obtain rfl : g = 0 := Subsingleton.elim _ _
  exact (Cert.ReferenceIdeal.Hand.v124_at (m ((c.tc : Thread nD τ).loc main_arg1)) (m ((c.tc : Thread nD τ).loc main_arg9)) b k x).trans (G16_at m c b k x).symm

theorem res17 (c : Dev nD) : Cert.ReferenceIdeal.Read.val_main_v16 (F := Ideal) (m ((c.tc : Thread nD τ).loc main_arg1)) (m ((c.tc : Thread nD τ).loc main_arg9)) = G17 m c := by
  refine ext4 (n0 := 4) (n1 := 2) (n2 := 1) (n3 := 256) _ _ fun b k g x => ?_
  obtain rfl : g = 0 := Subsingleton.elim _ _
  exact (Cert.ReferenceIdeal.Hand.v16_at (m ((c.tc : Thread nD τ).loc main_arg1)) (m ((c.tc : Thread nD τ).loc main_arg9)) b k x).trans (G17_at m c b k x).symm

theorem res18 (c : Dev nD) : Cert.ReferenceIdeal.Read.val_main_v7 (F := Ideal) (m ((c.tc : Thread nD τ).loc main_arg1)) (m ((c.tc : Thread nD τ).loc main_arg9)) = G18 m c := by
  refine ext4 (n0 := 4) (n1 := 2) (n2 := 1) (n3 := 256) _ _ fun b k g x => ?_
  obtain rfl : g = 0 := Subsingleton.elim _ _
  exact (Cert.ReferenceIdeal.Hand.v7_at (m ((c.tc : Thread nD τ).loc main_arg1)) (m ((c.tc : Thread nD τ).loc main_arg9)) b k x).trans (G18_at m c b k x).symm

theorem res19 (c : Dev nD) : Cert.ReferenceIdeal.Read.val_main_v135 (F := Ideal) (m ((c.tc : Thread nD τ).loc main_arg2)) = G19 m c := by
  refine ext4 (n0 := 4) (n1 := 2) (n2 := 1) (n3 := 128) _ _ fun b k g x => ?_
  obtain rfl : g = 0 := Subsingleton.elim _ _
  exact (Cert.ReferenceIdeal.Hand.v135_at (m ((c.tc : Thread nD τ).loc main_arg2)) b k x).trans (G19_at m c b k x).symm

theorem res20 (c : Dev nD) : Cert.ReferenceIdeal.Read.val_main_v136 (F := Ideal) (m ((c.tc : Thread nD τ).loc main_arg2)) = G20 m c := by
  refine ext4 (n0 := 4) (n1 := 2) (n2 := 1) (n3 := 8) _ _ fun b k g x => ?_
  obtain rfl : g = 0 := Subsingleton.elim _ _
  exact (Cert.ReferenceIdeal.Hand.v136_at (m ((c.tc : Thread nD τ).loc main_arg2)) b k x).trans (G20_at m c b k x).symm

theorem res21 (c : Dev nD) : Cert.ReferenceIdeal.Read.val_main_v137 (F := Ideal) (m ((c.tc : Thread nD τ).loc main_arg2)) = G21 m c := by
  refine ext4 (n0 := 4) (n1 := 2) (n2 := 1) (n3 := 8) _ _ fun b k g x => ?_
  obtain rfl : g = 0 := Subsingleton.elim _ _
  exact (Cert.ReferenceIdeal.Hand.v137_at (m ((c.tc : Thread nD τ).loc main_arg2)) b k x).trans (G21_at m c b k x).symm

/-- From the same arguments the two programs end with the same results. -/
theorem algebraic : Cert.algebraic_KernelIdeal_ReferenceIdeal := by
  intro m g m' g' _ hm
  refine ⟨G15 m, G16 m, G17 m, G18 m, G19 m, G20 m, G21 m, run m g, ?_⟩
  refine (θ_run Cert.ReferenceIdeal.defs _ _).mono (fun r h c => ?_) (Cert.ReferenceIdeal.Value.run (F := Ideal) m' g')
  obtain ⟨h0, h1, h2, h3, h4, h5, h6, h7, h8, h9, h10⟩ := hm c
  obtain ⟨r0, r1, r2, r3, r4, r5, r6, hargs⟩ := h c
  have e0 := r0.trans (Cert.ReferenceIdeal.Read.val_main_v114_eq m' c)
  rw [h0, h1, h2, h3, h4, h5, h6, h7, h8, h9, h10] at e0
  have e1 := r1.trans (Cert.ReferenceIdeal.Read.val_main_v124_eq m' c)
  rw [h1, h9] at e1
  have e2 := r2.trans (Cert.ReferenceIdeal.Read.val_main_v16_eq (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg9)))
  rw [h1, h9] at e2
  have e3 := r3.trans (Cert.ReferenceIdeal.Read.val_main_v7_eq (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg9)))
  rw [h1, h9] at e3
  have e4 := r4.trans (Cert.ReferenceIdeal.Read.val_main_v135_eq m' c)
  rw [h2] at e4
  have e5 := r5.trans (Cert.ReferenceIdeal.Read.val_main_v136_eq (m' ((c.tc : Thread Cert.ReferenceIdeal.nD Cert.ReferenceIdeal.τ).loc Cert.ReferenceIdeal.main_arg2)))
  rw [h2] at e5
  have e6 := r6.trans (Cert.ReferenceIdeal.Read.val_main_v137_eq (m' ((c.tc : Thread Cert.ReferenceIdeal.nD Cert.ReferenceIdeal.τ).loc Cert.ReferenceIdeal.main_arg2)))
  rw [h2] at e6
  exact ⟨e0.trans (res15 m c), e1.trans (res16 m c), e2.trans (res17 m c), e3.trans (res18 m c), e4.trans (res19 m c), e5.trans (res20 m c), e6.trans (res21 m c), hargs⟩

end Cert.KernelIdeal.Hand

end
-- ==== Proof.lean ====
module

public import proofs.«01_k».proof.Defs
public import proofs.«01_k».proof.Proof.KFrame
public import proofs.«01_k».proof.Proof.IFrame
public import proofs.«01_k».proof.Proof.IAlg
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.SL.Sem

/-- The kernel as printed. -/
theorem frame_p : Cert.quiescent_Kernel := fun m ρ _ => Cert.Kernel.Hand.frame m ρ

/-- Its ideal reading. -/
theorem frame_pi : Cert.quiescent_KernelIdeal := fun m ρ _ => Cert.KernelIdeal.Hand.frame m ρ

/-- The reference's ideal reading: a straight line on the host, which has no semaphores. -/
theorem frame_ri : Cert.quiescent_ReferenceIdeal := fun m ρ _ =>
  (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)

/-- The ideal rules, each at its site's shapes. -/
theorem preserves : Cert.preserves_Kernel_KernelIdeal :=
  ⟨IdealRules.bf16_pair.bufferStatement _ _, IdealRules.bf16_pair.packStatement _, IdealRules.bf16_pair.statement _ _,
    IdealRules.bf16_pack.statement _, IdealRules.bf16_pair.statement _ _, IdealRules.bf16_pair.statement _ _,
    IdealRules.bf16_pack.statement _⟩

theorem claim : Cert.Claim :=
  ⟨Cert.Kernel.Gen.facts, Cert.KernelIdeal.Gen.facts, Cert.ReferenceIdeal.Gen.facts, frame_p, frame_pi, frame_ri, preserves,
    Cert.KernelIdeal.Hand.algebraic⟩

end Cert.Proof

end
